-- ==== Defs.lean ====
def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_in_range [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_ProjP (m : (ℓ : Loc Cert.ProjP.nD Cert.ProjP.τ Cert.ProjP.sig) → Buf (Elt Bits) ℓ) : Prop :=
  True

def Pre_ProjPIdeal (m : (ℓ : Loc Cert.ProjPIdeal.nD Cert.ProjPIdeal.τ Cert.ProjPIdeal.sig) → Buf (Elt Ideal) ℓ) : Prop :=
  True

def Pre_ProjPRefIdeal (m : (ℓ : Loc Cert.ProjPRefIdeal.nD Cert.ProjPRefIdeal.τ Cert.ProjPRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_FinishP (m : (ℓ : Loc Cert.FinishP.nD Cert.FinishP.τ Cert.FinishP.sig) → Buf (Elt Bits) ℓ) : Prop :=
  True

def Pre_FinishPIdeal (m : (ℓ : Loc Cert.FinishPIdeal.nD Cert.FinishPIdeal.τ Cert.FinishPIdeal.sig) → Buf (Elt Ideal) ℓ) : Prop :=
  True

def Pre_FinishPRefIdeal (m : (ℓ : Loc Cert.FinishPRefIdeal.nD Cert.FinishPRefIdeal.τ Cert.FinishPRefIdeal.sig) → Buf (Elt Ideal) ℓ) : Prop :=
  True

def Pre_FinishS (m : (ℓ : Loc Cert.FinishS.nD Cert.FinishS.τ Cert.FinishS.sig) → Buf (Elt Bits) ℓ) : Prop :=
  True

def Pre_FinishSIdeal (m : (ℓ : Loc Cert.FinishSIdeal.nD Cert.FinishSIdeal.τ Cert.FinishSIdeal.sig) → Buf (Elt Ideal) ℓ) : Prop :=
  True

def Pre_FinishSRefIdeal (m : (ℓ : Loc Cert.FinishSRefIdeal.nD Cert.FinishSRefIdeal.τ Cert.FinishSRefIdeal.sig) → Buf (Elt Ideal) ℓ) : Prop :=
  True

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSIdeal_finite_sample [hPre_finite_sample : Cert.Pre_finite_sample.Facts] (m : (ℓ : Loc Cert.AttnSIdeal.nD Cert.AttnSIdeal.τ Cert.AttnSIdeal.sig) → Buf (Elt Ideal) ℓ) : Prop :=
  ∀ c : Dev Cert.AttnSIdeal.nD,
    (Cert.Pre_finite_sample.fn (F := Ideal) (m ((c.tc : Thread Cert.AttnSIdeal.nD Cert.AttnSIdeal.τ).loc Cert.AttnSIdeal.main_arg0)) (m ((c.tc : Thread Cert.AttnSIdeal.nD Cert.AttnSIdeal.τ).loc Cert.AttnSIdeal.main_arg1)) (m ((c.tc : Thread Cert.AttnSIdeal.nD Cert.AttnSIdeal.τ).loc Cert.AttnSIdeal.main_arg2)) (m ((c.tc : Thread Cert.AttnSIdeal.nD Cert.AttnSIdeal.τ).loc Cert.AttnSIdeal.main_arg3)) (m ((c.tc : Thread Cert.AttnSIdeal.nD Cert.AttnSIdeal.τ).loc Cert.AttnSIdeal.main_arg4))) = (fun _ => 1#1)

def Pre_AttnSRefIdeal (m : (ℓ : Loc Cert.AttnSRefIdeal.nD Cert.AttnSRefIdeal.τ Cert.AttnSRefIdeal.sig) → Buf (Elt Ideal) ℓ) : Prop :=
  True

def Pre_AttnSRefIdeal_finite_sample [hPre_finite_sample : Cert.Pre_finite_sample.Facts] (m : (ℓ : Loc Cert.AttnSRefIdeal.nD Cert.AttnSRefIdeal.τ Cert.AttnSRefIdeal.sig) → Buf (Elt Ideal) ℓ) : Prop :=
  ∀ c : Dev Cert.AttnSRefIdeal.nD,
    (Cert.Pre_finite_sample.fn (F := Ideal) (m ((c.tc : Thread Cert.AttnSRefIdeal.nD Cert.AttnSRefIdeal.τ).loc Cert.AttnSRefIdeal.main_arg0)) (m ((c.tc : Thread Cert.AttnSRefIdeal.nD Cert.AttnSRefIdeal.τ).loc Cert.AttnSRefIdeal.main_arg1)) (m ((c.tc : Thread Cert.AttnSRefIdeal.nD Cert.AttnSRefIdeal.τ).loc Cert.AttnSRefIdeal.main_arg2)) (m ((c.tc : Thread Cert.AttnSRefIdeal.nD Cert.AttnSRefIdeal.τ).loc Cert.AttnSRefIdeal.main_arg3)) (m ((c.tc : Thread Cert.AttnSRefIdeal.nD Cert.AttnSRefIdeal.τ).loc Cert.AttnSRefIdeal.main_arg4))) = (fun _ => 1#1)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_experts_in_range [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_ProjP [hProjP : Cert.ProjP.Facts] : Prop :=
  ∀ (m : (ℓ : Loc Cert.ProjP.nD Cert.ProjP.τ Cert.ProjP.sig) → Buf (Elt Bits) ℓ) (g : Dev Cert.ProjP.nD → PrngReg), Pre_ProjP m →
    θ_run (Cert.ProjP.defs (F := Bits)) (onTc (τ := Cert.ProjP.τ) (Cert.ProjP.main (F := Bits))) ⟨m, fun _ => 0, g⟩ (fun r => (∀ c : Dev Cert.ProjP.nD,
      r.2.mem ((c.tc : Thread Cert.ProjP.nD Cert.ProjP.τ).loc Cert.ProjP.main_arg0) = m ((c.tc : Thread Cert.ProjP.nD Cert.ProjP.τ).loc Cert.ProjP.main_arg0)
      ∧ r.2.mem ((c.tc : Thread Cert.ProjP.nD Cert.ProjP.τ).loc Cert.ProjP.main_arg1) = m ((c.tc : Thread Cert.ProjP.nD Cert.ProjP.τ).loc Cert.ProjP.main_arg1)
      ∧ r.2.mem ((c.tc : Thread Cert.ProjP.nD Cert.ProjP.τ).loc Cert.ProjP.main_arg2) = m ((c.tc : Thread Cert.ProjP.nD Cert.ProjP.τ).loc Cert.ProjP.main_arg2))
      ∧ r.2.sem = fun _ => 0)

def quiescent_ProjPIdeal [hProjPIdeal : Cert.ProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg), Pre_ProjPIdeal m →
    θ_run (Cert.ProjPIdeal.defs (F := Ideal)) (onTc (τ := Cert.ProjPIdeal.τ) (Cert.ProjPIdeal.main (F := Ideal))) ⟨m, fun _ => 0, g⟩ (fun r => (∀ c : Dev Cert.ProjPIdeal.nD,
      r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
      ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
      ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2))
      ∧ r.2.sem = fun _ => 0)

def quiescent_ProjPRefIdeal [hProjPRefIdeal : Cert.ProjPRefIdeal.Facts] : Prop :=
  ∀ (m : (ℓ : Loc Cert.ProjPRefIdeal.nD Cert.ProjPRefIdeal.τ Cert.ProjPRefIdeal.sig) → Buf (Elt Ideal) ℓ) (g : Dev Cert.ProjPRefIdeal.nD → PrngReg), Pre_ProjPRefIdeal m →
    θ_run (Cert.ProjPRefIdeal.defs (F := Ideal)) (onTc (τ := Cert.ProjPRefIdeal.τ) (Cert.ProjPRefIdeal.main (F := Ideal))) ⟨m, fun _ => 0, g⟩ (fun r => (∀ c : Dev Cert.ProjPRefIdeal.nD,
      r.2.mem ((c.tc : Thread Cert.ProjPRefIdeal.nD Cert.ProjPRefIdeal.τ).loc Cert.ProjPRefIdeal.main_arg0) = m ((c.tc : Thread Cert.ProjPRefIdeal.nD Cert.ProjPRefIdeal.τ).loc Cert.ProjPRefIdeal.main_arg0)
      ∧ r.2.mem ((c.tc : Thread Cert.ProjPRefIdeal.nD Cert.ProjPRefIdeal.τ).loc Cert.ProjPRefIdeal.main_arg1) = m ((c.tc : Thread Cert.ProjPRefIdeal.nD Cert.ProjPRefIdeal.τ).loc Cert.ProjPRefIdeal.main_arg1)
      ∧ r.2.mem ((c.tc : Thread Cert.ProjPRefIdeal.nD Cert.ProjPRefIdeal.τ).loc Cert.ProjPRefIdeal.main_arg2) = m ((c.tc : Thread Cert.ProjPRefIdeal.nD Cert.ProjPRefIdeal.τ).loc Cert.ProjPRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1)
      ∧ r.2.mem ((c.tc : Thread Cert.FinalP.nD Cert.FinalP.τ).loc Cert.FinalP.main_arg2) = m ((c.tc : Thread Cert.FinalP.nD Cert.FinalP.τ).loc Cert.FinalP.main_arg2))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
      ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1)
      ∧ r.2.mem ((c.tc : Thread Cert.FinalPRefIdeal.nD Cert.FinalPRefIdeal.τ).loc Cert.FinalPRefIdeal.main_arg2) = m ((c.tc : Thread Cert.FinalPRefIdeal.nD Cert.FinalPRefIdeal.τ).loc Cert.FinalPRefIdeal.main_arg2))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1)
      ∧ r.2.mem ((c.tc : Thread Cert.FinalSRefIdeal.nD Cert.FinalSRefIdeal.τ).loc Cert.FinalSRefIdeal.main_arg2) = m ((c.tc : Thread Cert.FinalSRefIdeal.nD Cert.FinalSRefIdeal.τ).loc Cert.FinalSRefIdeal.main_arg2))
      ∧ r.2.sem = fun _ => 0)

def quiescent_FinishP [hFinishP : Cert.FinishP.Facts] : Prop :=
  ∀ (m : (ℓ : Loc Cert.FinishP.nD Cert.FinishP.τ Cert.FinishP.sig) → Buf (Elt Bits) ℓ) (g : Dev Cert.FinishP.nD → PrngReg), Pre_FinishP m →
    θ_run (Cert.FinishP.defs (F := Bits)) (onTc (τ := Cert.FinishP.τ) (Cert.FinishP.main (F := Bits))) ⟨m, fun _ => 0, g⟩ (fun r => (∀ c : Dev Cert.FinishP.nD,
      r.2.mem ((c.tc : Thread Cert.FinishP.nD Cert.FinishP.τ).loc Cert.FinishP.main_arg0) = m ((c.tc : Thread Cert.FinishP.nD Cert.FinishP.τ).loc Cert.FinishP.main_arg0)
      ∧ r.2.mem ((c.tc : Thread Cert.FinishP.nD Cert.FinishP.τ).loc Cert.FinishP.main_arg1) = m ((c.tc : Thread Cert.FinishP.nD Cert.FinishP.τ).loc Cert.FinishP.main_arg1)
      ∧ r.2.mem ((c.tc : Thread Cert.FinishP.nD Cert.FinishP.τ).loc Cert.FinishP.main_arg2) = m ((c.tc : Thread Cert.FinishP.nD Cert.FinishP.τ).loc Cert.FinishP.main_arg2)
      ∧ r.2.mem ((c.tc : Thread Cert.FinishP.nD Cert.FinishP.τ).loc Cert.FinishP.main_arg3) = m ((c.tc : Thread Cert.FinishP.nD Cert.FinishP.τ).loc Cert.FinishP.main_arg3)
      ∧ r.2.mem ((c.tc : Thread Cert.FinishP.nD Cert.FinishP.τ).loc Cert.FinishP.main_arg4) = m ((c.tc : Thread Cert.FinishP.nD Cert.FinishP.τ).loc Cert.FinishP.main_arg4)
      ∧ r.2.mem ((c.tc : Thread Cert.FinishP.nD Cert.FinishP.τ).loc Cert.FinishP.main_arg5) = m ((c.tc : Thread Cert.FinishP.nD Cert.FinishP.τ).loc Cert.FinishP.main_arg5)
      ∧ r.2.mem ((c.tc : Thread Cert.FinishP.nD Cert.FinishP.τ).loc Cert.FinishP.main_arg6) = m ((c.tc : Thread Cert.FinishP.nD Cert.FinishP.τ).loc Cert.FinishP.main_arg6)
      ∧ r.2.mem ((c.tc : Thread Cert.FinishP.nD Cert.FinishP.τ).loc Cert.FinishP.main_arg7) = m ((c.tc : Thread Cert.FinishP.nD Cert.FinishP.τ).loc Cert.FinishP.main_arg7)
      ∧ r.2.mem ((c.tc : Thread Cert.FinishP.nD Cert.FinishP.τ).loc Cert.FinishP.main_arg8) = m ((c.tc : Thread Cert.FinishP.nD Cert.FinishP.τ).loc Cert.FinishP.main_arg8)
      ∧ r.2.mem ((c.tc : Thread Cert.FinishP.nD Cert.FinishP.τ).loc Cert.FinishP.main_arg9) = m ((c.tc : Thread Cert.FinishP.nD Cert.FinishP.τ).loc Cert.FinishP.main_arg9)
      ∧ r.2.mem ((c.tc : Thread Cert.FinishP.nD Cert.FinishP.τ).loc Cert.FinishP.main_arg10) = m ((c.tc : Thread Cert.FinishP.nD Cert.FinishP.τ).loc Cert.FinishP.main_arg10))
      ∧ r.2.sem = fun _ => 0)

def quiescent_FinishPIdeal [hFinishPIdeal : Cert.FinishPIdeal.Facts] : Prop :=
  ∀ (m : (ℓ : Loc Cert.FinishPIdeal.nD Cert.FinishPIdeal.τ Cert.FinishPIdeal.sig) → Buf (Elt Ideal) ℓ) (g : Dev Cert.FinishPIdeal.nD → PrngReg), Pre_FinishPIdeal m →
    θ_run (Cert.FinishPIdeal.defs (F := Ideal)) (onTc (τ := Cert.FinishPIdeal.τ) (Cert.FinishPIdeal.main (F := Ideal))) ⟨m, fun _ => 0, g⟩ (fun r => (∀ c : Dev Cert.FinishPIdeal.nD,
      r.2.mem ((c.tc : Thread Cert.FinishPIdeal.nD Cert.FinishPIdeal.τ).loc Cert.FinishPIdeal.main_arg0) = m ((c.tc : Thread Cert.FinishPIdeal.nD Cert.FinishPIdeal.τ).loc Cert.FinishPIdeal.main_arg0)
      ∧ r.2.mem ((c.tc : Thread Cert.FinishPIdeal.nD Cert.FinishPIdeal.τ).loc Cert.FinishPIdeal.main_arg1) = m ((c.tc : Thread Cert.FinishPIdeal.nD Cert.FinishPIdeal.τ).loc Cert.FinishPIdeal.main_arg1)
      ∧ r.2.mem ((c.tc : Thread Cert.FinishPIdeal.nD Cert.FinishPIdeal.τ).loc Cert.FinishPIdeal.main_arg2) = m ((c.tc : Thread Cert.FinishPIdeal.nD Cert.FinishPIdeal.τ).loc Cert.FinishPIdeal.main_arg2)
      ∧ r.2.mem ((c.tc : Thread Cert.FinishPIdeal.nD Cert.FinishPIdeal.τ).loc Cert.FinishPIdeal.main_arg3) = m ((c.tc : Thread Cert.FinishPIdeal.nD Cert.FinishPIdeal.τ).loc Cert.FinishPIdeal.main_arg3)
      ∧ r.2.mem ((c.tc : Thread Cert.FinishPIdeal.nD Cert.FinishPIdeal.τ).loc Cert.FinishPIdeal.main_arg4) = m ((c.tc : Thread Cert.FinishPIdeal.nD Cert.FinishPIdeal.τ).loc Cert.FinishPIdeal.main_arg4)
      ∧ r.2.mem ((c.tc : Thread Cert.FinishPIdeal.nD Cert.FinishPIdeal.τ).loc Cert.FinishPIdeal.main_arg5) = m ((c.tc : Thread Cert.FinishPIdeal.nD Cert.FinishPIdeal.τ).loc Cert.FinishPIdeal.main_arg5)
      ∧ r.2.mem ((c.tc : Thread Cert.FinishPIdeal.nD Cert.FinishPIdeal.τ).loc Cert.FinishPIdeal.main_arg6) = m ((c.tc : Thread Cert.FinishPIdeal.nD Cert.FinishPIdeal.τ).loc Cert.FinishPIdeal.main_arg6)
      ∧ r.2.mem ((c.tc : Thread Cert.FinishPIdeal.nD Cert.FinishPIdeal.τ).loc Cert.FinishPIdeal.main_arg7) = m ((c.tc : Thread Cert.FinishPIdeal.nD Cert.FinishPIdeal.τ).loc Cert.FinishPIdeal.main_arg7)
      ∧ r.2.mem ((c.tc : Thread Cert.FinishPIdeal.nD Cert.FinishPIdeal.τ).loc Cert.FinishPIdeal.main_arg8) = m ((c.tc : Thread Cert.FinishPIdeal.nD Cert.FinishPIdeal.τ).loc Cert.FinishPIdeal.main_arg8)
      ∧ r.2.mem ((c.tc : Thread Cert.FinishPIdeal.nD Cert.FinishPIdeal.τ).loc Cert.FinishPIdeal.main_arg9) = m ((c.tc : Thread Cert.FinishPIdeal.nD Cert.FinishPIdeal.τ).loc Cert.FinishPIdeal.main_arg9)
      ∧ r.2.mem ((c.tc : Thread Cert.FinishPIdeal.nD Cert.FinishPIdeal.τ).loc Cert.FinishPIdeal.main_arg10) = m ((c.tc : Thread Cert.FinishPIdeal.nD Cert.FinishPIdeal.τ).loc Cert.FinishPIdeal.main_arg10))
      ∧ r.2.sem = fun _ => 0)

def quiescent_FinishPRefIdeal [hFinishPRefIdeal : Cert.FinishPRefIdeal.Facts] : Prop :=
  ∀ (m : (ℓ : Loc Cert.FinishPRefIdeal.nD Cert.FinishPRefIdeal.τ Cert.FinishPRefIdeal.sig) → Buf (Elt Ideal) ℓ) (g : Dev Cert.FinishPRefIdeal.nD → PrngReg), Pre_FinishPRefIdeal m →
    θ_run (Cert.FinishPRefIdeal.defs (F := Ideal)) (onTc (τ := Cert.FinishPRefIdeal.τ) (Cert.FinishPRefIdeal.main (F := Ideal))) ⟨m, fun _ => 0, g⟩ (fun r => (∀ c : Dev Cert.FinishPRefIdeal.nD,
      r.2.mem ((c.tc : Thread Cert.FinishPRefIdeal.nD Cert.FinishPRefIdeal.τ).loc Cert.FinishPRefIdeal.main_arg0) = m ((c.tc : Thread Cert.FinishPRefIdeal.nD Cert.FinishPRefIdeal.τ).loc Cert.FinishPRefIdeal.main_arg0)
      ∧ r.2.mem ((c.tc : Thread Cert.FinishPRefIdeal.nD Cert.FinishPRefIdeal.τ).loc Cert.FinishPRefIdeal.main_arg1) = m ((c.tc : Thread Cert.FinishPRefIdeal.nD Cert.FinishPRefIdeal.τ).loc Cert.FinishPRefIdeal.main_arg1)
      ∧ r.2.mem ((c.tc : Thread Cert.FinishPRefIdeal.nD Cert.FinishPRefIdeal.τ).loc Cert.FinishPRefIdeal.main_arg2) = m ((c.tc : Thread Cert.FinishPRefIdeal.nD Cert.FinishPRefIdeal.τ).loc Cert.FinishPRefIdeal.main_arg2)
      ∧ r.2.mem ((c.tc : Thread Cert.FinishPRefIdeal.nD Cert.FinishPRefIdeal.τ).loc Cert.FinishPRefIdeal.main_arg3) = m ((c.tc : Thread Cert.FinishPRefIdeal.nD Cert.FinishPRefIdeal.τ).loc Cert.FinishPRefIdeal.main_arg3)
      ∧ r.2.mem ((c.tc : Thread Cert.FinishPRefIdeal.nD Cert.FinishPRefIdeal.τ).loc Cert.FinishPRefIdeal.main_arg4) = m ((c.tc : Thread Cert.FinishPRefIdeal.nD Cert.FinishPRefIdeal.τ).loc Cert.FinishPRefIdeal.main_arg4)
      ∧ r.2.mem ((c.tc : Thread Cert.FinishPRefIdeal.nD Cert.FinishPRefIdeal.τ).loc Cert.FinishPRefIdeal.main_arg5) = m ((c.tc : Thread Cert.FinishPRefIdeal.nD Cert.FinishPRefIdeal.τ).loc Cert.FinishPRefIdeal.main_arg5)
      ∧ r.2.mem ((c.tc : Thread Cert.FinishPRefIdeal.nD Cert.FinishPRefIdeal.τ).loc Cert.FinishPRefIdeal.main_arg6) = m ((c.tc : Thread Cert.FinishPRefIdeal.nD Cert.FinishPRefIdeal.τ).loc Cert.FinishPRefIdeal.main_arg6)
      ∧ r.2.mem ((c.tc : Thread Cert.FinishPRefIdeal.nD Cert.FinishPRefIdeal.τ).loc Cert.FinishPRefIdeal.main_arg7) = m ((c.tc : Thread Cert.FinishPRefIdeal.nD Cert.FinishPRefIdeal.τ).loc Cert.FinishPRefIdeal.main_arg7)
      ∧ r.2.mem ((c.tc : Thread Cert.FinishPRefIdeal.nD Cert.FinishPRefIdeal.τ).loc Cert.FinishPRefIdeal.main_arg8) = m ((c.tc : Thread Cert.FinishPRefIdeal.nD Cert.FinishPRefIdeal.τ).loc Cert.FinishPRefIdeal.main_arg8)
      ∧ r.2.mem ((c.tc : Thread Cert.FinishPRefIdeal.nD Cert.FinishPRefIdeal.τ).loc Cert.FinishPRefIdeal.main_arg9) = m ((c.tc : Thread Cert.FinishPRefIdeal.nD Cert.FinishPRefIdeal.τ).loc Cert.FinishPRefIdeal.main_arg9)
      ∧ r.2.mem ((c.tc : Thread Cert.FinishPRefIdeal.nD Cert.FinishPRefIdeal.τ).loc Cert.FinishPRefIdeal.main_arg10) = m ((c.tc : Thread Cert.FinishPRefIdeal.nD Cert.FinishPRefIdeal.τ).loc Cert.FinishPRefIdeal.main_arg10))
      ∧ r.2.sem = fun _ => 0)

def quiescent_FinishS [hFinishS : Cert.FinishS.Facts] : Prop :=
  ∀ (m : (ℓ : Loc Cert.FinishS.nD Cert.FinishS.τ Cert.FinishS.sig) → Buf (Elt Bits) ℓ) (g : Dev Cert.FinishS.nD → PrngReg), Pre_FinishS m →
    θ_run (Cert.FinishS.defs (F := Bits)) (onTc (τ := Cert.FinishS.τ) (Cert.FinishS.main (F := Bits))) ⟨m, fun _ => 0, g⟩ (fun r => (∀ c : Dev Cert.FinishS.nD,
      r.2.mem ((c.tc : Thread Cert.FinishS.nD Cert.FinishS.τ).loc Cert.FinishS.main_arg0) = m ((c.tc : Thread Cert.FinishS.nD Cert.FinishS.τ).loc Cert.FinishS.main_arg0)
      ∧ r.2.mem ((c.tc : Thread Cert.FinishS.nD Cert.FinishS.τ).loc Cert.FinishS.main_arg1) = m ((c.tc : Thread Cert.FinishS.nD Cert.FinishS.τ).loc Cert.FinishS.main_arg1)
      ∧ r.2.mem ((c.tc : Thread Cert.FinishS.nD Cert.FinishS.τ).loc Cert.FinishS.main_arg2) = m ((c.tc : Thread Cert.FinishS.nD Cert.FinishS.τ).loc Cert.FinishS.main_arg2)
      ∧ r.2.mem ((c.tc : Thread Cert.FinishS.nD Cert.FinishS.τ).loc Cert.FinishS.main_arg3) = m ((c.tc : Thread Cert.FinishS.nD Cert.FinishS.τ).loc Cert.FinishS.main_arg3)
      ∧ r.2.mem ((c.tc : Thread Cert.FinishS.nD Cert.FinishS.τ).loc Cert.FinishS.main_arg4) = m ((c.tc : Thread Cert.FinishS.nD Cert.FinishS.τ).loc Cert.FinishS.main_arg4)
      ∧ r.2.mem ((c.tc : Thread Cert.FinishS.nD Cert.FinishS.τ).loc Cert.FinishS.main_arg5) = m ((c.tc : Thread Cert.FinishS.nD Cert.FinishS.τ).loc Cert.FinishS.main_arg5)
      ∧ r.2.mem ((c.tc : Thread Cert.FinishS.nD Cert.FinishS.τ).loc Cert.FinishS.main_arg6) = m ((c.tc : Thread Cert.FinishS.nD Cert.FinishS.τ).loc Cert.FinishS.main_arg6)
      ∧ r.2.mem ((c.tc : Thread Cert.FinishS.nD Cert.FinishS.τ).loc Cert.FinishS.main_arg7) = m ((c.tc : Thread Cert.FinishS.nD Cert.FinishS.τ).loc Cert.FinishS.main_arg7)
      ∧ r.2.mem ((c.tc : Thread Cert.FinishS.nD Cert.FinishS.τ).loc Cert.FinishS.main_arg8) = m ((c.tc : Thread Cert.FinishS.nD Cert.FinishS.τ).loc Cert.FinishS.main_arg8)
      ∧ r.2.mem ((c.tc : Thread Cert.FinishS.nD Cert.FinishS.τ).loc Cert.FinishS.main_arg9) = m ((c.tc : Thread Cert.FinishS.nD Cert.FinishS.τ).loc Cert.FinishS.main_arg9)
      ∧ r.2.mem ((c.tc : Thread Cert.FinishS.nD Cert.FinishS.τ).loc Cert.FinishS.main_arg10) = m ((c.tc : Thread Cert.FinishS.nD Cert.FinishS.τ).loc Cert.FinishS.main_arg10))
      ∧ r.2.sem = fun _ => 0)

def quiescent_FinishSIdeal [hFinishSIdeal : Cert.FinishSIdeal.Facts] : Prop :=
  ∀ (m : (ℓ : Loc Cert.FinishSIdeal.nD Cert.FinishSIdeal.τ Cert.FinishSIdeal.sig) → Buf (Elt Ideal) ℓ) (g : Dev Cert.FinishSIdeal.nD → PrngReg), Pre_FinishSIdeal m →
    θ_run (Cert.FinishSIdeal.defs (F := Ideal)) (onTc (τ := Cert.FinishSIdeal.τ) (Cert.FinishSIdeal.main (F := Ideal))) ⟨m, fun _ => 0, g⟩ (fun r => (∀ c : Dev Cert.FinishSIdeal.nD,
      r.2.mem ((c.tc : Thread Cert.FinishSIdeal.nD Cert.FinishSIdeal.τ).loc Cert.FinishSIdeal.main_arg0) = m ((c.tc : Thread Cert.FinishSIdeal.nD Cert.FinishSIdeal.τ).loc Cert.FinishSIdeal.main_arg0)
      ∧ r.2.mem ((c.tc : Thread Cert.FinishSIdeal.nD Cert.FinishSIdeal.τ).loc Cert.FinishSIdeal.main_arg1) = m ((c.tc : Thread Cert.FinishSIdeal.nD Cert.FinishSIdeal.τ).loc Cert.FinishSIdeal.main_arg1)
      ∧ r.2.mem ((c.tc : Thread Cert.FinishSIdeal.nD Cert.FinishSIdeal.τ).loc Cert.FinishSIdeal.main_arg2) = m ((c.tc : Thread Cert.FinishSIdeal.nD Cert.FinishSIdeal.τ).loc Cert.FinishSIdeal.main_arg2)
      ∧ r.2.mem ((c.tc : Thread Cert.FinishSIdeal.nD Cert.FinishSIdeal.τ).loc Cert.FinishSIdeal.main_arg3) = m ((c.tc : Thread Cert.FinishSIdeal.nD Cert.FinishSIdeal.τ).loc Cert.FinishSIdeal.main_arg3)
      ∧ r.2.mem ((c.tc : Thread Cert.FinishSIdeal.nD Cert.FinishSIdeal.τ).loc Cert.FinishSIdeal.main_arg4) = m ((c.tc : Thread Cert.FinishSIdeal.nD Cert.FinishSIdeal.τ).loc Cert.FinishSIdeal.main_arg4)
      ∧ r.2.mem ((c.tc : Thread Cert.FinishSIdeal.nD Cert.FinishSIdeal.τ).loc Cert.FinishSIdeal.main_arg5) = m ((c.tc : Thread Cert.FinishSIdeal.nD Cert.FinishSIdeal.τ).loc Cert.FinishSIdeal.main_arg5)
      ∧ r.2.mem ((c.tc : Thread Cert.FinishSIdeal.nD Cert.FinishSIdeal.τ).loc Cert.FinishSIdeal.main_arg6) = m ((c.tc : Thread Cert.FinishSIdeal.nD Cert.FinishSIdeal.τ).loc Cert.FinishSIdeal.main_arg6)
      ∧ r.2.mem ((c.tc : Thread Cert.FinishSIdeal.nD Cert.FinishSIdeal.τ).loc Cert.FinishSIdeal.main_arg7) = m ((c.tc : Thread Cert.FinishSIdeal.nD Cert.FinishSIdeal.τ).loc Cert.FinishSIdeal.main_arg7)
      ∧ r.2.mem ((c.tc : Thread Cert.FinishSIdeal.nD Cert.FinishSIdeal.τ).loc Cert.FinishSIdeal.main_arg8) = m ((c.tc : Thread Cert.FinishSIdeal.nD Cert.FinishSIdeal.τ).loc Cert.FinishSIdeal.main_arg8)
      ∧ r.2.mem ((c.tc : Thread Cert.FinishSIdeal.nD Cert.FinishSIdeal.τ).loc Cert.FinishSIdeal.main_arg9) = m ((c.tc : Thread Cert.FinishSIdeal.nD Cert.FinishSIdeal.τ).loc Cert.FinishSIdeal.main_arg9)
      ∧ r.2.mem ((c.tc : Thread Cert.FinishSIdeal.nD Cert.FinishSIdeal.τ).loc Cert.FinishSIdeal.main_arg10) = m ((c.tc : Thread Cert.FinishSIdeal.nD Cert.FinishSIdeal.τ).loc Cert.FinishSIdeal.main_arg10))
      ∧ r.2.sem = fun _ => 0)

def quiescent_FinishSRefIdeal [hFinishSRefIdeal : Cert.FinishSRefIdeal.Facts] : Prop :=
  ∀ (m : (ℓ : Loc Cert.FinishSRefIdeal.nD Cert.FinishSRefIdeal.τ Cert.FinishSRefIdeal.sig) → Buf (Elt Ideal) ℓ) (g : Dev Cert.FinishSRefIdeal.nD → PrngReg), Pre_FinishSRefIdeal m →
    θ_run (Cert.FinishSRefIdeal.defs (F := Ideal)) (onTc (τ := Cert.FinishSRefIdeal.τ) (Cert.FinishSRefIdeal.main (F := Ideal))) ⟨m, fun _ => 0, g⟩ (fun r => (∀ c : Dev Cert.FinishSRefIdeal.nD,
      r.2.mem ((c.tc : Thread Cert.FinishSRefIdeal.nD Cert.FinishSRefIdeal.τ).loc Cert.FinishSRefIdeal.main_arg0) = m ((c.tc : Thread Cert.FinishSRefIdeal.nD Cert.FinishSRefIdeal.τ).loc Cert.FinishSRefIdeal.main_arg0)
      ∧ r.2.mem ((c.tc : Thread Cert.FinishSRefIdeal.nD Cert.FinishSRefIdeal.τ).loc Cert.FinishSRefIdeal.main_arg1) = m ((c.tc : Thread Cert.FinishSRefIdeal.nD Cert.FinishSRefIdeal.τ).loc Cert.FinishSRefIdeal.main_arg1)
      ∧ r.2.mem ((c.tc : Thread Cert.FinishSRefIdeal.nD Cert.FinishSRefIdeal.τ).loc Cert.FinishSRefIdeal.main_arg2) = m ((c.tc : Thread Cert.FinishSRefIdeal.nD Cert.FinishSRefIdeal.τ).loc Cert.FinishSRefIdeal.main_arg2)
      ∧ r.2.mem ((c.tc : Thread Cert.FinishSRefIdeal.nD Cert.FinishSRefIdeal.τ).loc Cert.FinishSRefIdeal.main_arg3) = m ((c.tc : Thread Cert.FinishSRefIdeal.nD Cert.FinishSRefIdeal.τ).loc Cert.FinishSRefIdeal.main_arg3)
      ∧ r.2.mem ((c.tc : Thread Cert.FinishSRefIdeal.nD Cert.FinishSRefIdeal.τ).loc Cert.FinishSRefIdeal.main_arg4) = m ((c.tc : Thread Cert.FinishSRefIdeal.nD Cert.FinishSRefIdeal.τ).loc Cert.FinishSRefIdeal.main_arg4)
      ∧ r.2.mem ((c.tc : Thread Cert.FinishSRefIdeal.nD Cert.FinishSRefIdeal.τ).loc Cert.FinishSRefIdeal.main_arg5) = m ((c.tc : Thread Cert.FinishSRefIdeal.nD Cert.FinishSRefIdeal.τ).loc Cert.FinishSRefIdeal.main_arg5)
      ∧ r.2.mem ((c.tc : Thread Cert.FinishSRefIdeal.nD Cert.FinishSRefIdeal.τ).loc Cert.FinishSRefIdeal.main_arg6) = m ((c.tc : Thread Cert.FinishSRefIdeal.nD Cert.FinishSRefIdeal.τ).loc Cert.FinishSRefIdeal.main_arg6)
      ∧ r.2.mem ((c.tc : Thread Cert.FinishSRefIdeal.nD Cert.FinishSRefIdeal.τ).loc Cert.FinishSRefIdeal.main_arg7) = m ((c.tc : Thread Cert.FinishSRefIdeal.nD Cert.FinishSRefIdeal.τ).loc Cert.FinishSRefIdeal.main_arg7)
      ∧ r.2.mem ((c.tc : Thread Cert.FinishSRefIdeal.nD Cert.FinishSRefIdeal.τ).loc Cert.FinishSRefIdeal.main_arg8) = m ((c.tc : Thread Cert.FinishSRefIdeal.nD Cert.FinishSRefIdeal.τ).loc Cert.FinishSRefIdeal.main_arg8)
      ∧ r.2.mem ((c.tc : Thread Cert.FinishSRefIdeal.nD Cert.FinishSRefIdeal.τ).loc Cert.FinishSRefIdeal.main_arg9) = m ((c.tc : Thread Cert.FinishSRefIdeal.nD Cert.FinishSRefIdeal.τ).loc Cert.FinishSRefIdeal.main_arg9)
      ∧ r.2.mem ((c.tc : Thread Cert.FinishSRefIdeal.nD Cert.FinishSRefIdeal.τ).loc Cert.FinishSRefIdeal.main_arg10) = m ((c.tc : Thread Cert.FinishSRefIdeal.nD Cert.FinishSRefIdeal.τ).loc Cert.FinishSRefIdeal.main_arg10))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4))
      ∧ r.2.sem = fun _ => 0)

def quiescent_AttnSIdeal_pre_finite_sample [hAttnSIdeal : Cert.AttnSIdeal.Facts] [hPre_finite_sample : Cert.Pre_finite_sample.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal_finite_sample m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4))
      ∧ r.2.sem = fun _ => 0)

def quiescent_AttnSRefIdeal_pre_finite_sample [hAttnSRefIdeal : Cert.AttnSRefIdeal.Facts] [hPre_finite_sample : Cert.Pre_finite_sample.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal_finite_sample m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v104) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_ProjP_ProjPIdeal : Prop :=
  True

def algebraic_ProjPIdeal_ProjPRefIdeal [hProjPIdeal : Cert.ProjPIdeal.Facts] [hProjPRefIdeal : Cert.ProjPRefIdeal.Facts] : Prop :=
  ∀ (m : (ℓ : Loc Cert.ProjPIdeal.nD Cert.ProjPIdeal.τ Cert.ProjPIdeal.sig) → Buf (Elt Ideal) ℓ) (g : Dev Cert.ProjPIdeal.nD → PrngReg)
    (m' : (ℓ : Loc Cert.ProjPRefIdeal.nD Cert.ProjPRefIdeal.τ Cert.ProjPRefIdeal.sig) → Buf (Elt Ideal) ℓ) (g' : Dev Cert.ProjPRefIdeal.nD → PrngReg), Pre_ProjPIdeal m →
    (∀ c : Dev Cert.ProjPIdeal.nD,
      m' ((c.tc : Thread Cert.ProjPRefIdeal.nD Cert.ProjPRefIdeal.τ).loc Cert.ProjPRefIdeal.main_arg0) = m ((c.tc : Thread Cert.ProjPIdeal.nD Cert.ProjPIdeal.τ).loc Cert.ProjPIdeal.main_arg0)
      ∧ m' ((c.tc : Thread Cert.ProjPRefIdeal.nD Cert.ProjPRefIdeal.τ).loc Cert.ProjPRefIdeal.main_arg1) = m ((c.tc : Thread Cert.ProjPIdeal.nD Cert.ProjPIdeal.τ).loc Cert.ProjPIdeal.main_arg1)
      ∧ m' ((c.tc : Thread Cert.ProjPRefIdeal.nD Cert.ProjPRefIdeal.τ).loc Cert.ProjPRefIdeal.main_arg2) = m ((c.tc : Thread Cert.ProjPIdeal.nD Cert.ProjPIdeal.τ).loc Cert.ProjPIdeal.main_arg2)) →
    ∃ (v0 : (c : Dev Cert.ProjPIdeal.nD) → Buf (Elt Ideal) ((c.tc : Thread Cert.ProjPIdeal.nD Cert.ProjPIdeal.τ).loc Cert.ProjPIdeal.main_v4_0)) (v1 : (c : Dev Cert.ProjPIdeal.nD) → Buf (Elt Ideal) ((c.tc : Thread Cert.ProjPIdeal.nD Cert.ProjPIdeal.τ).loc Cert.ProjPIdeal.main_v4_1)) (v2 : (c : Dev Cert.ProjPIdeal.nD) → Buf (Elt Ideal) ((c.tc : Thread Cert.ProjPIdeal.nD Cert.ProjPIdeal.τ).loc Cert.ProjPIdeal.main_v4_2)) (v3 : (c : Dev Cert.ProjPIdeal.nD) → Buf (Elt Ideal) ((c.tc : Thread Cert.ProjPIdeal.nD Cert.ProjPIdeal.τ).loc Cert.ProjPIdeal.main_v4_3)),
      θ_run (Cert.ProjPIdeal.defs (F := Ideal)) (onTc (τ := Cert.ProjPIdeal.τ) (Cert.ProjPIdeal.main (F := Ideal))) ⟨m, fun _ => 0, g⟩ (fun r => ∀ c : Dev Cert.ProjPIdeal.nD,
          r.2.mem ((c.tc : Thread Cert.ProjPIdeal.nD Cert.ProjPIdeal.τ).loc Cert.ProjPIdeal.main_v4_0) = v0 c
          ∧ r.2.mem ((c.tc : Thread Cert.ProjPIdeal.nD Cert.ProjPIdeal.τ).loc Cert.ProjPIdeal.main_v4_1) = v1 c
          ∧ r.2.mem ((c.tc : Thread Cert.ProjPIdeal.nD Cert.ProjPIdeal.τ).loc Cert.ProjPIdeal.main_v4_2) = v2 c
          ∧ r.2.mem ((c.tc : Thread Cert.ProjPIdeal.nD Cert.ProjPIdeal.τ).loc Cert.ProjPIdeal.main_v4_3) = v3 c
          ∧ r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
          ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
          ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2))
      ∧ θ_run (Cert.ProjPRefIdeal.defs (F := Ideal)) (onTc (τ := Cert.ProjPRefIdeal.τ) (Cert.ProjPRefIdeal.main (F := Ideal))) ⟨m', fun _ => 0, g'⟩ (fun r => ∀ c : Dev Cert.ProjPRefIdeal.nD,
          r.2.mem ((c.tc : Thread Cert.ProjPRefIdeal.nD Cert.ProjPRefIdeal.τ).loc Cert.ProjPRefIdeal.main_v22) = v0 c
          ∧ r.2.mem ((c.tc : Thread Cert.ProjPRefIdeal.nD Cert.ProjPRefIdeal.τ).loc Cert.ProjPRefIdeal.main_v23) = v1 c
          ∧ r.2.mem ((c.tc : Thread Cert.ProjPRefIdeal.nD Cert.ProjPRefIdeal.τ).loc Cert.ProjPRefIdeal.main_v24) = v2 c
          ∧ r.2.mem ((c.tc : Thread Cert.ProjPRefIdeal.nD Cert.ProjPRefIdeal.τ).loc Cert.ProjPRefIdeal.main_v25) = v3 c
          ∧ r.2.mem ((c.tc : Thread Cert.ProjPRefIdeal.nD Cert.ProjPRefIdeal.τ).loc Cert.ProjPRefIdeal.main_arg0) = m' ((c.tc : Thread Cert.ProjPRefIdeal.nD Cert.ProjPRefIdeal.τ).loc Cert.ProjPRefIdeal.main_arg0)
          ∧ r.2.mem ((c.tc : Thread Cert.ProjPRefIdeal.nD Cert.ProjPRefIdeal.τ).loc Cert.ProjPRefIdeal.main_arg1) = m' ((c.tc : Thread Cert.ProjPRefIdeal.nD Cert.ProjPRefIdeal.τ).loc Cert.ProjPRefIdeal.main_arg1)
          ∧ r.2.mem ((c.tc : Thread Cert.ProjPRefIdeal.nD Cert.ProjPRefIdeal.τ).loc Cert.ProjPRefIdeal.main_arg2) = m' ((c.tc : Thread Cert.ProjPRefIdeal.nD Cert.ProjPRefIdeal.τ).loc Cert.ProjPRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v4_0)) (v1 : (c : Dev Cert.ProjSIdeal.nD) → Buf (Elt Ideal) ((c.tc : Thread Cert.ProjSIdeal.nD Cert.ProjSIdeal.τ).loc Cert.ProjSIdeal.main_v4_1)) (v2 : (c : Dev Cert.ProjSIdeal.nD) → Buf (Elt Ideal) ((c.tc : Thread Cert.ProjSIdeal.nD Cert.ProjSIdeal.τ).loc Cert.ProjSIdeal.main_v4_2)) (v3 : (c : Dev Cert.ProjSIdeal.nD) → Buf (Elt Ideal) ((c.tc : Thread Cert.ProjSIdeal.nD Cert.ProjSIdeal.τ).loc Cert.ProjSIdeal.main_v4_3)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v4_0) = v0 c
          ∧ r.2.mem ((c.tc : Thread Cert.ProjSIdeal.nD Cert.ProjSIdeal.τ).loc Cert.ProjSIdeal.main_v4_1) = v1 c
          ∧ r.2.mem ((c.tc : Thread Cert.ProjSIdeal.nD Cert.ProjSIdeal.τ).loc Cert.ProjSIdeal.main_v4_2) = v2 c
          ∧ r.2.mem ((c.tc : Thread Cert.ProjSIdeal.nD Cert.ProjSIdeal.τ).loc Cert.ProjSIdeal.main_v4_3) = v3 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v22) = v0 c
          ∧ r.2.mem ((c.tc : Thread Cert.ProjSRefIdeal.nD Cert.ProjSRefIdeal.τ).loc Cert.ProjSRefIdeal.main_v23) = v1 c
          ∧ r.2.mem ((c.tc : Thread Cert.ProjSRefIdeal.nD Cert.ProjSRefIdeal.τ).loc Cert.ProjSRefIdeal.main_v24) = v2 c
          ∧ r.2.mem ((c.tc : Thread Cert.ProjSRefIdeal.nD Cert.ProjSRefIdeal.τ).loc Cert.ProjSRefIdeal.main_v25) = v3 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)
      ∧ m' ((c.tc : Thread Cert.FinalPRefIdeal.nD Cert.FinalPRefIdeal.τ).loc Cert.FinalPRefIdeal.main_arg2) = m ((c.tc : Thread Cert.FinalPIdeal.nD Cert.FinalPIdeal.τ).loc Cert.FinalPIdeal.main_arg2)) →
    ∃ (v0 : (c : Dev Cert.FinalPIdeal.nD) → Buf (Elt Ideal) ((c.tc : Thread Cert.FinalPIdeal.nD Cert.FinalPIdeal.τ).loc Cert.FinalPIdeal.main_v1)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v1) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
          ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v13) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1)
          ∧ r.2.mem ((c.tc : Thread Cert.FinalPRefIdeal.nD Cert.FinalPRefIdeal.τ).loc Cert.FinalPRefIdeal.main_arg2) = m' ((c.tc : Thread Cert.FinalPRefIdeal.nD Cert.FinalPRefIdeal.τ).loc Cert.FinalPRefIdeal.main_arg2))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)
      ∧ m' ((c.tc : Thread Cert.FinalSRefIdeal.nD Cert.FinalSRefIdeal.τ).loc Cert.FinalSRefIdeal.main_arg2) = m ((c.tc : Thread Cert.FinalSIdeal.nD Cert.FinalSIdeal.τ).loc Cert.FinalSIdeal.main_arg2)) →
    ∃ (v0 : (c : Dev Cert.FinalSIdeal.nD) → Buf (Elt Ideal) ((c.tc : Thread Cert.FinalSIdeal.nD Cert.FinalSIdeal.τ).loc Cert.FinalSIdeal.main_v1)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v1) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v13) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1)
          ∧ r.2.mem ((c.tc : Thread Cert.FinalSRefIdeal.nD Cert.FinalSRefIdeal.τ).loc Cert.FinalSRefIdeal.main_arg2) = m' ((c.tc : Thread Cert.FinalSRefIdeal.nD Cert.FinalSRefIdeal.τ).loc Cert.FinalSRefIdeal.main_arg2))

def preserves_FinishP_FinishPIdeal : Prop :=
  True

def algebraic_FinishPIdeal_FinishPRefIdeal [hFinishPIdeal : Cert.FinishPIdeal.Facts] [hFinishPRefIdeal : Cert.FinishPRefIdeal.Facts] : Prop :=
  ∀ (m : (ℓ : Loc Cert.FinishPIdeal.nD Cert.FinishPIdeal.τ Cert.FinishPIdeal.sig) → Buf (Elt Ideal) ℓ) (g : Dev Cert.FinishPIdeal.nD → PrngReg)
    (m' : (ℓ : Loc Cert.FinishPRefIdeal.nD Cert.FinishPRefIdeal.τ Cert.FinishPRefIdeal.sig) → Buf (Elt Ideal) ℓ) (g' : Dev Cert.FinishPRefIdeal.nD → PrngReg), Pre_FinishPIdeal m →
    (∀ c : Dev Cert.FinishPIdeal.nD,
      m' ((c.tc : Thread Cert.FinishPRefIdeal.nD Cert.FinishPRefIdeal.τ).loc Cert.FinishPRefIdeal.main_arg0) = m ((c.tc : Thread Cert.FinishPIdeal.nD Cert.FinishPIdeal.τ).loc Cert.FinishPIdeal.main_arg0)
      ∧ m' ((c.tc : Thread Cert.FinishPRefIdeal.nD Cert.FinishPRefIdeal.τ).loc Cert.FinishPRefIdeal.main_arg1) = m ((c.tc : Thread Cert.FinishPIdeal.nD Cert.FinishPIdeal.τ).loc Cert.FinishPIdeal.main_arg1)
      ∧ m' ((c.tc : Thread Cert.FinishPRefIdeal.nD Cert.FinishPRefIdeal.τ).loc Cert.FinishPRefIdeal.main_arg2) = m ((c.tc : Thread Cert.FinishPIdeal.nD Cert.FinishPIdeal.τ).loc Cert.FinishPIdeal.main_arg2)
      ∧ m' ((c.tc : Thread Cert.FinishPRefIdeal.nD Cert.FinishPRefIdeal.τ).loc Cert.FinishPRefIdeal.main_arg3) = m ((c.tc : Thread Cert.FinishPIdeal.nD Cert.FinishPIdeal.τ).loc Cert.FinishPIdeal.main_arg3)
      ∧ m' ((c.tc : Thread Cert.FinishPRefIdeal.nD Cert.FinishPRefIdeal.τ).loc Cert.FinishPRefIdeal.main_arg4) = m ((c.tc : Thread Cert.FinishPIdeal.nD Cert.FinishPIdeal.τ).loc Cert.FinishPIdeal.main_arg4)
      ∧ m' ((c.tc : Thread Cert.FinishPRefIdeal.nD Cert.FinishPRefIdeal.τ).loc Cert.FinishPRefIdeal.main_arg5) = m ((c.tc : Thread Cert.FinishPIdeal.nD Cert.FinishPIdeal.τ).loc Cert.FinishPIdeal.main_arg5)
      ∧ m' ((c.tc : Thread Cert.FinishPRefIdeal.nD Cert.FinishPRefIdeal.τ).loc Cert.FinishPRefIdeal.main_arg6) = m ((c.tc : Thread Cert.FinishPIdeal.nD Cert.FinishPIdeal.τ).loc Cert.FinishPIdeal.main_arg6)
      ∧ m' ((c.tc : Thread Cert.FinishPRefIdeal.nD Cert.FinishPRefIdeal.τ).loc Cert.FinishPRefIdeal.main_arg7) = m ((c.tc : Thread Cert.FinishPIdeal.nD Cert.FinishPIdeal.τ).loc Cert.FinishPIdeal.main_arg7)
      ∧ m' ((c.tc : Thread Cert.FinishPRefIdeal.nD Cert.FinishPRefIdeal.τ).loc Cert.FinishPRefIdeal.main_arg8) = m ((c.tc : Thread Cert.FinishPIdeal.nD Cert.FinishPIdeal.τ).loc Cert.FinishPIdeal.main_arg8)
      ∧ m' ((c.tc : Thread Cert.FinishPRefIdeal.nD Cert.FinishPRefIdeal.τ).loc Cert.FinishPRefIdeal.main_arg9) = m ((c.tc : Thread Cert.FinishPIdeal.nD Cert.FinishPIdeal.τ).loc Cert.FinishPIdeal.main_arg9)
      ∧ m' ((c.tc : Thread Cert.FinishPRefIdeal.nD Cert.FinishPRefIdeal.τ).loc Cert.FinishPRefIdeal.main_arg10) = m ((c.tc : Thread Cert.FinishPIdeal.nD Cert.FinishPIdeal.τ).loc Cert.FinishPIdeal.main_arg10)) →
    ∃ (v0 : (c : Dev Cert.FinishPIdeal.nD) → Buf (Elt Ideal) ((c.tc : Thread Cert.FinishPIdeal.nD Cert.FinishPIdeal.τ).loc Cert.FinishPIdeal.main_v7_0)) (v1 : (c : Dev Cert.FinishPIdeal.nD) → Buf (Elt Ideal) ((c.tc : Thread Cert.FinishPIdeal.nD Cert.FinishPIdeal.τ).loc Cert.FinishPIdeal.main_v7_1)),
      θ_run (Cert.FinishPIdeal.defs (F := Ideal)) (onTc (τ := Cert.FinishPIdeal.τ) (Cert.FinishPIdeal.main (F := Ideal))) ⟨m, fun _ => 0, g⟩ (fun r => ∀ c : Dev Cert.FinishPIdeal.nD,
          r.2.mem ((c.tc : Thread Cert.FinishPIdeal.nD Cert.FinishPIdeal.τ).loc Cert.FinishPIdeal.main_v7_0) = v0 c
          ∧ r.2.mem ((c.tc : Thread Cert.FinishPIdeal.nD Cert.FinishPIdeal.τ).loc Cert.FinishPIdeal.main_v7_1) = v1 c
          ∧ r.2.mem ((c.tc : Thread Cert.FinishPIdeal.nD Cert.FinishPIdeal.τ).loc Cert.FinishPIdeal.main_arg0) = m ((c.tc : Thread Cert.FinishPIdeal.nD Cert.FinishPIdeal.τ).loc Cert.FinishPIdeal.main_arg0)
          ∧ r.2.mem ((c.tc : Thread Cert.FinishPIdeal.nD Cert.FinishPIdeal.τ).loc Cert.FinishPIdeal.main_arg1) = m ((c.tc : Thread Cert.FinishPIdeal.nD Cert.FinishPIdeal.τ).loc Cert.FinishPIdeal.main_arg1)
          ∧ r.2.mem ((c.tc : Thread Cert.FinishPIdeal.nD Cert.FinishPIdeal.τ).loc Cert.FinishPIdeal.main_arg2) = m ((c.tc : Thread Cert.FinishPIdeal.nD Cert.FinishPIdeal.τ).loc Cert.FinishPIdeal.main_arg2)
          ∧ r.2.mem ((c.tc : Thread Cert.FinishPIdeal.nD Cert.FinishPIdeal.τ).loc Cert.FinishPIdeal.main_arg3) = m ((c.tc : Thread Cert.FinishPIdeal.nD Cert.FinishPIdeal.τ).loc Cert.FinishPIdeal.main_arg3)
          ∧ r.2.mem ((c.tc : Thread Cert.FinishPIdeal.nD Cert.FinishPIdeal.τ).loc Cert.FinishPIdeal.main_arg4) = m ((c.tc : Thread Cert.FinishPIdeal.nD Cert.FinishPIdeal.τ).loc Cert.FinishPIdeal.main_arg4)
          ∧ r.2.mem ((c.tc : Thread Cert.FinishPIdeal.nD Cert.FinishPIdeal.τ).loc Cert.FinishPIdeal.main_arg5) = m ((c.tc : Thread Cert.FinishPIdeal.nD Cert.FinishPIdeal.τ).loc Cert.FinishPIdeal.main_arg5)
          ∧ r.2.mem ((c.tc : Thread Cert.FinishPIdeal.nD Cert.FinishPIdeal.τ).loc Cert.FinishPIdeal.main_arg6) = m ((c.tc : Thread Cert.FinishPIdeal.nD Cert.FinishPIdeal.τ).loc Cert.FinishPIdeal.main_arg6)
          ∧ r.2.mem ((c.tc : Thread Cert.FinishPIdeal.nD Cert.FinishPIdeal.τ).loc Cert.FinishPIdeal.main_arg7) = m ((c.tc : Thread Cert.FinishPIdeal.nD Cert.FinishPIdeal.τ).loc Cert.FinishPIdeal.main_arg7)
          ∧ r.2.mem ((c.tc : Thread Cert.FinishPIdeal.nD Cert.FinishPIdeal.τ).loc Cert.FinishPIdeal.main_arg8) = m ((c.tc : Thread Cert.FinishPIdeal.nD Cert.FinishPIdeal.τ).loc Cert.FinishPIdeal.main_arg8)
          ∧ r.2.mem ((c.tc : Thread Cert.FinishPIdeal.nD Cert.FinishPIdeal.τ).loc Cert.FinishPIdeal.main_arg9) = m ((c.tc : Thread Cert.FinishPIdeal.nD Cert.FinishPIdeal.τ).loc Cert.FinishPIdeal.main_arg9)
          ∧ r.2.mem ((c.tc : Thread Cert.FinishPIdeal.nD Cert.FinishPIdeal.τ).loc Cert.FinishPIdeal.main_arg10) = m ((c.tc : Thread Cert.FinishPIdeal.nD Cert.FinishPIdeal.τ).loc Cert.FinishPIdeal.main_arg10))
      ∧ θ_run (Cert.FinishPRefIdeal.defs (F := Ideal)) (onTc (τ := Cert.FinishPRefIdeal.τ) (Cert.FinishPRefIdeal.main (F := Ideal))) ⟨m', fun _ => 0, g'⟩ (fun r => ∀ c : Dev Cert.FinishPRefIdeal.nD,
          r.2.mem ((c.tc : Thread Cert.FinishPRefIdeal.nD Cert.FinishPRefIdeal.τ).loc Cert.FinishPRefIdeal.main_v52) = v0 c
          ∧ r.2.mem ((c.tc : Thread Cert.FinishPRefIdeal.nD Cert.FinishPRefIdeal.τ).loc Cert.FinishPRefIdeal.main_v65) = v1 c
          ∧ r.2.mem ((c.tc : Thread Cert.FinishPRefIdeal.nD Cert.FinishPRefIdeal.τ).loc Cert.FinishPRefIdeal.main_arg0) = m' ((c.tc : Thread Cert.FinishPRefIdeal.nD Cert.FinishPRefIdeal.τ).loc Cert.FinishPRefIdeal.main_arg0)
          ∧ r.2.mem ((c.tc : Thread Cert.FinishPRefIdeal.nD Cert.FinishPRefIdeal.τ).loc Cert.FinishPRefIdeal.main_arg1) = m' ((c.tc : Thread Cert.FinishPRefIdeal.nD Cert.FinishPRefIdeal.τ).loc Cert.FinishPRefIdeal.main_arg1)
          ∧ r.2.mem ((c.tc : Thread Cert.FinishPRefIdeal.nD Cert.FinishPRefIdeal.τ).loc Cert.FinishPRefIdeal.main_arg2) = m' ((c.tc : Thread Cert.FinishPRefIdeal.nD Cert.FinishPRefIdeal.τ).loc Cert.FinishPRefIdeal.main_arg2)
          ∧ r.2.mem ((c.tc : Thread Cert.FinishPRefIdeal.nD Cert.FinishPRefIdeal.τ).loc Cert.FinishPRefIdeal.main_arg3) = m' ((c.tc : Thread Cert.FinishPRefIdeal.nD Cert.FinishPRefIdeal.τ).loc Cert.FinishPRefIdeal.main_arg3)
          ∧ r.2.mem ((c.tc : Thread Cert.FinishPRefIdeal.nD Cert.FinishPRefIdeal.τ).loc Cert.FinishPRefIdeal.main_arg4) = m' ((c.tc : Thread Cert.FinishPRefIdeal.nD Cert.FinishPRefIdeal.τ).loc Cert.FinishPRefIdeal.main_arg4)
          ∧ r.2.mem ((c.tc : Thread Cert.FinishPRefIdeal.nD Cert.FinishPRefIdeal.τ).loc Cert.FinishPRefIdeal.main_arg5) = m' ((c.tc : Thread Cert.FinishPRefIdeal.nD Cert.FinishPRefIdeal.τ).loc Cert.FinishPRefIdeal.main_arg5)
          ∧ r.2.mem ((c.tc : Thread Cert.FinishPRefIdeal.nD Cert.FinishPRefIdeal.τ).loc Cert.FinishPRefIdeal.main_arg6) = m' ((c.tc : Thread Cert.FinishPRefIdeal.nD Cert.FinishPRefIdeal.τ).loc Cert.FinishPRefIdeal.main_arg6)
          ∧ r.2.mem ((c.tc : Thread Cert.FinishPRefIdeal.nD Cert.FinishPRefIdeal.τ).loc Cert.FinishPRefIdeal.main_arg7) = m' ((c.tc : Thread Cert.FinishPRefIdeal.nD Cert.FinishPRefIdeal.τ).loc Cert.FinishPRefIdeal.main_arg7)
          ∧ r.2.mem ((c.tc : Thread Cert.FinishPRefIdeal.nD Cert.FinishPRefIdeal.τ).loc Cert.FinishPRefIdeal.main_arg8) = m' ((c.tc : Thread Cert.FinishPRefIdeal.nD Cert.FinishPRefIdeal.τ).loc Cert.FinishPRefIdeal.main_arg8)
          ∧ r.2.mem ((c.tc : Thread Cert.FinishPRefIdeal.nD Cert.FinishPRefIdeal.τ).loc Cert.FinishPRefIdeal.main_arg9) = m' ((c.tc : Thread Cert.FinishPRefIdeal.nD Cert.FinishPRefIdeal.τ).loc Cert.FinishPRefIdeal.main_arg9)
          ∧ r.2.mem ((c.tc : Thread Cert.FinishPRefIdeal.nD Cert.FinishPRefIdeal.τ).loc Cert.FinishPRefIdeal.main_arg10) = m' ((c.tc : Thread Cert.FinishPRefIdeal.nD Cert.FinishPRefIdeal.τ).loc Cert.FinishPRefIdeal.main_arg10))

def preserves_FinishS_FinishSIdeal : Prop :=
  True

def algebraic_FinishSIdeal_FinishSRefIdeal [hFinishSIdeal : Cert.FinishSIdeal.Facts] [hFinishSRefIdeal : Cert.FinishSRefIdeal.Facts] : Prop :=
  ∀ (m : (ℓ : Loc Cert.FinishSIdeal.nD Cert.FinishSIdeal.τ Cert.FinishSIdeal.sig) → Buf (Elt Ideal) ℓ) (g : Dev Cert.FinishSIdeal.nD → PrngReg)
    (m' : (ℓ : Loc Cert.FinishSRefIdeal.nD Cert.FinishSRefIdeal.τ Cert.FinishSRefIdeal.sig) → Buf (Elt Ideal) ℓ) (g' : Dev Cert.FinishSRefIdeal.nD → PrngReg), Pre_FinishSIdeal m →
    (∀ c : Dev Cert.FinishSIdeal.nD,
      m' ((c.tc : Thread Cert.FinishSRefIdeal.nD Cert.FinishSRefIdeal.τ).loc Cert.FinishSRefIdeal.main_arg0) = m ((c.tc : Thread Cert.FinishSIdeal.nD Cert.FinishSIdeal.τ).loc Cert.FinishSIdeal.main_arg0)
      ∧ m' ((c.tc : Thread Cert.FinishSRefIdeal.nD Cert.FinishSRefIdeal.τ).loc Cert.FinishSRefIdeal.main_arg1) = m ((c.tc : Thread Cert.FinishSIdeal.nD Cert.FinishSIdeal.τ).loc Cert.FinishSIdeal.main_arg1)
      ∧ m' ((c.tc : Thread Cert.FinishSRefIdeal.nD Cert.FinishSRefIdeal.τ).loc Cert.FinishSRefIdeal.main_arg2) = m ((c.tc : Thread Cert.FinishSIdeal.nD Cert.FinishSIdeal.τ).loc Cert.FinishSIdeal.main_arg2)
      ∧ m' ((c.tc : Thread Cert.FinishSRefIdeal.nD Cert.FinishSRefIdeal.τ).loc Cert.FinishSRefIdeal.main_arg3) = m ((c.tc : Thread Cert.FinishSIdeal.nD Cert.FinishSIdeal.τ).loc Cert.FinishSIdeal.main_arg3)
      ∧ m' ((c.tc : Thread Cert.FinishSRefIdeal.nD Cert.FinishSRefIdeal.τ).loc Cert.FinishSRefIdeal.main_arg4) = m ((c.tc : Thread Cert.FinishSIdeal.nD Cert.FinishSIdeal.τ).loc Cert.FinishSIdeal.main_arg4)
      ∧ m' ((c.tc : Thread Cert.FinishSRefIdeal.nD Cert.FinishSRefIdeal.τ).loc Cert.FinishSRefIdeal.main_arg5) = m ((c.tc : Thread Cert.FinishSIdeal.nD Cert.FinishSIdeal.τ).loc Cert.FinishSIdeal.main_arg5)
      ∧ m' ((c.tc : Thread Cert.FinishSRefIdeal.nD Cert.FinishSRefIdeal.τ).loc Cert.FinishSRefIdeal.main_arg6) = m ((c.tc : Thread Cert.FinishSIdeal.nD Cert.FinishSIdeal.τ).loc Cert.FinishSIdeal.main_arg6)
      ∧ m' ((c.tc : Thread Cert.FinishSRefIdeal.nD Cert.FinishSRefIdeal.τ).loc Cert.FinishSRefIdeal.main_arg7) = m ((c.tc : Thread Cert.FinishSIdeal.nD Cert.FinishSIdeal.τ).loc Cert.FinishSIdeal.main_arg7)
      ∧ m' ((c.tc : Thread Cert.FinishSRefIdeal.nD Cert.FinishSRefIdeal.τ).loc Cert.FinishSRefIdeal.main_arg8) = m ((c.tc : Thread Cert.FinishSIdeal.nD Cert.FinishSIdeal.τ).loc Cert.FinishSIdeal.main_arg8)
      ∧ m' ((c.tc : Thread Cert.FinishSRefIdeal.nD Cert.FinishSRefIdeal.τ).loc Cert.FinishSRefIdeal.main_arg9) = m ((c.tc : Thread Cert.FinishSIdeal.nD Cert.FinishSIdeal.τ).loc Cert.FinishSIdeal.main_arg9)
      ∧ m' ((c.tc : Thread Cert.FinishSRefIdeal.nD Cert.FinishSRefIdeal.τ).loc Cert.FinishSRefIdeal.main_arg10) = m ((c.tc : Thread Cert.FinishSIdeal.nD Cert.FinishSIdeal.τ).loc Cert.FinishSIdeal.main_arg10)) →
    ∃ (v0 : (c : Dev Cert.FinishSIdeal.nD) → Buf (Elt Ideal) ((c.tc : Thread Cert.FinishSIdeal.nD Cert.FinishSIdeal.τ).loc Cert.FinishSIdeal.main_v7_0)) (v1 : (c : Dev Cert.FinishSIdeal.nD) → Buf (Elt Ideal) ((c.tc : Thread Cert.FinishSIdeal.nD Cert.FinishSIdeal.τ).loc Cert.FinishSIdeal.main_v7_1)),
      θ_run (Cert.FinishSIdeal.defs (F := Ideal)) (onTc (τ := Cert.FinishSIdeal.τ) (Cert.FinishSIdeal.main (F := Ideal))) ⟨m, fun _ => 0, g⟩ (fun r => ∀ c : Dev Cert.FinishSIdeal.nD,
          r.2.mem ((c.tc : Thread Cert.FinishSIdeal.nD Cert.FinishSIdeal.τ).loc Cert.FinishSIdeal.main_v7_0) = v0 c
          ∧ r.2.mem ((c.tc : Thread Cert.FinishSIdeal.nD Cert.FinishSIdeal.τ).loc Cert.FinishSIdeal.main_v7_1) = v1 c
          ∧ r.2.mem ((c.tc : Thread Cert.FinishSIdeal.nD Cert.FinishSIdeal.τ).loc Cert.FinishSIdeal.main_arg0) = m ((c.tc : Thread Cert.FinishSIdeal.nD Cert.FinishSIdeal.τ).loc Cert.FinishSIdeal.main_arg0)
          ∧ r.2.mem ((c.tc : Thread Cert.FinishSIdeal.nD Cert.FinishSIdeal.τ).loc Cert.FinishSIdeal.main_arg1) = m ((c.tc : Thread Cert.FinishSIdeal.nD Cert.FinishSIdeal.τ).loc Cert.FinishSIdeal.main_arg1)
          ∧ r.2.mem ((c.tc : Thread Cert.FinishSIdeal.nD Cert.FinishSIdeal.τ).loc Cert.FinishSIdeal.main_arg2) = m ((c.tc : Thread Cert.FinishSIdeal.nD Cert.FinishSIdeal.τ).loc Cert.FinishSIdeal.main_arg2)
          ∧ r.2.mem ((c.tc : Thread Cert.FinishSIdeal.nD Cert.FinishSIdeal.τ).loc Cert.FinishSIdeal.main_arg3) = m ((c.tc : Thread Cert.FinishSIdeal.nD Cert.FinishSIdeal.τ).loc Cert.FinishSIdeal.main_arg3)
          ∧ r.2.mem ((c.tc : Thread Cert.FinishSIdeal.nD Cert.FinishSIdeal.τ).loc Cert.FinishSIdeal.main_arg4) = m ((c.tc : Thread Cert.FinishSIdeal.nD Cert.FinishSIdeal.τ).loc Cert.FinishSIdeal.main_arg4)
          ∧ r.2.mem ((c.tc : Thread Cert.FinishSIdeal.nD Cert.FinishSIdeal.τ).loc Cert.FinishSIdeal.main_arg5) = m ((c.tc : Thread Cert.FinishSIdeal.nD Cert.FinishSIdeal.τ).loc Cert.FinishSIdeal.main_arg5)
          ∧ r.2.mem ((c.tc : Thread Cert.FinishSIdeal.nD Cert.FinishSIdeal.τ).loc Cert.FinishSIdeal.main_arg6) = m ((c.tc : Thread Cert.FinishSIdeal.nD Cert.FinishSIdeal.τ).loc Cert.FinishSIdeal.main_arg6)
          ∧ r.2.mem ((c.tc : Thread Cert.FinishSIdeal.nD Cert.FinishSIdeal.τ).loc Cert.FinishSIdeal.main_arg7) = m ((c.tc : Thread Cert.FinishSIdeal.nD Cert.FinishSIdeal.τ).loc Cert.FinishSIdeal.main_arg7)
          ∧ r.2.mem ((c.tc : Thread Cert.FinishSIdeal.nD Cert.FinishSIdeal.τ).loc Cert.FinishSIdeal.main_arg8) = m ((c.tc : Thread Cert.FinishSIdeal.nD Cert.FinishSIdeal.τ).loc Cert.FinishSIdeal.main_arg8)
          ∧ r.2.mem ((c.tc : Thread Cert.FinishSIdeal.nD Cert.FinishSIdeal.τ).loc Cert.FinishSIdeal.main_arg9) = m ((c.tc : Thread Cert.FinishSIdeal.nD Cert.FinishSIdeal.τ).loc Cert.FinishSIdeal.main_arg9)
          ∧ r.2.mem ((c.tc : Thread Cert.FinishSIdeal.nD Cert.FinishSIdeal.τ).loc Cert.FinishSIdeal.main_arg10) = m ((c.tc : Thread Cert.FinishSIdeal.nD Cert.FinishSIdeal.τ).loc Cert.FinishSIdeal.main_arg10))
      ∧ θ_run (Cert.FinishSRefIdeal.defs (F := Ideal)) (onTc (τ := Cert.FinishSRefIdeal.τ) (Cert.FinishSRefIdeal.main (F := Ideal))) ⟨m', fun _ => 0, g'⟩ (fun r => ∀ c : Dev Cert.FinishSRefIdeal.nD,
          r.2.mem ((c.tc : Thread Cert.FinishSRefIdeal.nD Cert.FinishSRefIdeal.τ).loc Cert.FinishSRefIdeal.main_v52) = v0 c
          ∧ r.2.mem ((c.tc : Thread Cert.FinishSRefIdeal.nD Cert.FinishSRefIdeal.τ).loc Cert.FinishSRefIdeal.main_v65) = v1 c
          ∧ r.2.mem ((c.tc : Thread Cert.FinishSRefIdeal.nD Cert.FinishSRefIdeal.τ).loc Cert.FinishSRefIdeal.main_arg0) = m' ((c.tc : Thread Cert.FinishSRefIdeal.nD Cert.FinishSRefIdeal.τ).loc Cert.FinishSRefIdeal.main_arg0)
          ∧ r.2.mem ((c.tc : Thread Cert.FinishSRefIdeal.nD Cert.FinishSRefIdeal.τ).loc Cert.FinishSRefIdeal.main_arg1) = m' ((c.tc : Thread Cert.FinishSRefIdeal.nD Cert.FinishSRefIdeal.τ).loc Cert.FinishSRefIdeal.main_arg1)
          ∧ r.2.mem ((c.tc : Thread Cert.FinishSRefIdeal.nD Cert.FinishSRefIdeal.τ).loc Cert.FinishSRefIdeal.main_arg2) = m' ((c.tc : Thread Cert.FinishSRefIdeal.nD Cert.FinishSRefIdeal.τ).loc Cert.FinishSRefIdeal.main_arg2)
          ∧ r.2.mem ((c.tc : Thread Cert.FinishSRefIdeal.nD Cert.FinishSRefIdeal.τ).loc Cert.FinishSRefIdeal.main_arg3) = m' ((c.tc : Thread Cert.FinishSRefIdeal.nD Cert.FinishSRefIdeal.τ).loc Cert.FinishSRefIdeal.main_arg3)
          ∧ r.2.mem ((c.tc : Thread Cert.FinishSRefIdeal.nD Cert.FinishSRefIdeal.τ).loc Cert.FinishSRefIdeal.main_arg4) = m' ((c.tc : Thread Cert.FinishSRefIdeal.nD Cert.FinishSRefIdeal.τ).loc Cert.FinishSRefIdeal.main_arg4)
          ∧ r.2.mem ((c.tc : Thread Cert.FinishSRefIdeal.nD Cert.FinishSRefIdeal.τ).loc Cert.FinishSRefIdeal.main_arg5) = m' ((c.tc : Thread Cert.FinishSRefIdeal.nD Cert.FinishSRefIdeal.τ).loc Cert.FinishSRefIdeal.main_arg5)
          ∧ r.2.mem ((c.tc : Thread Cert.FinishSRefIdeal.nD Cert.FinishSRefIdeal.τ).loc Cert.FinishSRefIdeal.main_arg6) = m' ((c.tc : Thread Cert.FinishSRefIdeal.nD Cert.FinishSRefIdeal.τ).loc Cert.FinishSRefIdeal.main_arg6)
          ∧ r.2.mem ((c.tc : Thread Cert.FinishSRefIdeal.nD Cert.FinishSRefIdeal.τ).loc Cert.FinishSRefIdeal.main_arg7) = m' ((c.tc : Thread Cert.FinishSRefIdeal.nD Cert.FinishSRefIdeal.τ).loc Cert.FinishSRefIdeal.main_arg7)
          ∧ r.2.mem ((c.tc : Thread Cert.FinishSRefIdeal.nD Cert.FinishSRefIdeal.τ).loc Cert.FinishSRefIdeal.main_arg8) = m' ((c.tc : Thread Cert.FinishSRefIdeal.nD Cert.FinishSRefIdeal.τ).loc Cert.FinishSRefIdeal.main_arg8)
          ∧ r.2.mem ((c.tc : Thread Cert.FinishSRefIdeal.nD Cert.FinishSRefIdeal.τ).loc Cert.FinishSRefIdeal.main_arg9) = m' ((c.tc : Thread Cert.FinishSRefIdeal.nD Cert.FinishSRefIdeal.τ).loc Cert.FinishSRefIdeal.main_arg9)
          ∧ r.2.mem ((c.tc : Thread Cert.FinishSRefIdeal.nD Cert.FinishSRefIdeal.τ).loc Cert.FinishSRefIdeal.main_arg10) = m' ((c.tc : Thread Cert.FinishSRefIdeal.nD Cert.FinishSRefIdeal.τ).loc Cert.FinishSRefIdeal.main_arg10))

def preserves_AttnS_AttnSIdeal : Prop :=
  IdealRules.named_const.Statement Cert.AttnSIdeal.κ "mask" .f32 0xF149F2CA#32 ⊥

def algebraic_AttnSIdeal_AttnSRefIdeal_pre_finite_sample [hAttnSIdeal : Cert.AttnSIdeal.Facts] [hAttnSRefIdeal : Cert.AttnSRefIdeal.Facts] [hPre_finite_sample : Cert.Pre_finite_sample.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal_finite_sample m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)
      ∧ m' ((c.tc : Thread Cert.AttnSRefIdeal.nD Cert.AttnSRefIdeal.τ).loc Cert.AttnSRefIdeal.main_arg3) = m ((c.tc : Thread Cert.AttnSIdeal.nD Cert.AttnSIdeal.τ).loc Cert.AttnSIdeal.main_arg3)
      ∧ m' ((c.tc : Thread Cert.AttnSRefIdeal.nD Cert.AttnSRefIdeal.τ).loc Cert.AttnSRefIdeal.main_arg4) = m ((c.tc : Thread Cert.AttnSIdeal.nD Cert.AttnSIdeal.τ).loc Cert.AttnSIdeal.main_arg4)) →
    ∃ (v0 : (c : Dev Cert.AttnSIdeal.nD) → Buf (Elt Ideal) ((c.tc : Thread Cert.AttnSIdeal.nD Cert.AttnSIdeal.τ).loc Cert.AttnSIdeal.main_v0)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v0) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v163) = v0 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2)
          ∧ r.2.mem ((c.tc : Thread Cert.AttnSRefIdeal.nD Cert.AttnSRefIdeal.τ).loc Cert.AttnSRefIdeal.main_arg3) = m' ((c.tc : Thread Cert.AttnSRefIdeal.nD Cert.AttnSRefIdeal.τ).loc Cert.AttnSRefIdeal.main_arg3)
          ∧ r.2.mem ((c.tc : Thread Cert.AttnSRefIdeal.nD Cert.AttnSRefIdeal.τ).loc Cert.AttnSRefIdeal.main_arg4) = m' ((c.tc : Thread Cert.AttnSRefIdeal.nD Cert.AttnSRefIdeal.τ).loc Cert.AttnSRefIdeal.main_arg4))

def Claim : Prop :=
  ∃ (hMoe : Cert.Moe.Facts) (hMoeIdeal : Cert.MoeIdeal.Facts) (hMoeRefIdeal : Cert.MoeRefIdeal.Facts) (hProjP : Cert.ProjP.Facts) (hProjPIdeal : Cert.ProjPIdeal.Facts) (hProjPRefIdeal : Cert.ProjPRefIdeal.Facts) (hProjS : Cert.ProjS.Facts) (hProjSIdeal : Cert.ProjSIdeal.Facts) (hProjSRefIdeal : Cert.ProjSRefIdeal.Facts) (hFinalP : Cert.FinalP.Facts) (hFinalPIdeal : Cert.FinalPIdeal.Facts) (hFinalPRefIdeal : Cert.FinalPRefIdeal.Facts) (hFinalS : Cert.FinalS.Facts) (hFinalSIdeal : Cert.FinalSIdeal.Facts) (hFinalSRefIdeal : Cert.FinalSRefIdeal.Facts) (hFinishP : Cert.FinishP.Facts) (hFinishPIdeal : Cert.FinishPIdeal.Facts) (hFinishPRefIdeal : Cert.FinishPRefIdeal.Facts) (hFinishS : Cert.FinishS.Facts) (hFinishSIdeal : Cert.FinishSIdeal.Facts) (hFinishSRefIdeal : Cert.FinishSRefIdeal.Facts) (hAttnS : Cert.AttnS.Facts) (hAttnSIdeal : Cert.AttnSIdeal.Facts) (hAttnSRefIdeal : Cert.AttnSRefIdeal.Facts) (hPre_experts_in_range : Cert.Pre_experts_in_range.Facts) (hPre_finite_sample : Cert.Pre_finite_sample.Facts),
    quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal)
    ∧ quiescent_MoeRefIdeal_pre_experts_in_range (hMoeRefIdeal := hMoeRefIdeal) (hPre_experts_in_range := hPre_experts_in_range)
    ∧ quiescent_ProjP (hProjP := hProjP)
    ∧ quiescent_ProjPIdeal (hProjPIdeal := hProjPIdeal)
    ∧ quiescent_ProjPRefIdeal (hProjPRefIdeal := hProjPRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_FinishP (hFinishP := hFinishP)
    ∧ quiescent_FinishPIdeal (hFinishPIdeal := hFinishPIdeal)
    ∧ quiescent_FinishPRefIdeal (hFinishPRefIdeal := hFinishPRefIdeal)
    ∧ quiescent_FinishS (hFinishS := hFinishS)
    ∧ quiescent_FinishSIdeal (hFinishSIdeal := hFinishSIdeal)
    ∧ quiescent_FinishSRefIdeal (hFinishSRefIdeal := hFinishSRefIdeal)
    ∧ quiescent_AttnS (hAttnS := hAttnS)
    ∧ quiescent_AttnSIdeal (hAttnSIdeal := hAttnSIdeal)
    ∧ quiescent_AttnSIdeal_pre_finite_sample (hAttnSIdeal := hAttnSIdeal) (hPre_finite_sample := hPre_finite_sample)
    ∧ quiescent_AttnSRefIdeal (hAttnSRefIdeal := hAttnSRefIdeal)
    ∧ quiescent_AttnSRefIdeal_pre_finite_sample (hAttnSRefIdeal := hAttnSRefIdeal) (hPre_finite_sample := hPre_finite_sample)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_ProjP_ProjPIdeal
    ∧ algebraic_ProjPIdeal_ProjPRefIdeal (hProjPIdeal := hProjPIdeal) (hProjPRefIdeal := hProjPRefIdeal)
    ∧ preserves_ProjS_ProjSIdeal
    ∧ algebraic_ProjSIdeal_ProjSRefIdeal (hProjSIdeal := hProjSIdeal) (hProjSRefIdeal := hProjSRefIdeal)
    ∧ preserves_FinalP_FinalPIdeal
    ∧ algebraic_FinalPIdeal_FinalPRefIdeal (hFinalPIdeal := hFinalPIdeal) (hFinalPRefIdeal := hFinalPRefIdeal)
    ∧ preserves_FinalS_FinalSIdeal
    ∧ algebraic_FinalSIdeal_FinalSRefIdeal (hFinalSIdeal := hFinalSIdeal) (hFinalSRefIdeal := hFinalSRefIdeal)
    ∧ preserves_FinishP_FinishPIdeal
    ∧ algebraic_FinishPIdeal_FinishPRefIdeal (hFinishPIdeal := hFinishPIdeal) (hFinishPRefIdeal := hFinishPRefIdeal)
    ∧ preserves_FinishS_FinishSIdeal
    ∧ algebraic_FinishSIdeal_FinishSRefIdeal (hFinishSIdeal := hFinishSIdeal) (hFinishSRefIdeal := hFinishSRefIdeal)
    ∧ preserves_AttnS_AttnSIdeal
    ∧ algebraic_AttnSIdeal_AttnSRefIdeal_pre_finite_sample (hAttnSIdeal := hAttnSIdeal) (hAttnSRefIdeal := hAttnSRefIdeal) (hPre_finite_sample := hPre_finite_sample)
-- ==== Pre_experts_in_range.lean ====
abbrev S290 : Shape := ⟨1, ![290]⟩
abbrev S1 : Shape := ⟨1, ![1]⟩
abbrev S74240x1024 : Shape := ⟨2, ![74240, 1024]⟩
abbrev S74240x1 : Shape := ⟨2, ![74240, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S290 : S_.BroadcastsInDim S290 (![] : Fin 0 → Fin S290.rank)
  reducesTo_S290_S_d0 : S290.ReducesTo [0] S_
  h_S_ : 0 < S_.numel

variable [Facts]

def fn {F : FTy → Type} [FloatOps F] (main_arg0 : IVec S290 32) (main_arg1 : IVec S1 32) (main_arg2 : FVec F S74240x1024 .f32) (main_arg3 : FVec F S74240x1 .f32) (main_arg4 : FVec F S32x1024x2048 .f32) (main_arg5 : FVec F S32x1x2048 .f32) (main_arg6 : FVec F S32x1024x1024 .f32) (main_arg7 : FVec F S32x1x1024 .f32) : IVec S_ 1 :=
  let main_c : IVec S_ 32 := constantI S_ 32 0#32
  let main_v0 : IVec S290 32 := broadcastInDim S290 ![] bcast_S_S290 main_c
  let main_v1 : IVec S290 1 := cmpi .sge main_arg0 main_v0
  let main_c_0 : IVec S_ 32 := constantI S_ 32 32#32
  let main_v2 : IVec S290 32 := broadcastInDim S290 ![] bcast_S_S290 main_c_0
  let main_v3 : IVec S290 1 := cmpi .slt main_arg0 main_v2
  let main_v4 : IVec S290 1 := andi main_v1 main_v3
  let main_c_1 : IVec S_ 1 := constantI S_ 1 1#1
  let main_v5 : IVec S_ 1 := (fun x v => Host.reduce IntOp.andi x v reducesTo_S290_S_d0 h_S_) main_v4 main_c_1
  main_v5
-- ==== Pre_finite_sample.lean ====
abbrev S32x4x512 : Shape := ⟨3, ![32, 4, 512]⟩
abbrev S32x2048x512 : Shape := ⟨3, ![32, 2048, 512]⟩
abbrev S_ : Shape := ⟨0, ![]⟩

class Facts : Prop where
  bcast_S_S32x4x512 : S_.BroadcastsInDim S32x4x512 (![] : Fin 0 → Fin S32x4x512.rank)
  reducesTo_S32x4x512_S_d0_1_2 : S32x4x512.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_

variable [Facts]

def fn {F : FTy → Type} [FloatOps F] (main_arg0 : FVec F S32x4x512 .f32) (main_arg1 : FVec F S32x4x512 .f32) (main_arg2 : FVec F S32x4x512 .f32) (main_arg3 : FVec F S32x2048x512 .f32) (main_arg4 : FVec F S32x2048x512 .f32) : IVec S_ 1 :=
  let main_v0 : FVec F S32x4x512 .f32 := Host.absf main_arg0
  let main_cst : FVec F S_ .f32 := constant S_ .f32 0x7F800000#32
  let main_v1 : FVec F S32x4x512 .f32 := broadcastInDim S32x4x512 ![] bcast_S_S32x4x512 main_cst
  let main_v2 : IVec S32x4x512 1 := cmpf .olt main_v0 main_v1
  let main_c : IVec S_ 1 := constantI S_ 1 1#1
  let main_v3 : IVec S_ 1 := (fun x v => Host.reduce IntOp.andi x v reducesTo_S32x4x512_S_d0_1_2 h_S_) main_v2 main_c
  let main_v4 : FVec F S32x4x512 .f32 := Host.absf main_arg1
  let main_cst_0 : FVec F S_ .f32 := constant S_ .f32 0x7F800000#32
  let main_v5 : FVec F S32x4x512 .f32 := broadcastInDim S32x4x512 ![] bcast_S_S32x4x512 main_cst_0
  let main_v6 : IVec S32x4x512 1 := cmpf .olt main_v4 main_v5
  let main_c_1 : IVec S_ 1 := constantI S_ 1 1#1
  let main_v7 : IVec S_ 1 := (fun x v => Host.reduce IntOp.andi x v reducesTo_S32x4x512_S_d0_1_2 h_S_) main_v6 main_c_1
  let main_v8 : IVec S_ 1 := andi main_v3 main_v7
  let main_v9 : FVec F S32x2048x512 .f32 := Host.absf main_arg3
  let main_cst_2 : FVec F S_ .f32 := constant S_ .f32 0x7F800000#32
  let main_v10 : FVec F S32x2048x512 .f32 := broadcastInDim S32x2048x512 ![] bcast_S_S32x2048x512 main_cst_2
  let main_v11 : IVec S32x2048x512 1 := cmpf .olt main_v9 main_v10
  let main_c_3 : IVec S_ 1 := constantI S_ 1 1#1
  let main_v12 : IVec S_ 1 := (fun x v => Host.reduce IntOp.andi x v reducesTo_S32x2048x512_S_d0_1_2 h_S_) main_v11 main_c_3
  let main_v13 : IVec S_ 1 := andi main_v8 main_v12
  main_v13
-- ==== Moe.lean ====
abbrev S290 : Shape := ⟨1, ![290]⟩
abbrev S1 : Shape := ⟨1, ![1]⟩
abbrev S74240x1024 : Shape := ⟨2, ![74240, 1024]⟩
abbrev S74240x1 : Shape := ⟨2, ![74240, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S256x1 : Shape := ⟨2, ![256, 1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 7
  | .vmem => 14
  | .smem => 2
  | _ => 0

abbrev bufTy : (tb : Table) → Fin (tcTables nBuf tb) → BufTy
  | .hbm, ⟨0, _⟩ => ⟨S74240x1024, .f32⟩
  | .hbm, ⟨1, _⟩ => ⟨S74240x1, .f32⟩
  | .hbm, ⟨2, _⟩ => ⟨S32x1024x2048, .f32⟩
  | .hbm, ⟨3, _⟩ => ⟨S32x1x2048, .f32⟩
  | .hbm, ⟨4, _⟩ => ⟨S32x1024x1024, .f32⟩
  | .hbm, ⟨5, _⟩ => ⟨S32x1x1024, .f32⟩
  | .hbm, ⟨6, _⟩ => ⟨S74240x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .smem, ⟨0, _⟩ => ⟨S290, .i32⟩
  | .local _ .smem, ⟨1, _⟩ => ⟨S1, .i32⟩
  | _, _ => ⟨S74240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S290 : Shape := ⟨1, ![290]⟩
abbrev S1 : Shape := ⟨1, ![1]⟩
abbrev S74240x1024 : Shape := ⟨2, ![74240, 1024]⟩
abbrev S74240x1 : Shape := ⟨2, ![74240, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S290x2 : Shape := ⟨2, ![290, 2]⟩
abbrev S580 : Shape := ⟨1, ![580]⟩
abbrev S580x128x1024 : Shape := ⟨3, ![580, 128, 1024]⟩
abbrev S_ : Shape := ⟨0, ![]⟩
abbrev S580x1 : Shape := ⟨2, ![580, 1]⟩
abbrev S580x3 : Shape := ⟨2, ![580, 3]⟩
abbrev S580x1x1024x2048 : Shape := ⟨4, ![580, 1, 1024, 2048]⟩
abbrev S580x1024x2048 : Shape := ⟨3, ![580, 1024, 2048]⟩
abbrev S580x128x2048 : Shape := ⟨3, ![580, 128, 2048]⟩
abbrev S580x1x1x2048 : Shape := ⟨4, ![580, 1, 1, 2048]⟩
abbrev S580x1x2048 : Shape := ⟨3, ![580, 1, 2048]⟩
abbrev S580x1x1024x1024 : Shape := ⟨4, ![580, 1, 1024, 1024]⟩
abbrev S580x1024x1024 : Shape := ⟨3, ![580, 1024, 1024]⟩
abbrev S580x1x1x1024 : Shape := ⟨4, ![580, 1, 1, 1024]⟩
abbrev S580x1x1024 : Shape := ⟨3, ![580, 1, 1024]⟩
abbrev S290x256 : Shape := ⟨2, ![290, 256]⟩
abbrev S74240 : Shape := ⟨1, ![74240]⟩

abbrev nBuf : Space → Nat
  | .hbm => 177
  | .vmem => 0
  | .smem => 0
  | _ => 0

abbrev hbmTy0_0 (i : Nat) : BufTy := match i % 128 with
  | 0 => ⟨S290, .i32⟩
  | 1 => ⟨S1, .i32⟩
  | 2 => ⟨S74240x1024, .f32⟩
  | 3 => ⟨S74240x1, .f32⟩
  | 4 => ⟨S32x1024x2048, .f32⟩
  | 5 => ⟨S32x1x2048, .f32⟩
  | 6 => ⟨S32x1024x1024, .f32⟩
  | 7 => ⟨S32x1x1024, .f32⟩
  | 8 => ⟨S290x2, .i32⟩
  | 9 => ⟨S580, .i32⟩
  | 10 => ⟨S580x128x1024, .f32⟩
  | 11 => ⟨S_, .i32⟩
  | 12 => ⟨S580, .i32⟩
  | 13 => ⟨S580, .i1⟩
  | 14 => ⟨S_, .i32⟩
  | 15 => ⟨S580, .i32⟩
  | 16 => ⟨S580, .i32⟩
  | 17 => ⟨S580, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S580x1, .i32⟩
  | 35 => ⟨S580x1, .i32⟩
  | 36 => ⟨S580x1, .i32⟩
  | 37 => ⟨S580x3, .i32⟩
  | 38 => ⟨S580x1x1024x2048, .f32⟩
  | 39 => ⟨S580x1024x2048, .f32⟩
  | 40 => ⟨S580x128x2048, .f32⟩
  | 41 => ⟨S_, .i32⟩
  | 42 => ⟨S580, .i32⟩
  | 43 => ⟨S580, .i1⟩
  | 44 => ⟨S_, .i32⟩
  | 45 => ⟨S580, .i32⟩
  | 46 => ⟨S580, .i32⟩
  | 47 => ⟨S580, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S580x1, .i32⟩
  | 65 => ⟨S580x1, .i32⟩
  | 66 => ⟨S580x1, .i32⟩
  | 67 => ⟨S580x3, .i32⟩
  | 68 => ⟨S580x1x1x2048, .f32⟩
  | 69 => ⟨S580x1x2048, .f32⟩
  | 70 => ⟨S580x128x2048, .f32⟩
  | 71 => ⟨S580x128x2048, .f32⟩
  | 72 => ⟨S580x128x1024, .f32⟩
  | 73 => ⟨S_, .f32⟩
  | 74 => ⟨S580x128x1024, .f32⟩
  | 75 => ⟨S580x128x1024, .f32⟩
  | 76 => ⟨S580x128x1024, .f32⟩
  | 77 => ⟨S_, .f32⟩
  | 78 => ⟨S_, .f32⟩
  | 79 => ⟨S_, .f32⟩
  | 80 => ⟨S580x128x1024, .f32⟩
  | 81 => ⟨S580x128x1024, .f32⟩
  | 82 => ⟨S_, .f32⟩
  | 83 => ⟨S580x128x1024, .f32⟩
  | 84 => ⟨S580x128x1024, .f32⟩
  | 85 => ⟨S_, .f32⟩
  | 86 => ⟨S580x128x1024, .f32⟩
  | 87 => ⟨S580x128x1024, .f32⟩
  | 88 => ⟨S580x128x1024, .f32⟩
  | 89 => ⟨S580x128x1024, .f32⟩
  | 90 => ⟨S_, .f32⟩
  | 91 => ⟨S580x128x1024, .f32⟩
  | 92 => ⟨S580x128x1024, .f32⟩
  | 93 => ⟨S_, .f32⟩
  | 94 => ⟨S580x128x1024, .f32⟩
  | 95 => ⟨S580x128x1024, .f32⟩
  | 96 => ⟨S580x128x1024, .f32⟩
  | 97 => ⟨S_, .f32⟩
  | 98 => ⟨S580x128x1024, .f32⟩
  | 99 => ⟨S580x128x1024, .f32⟩
  | 100 => ⟨S580x128x1024, .f32⟩
  | 101 => ⟨S_, .i32⟩
  | 102 => ⟨S580, .i32⟩
  | 103 => ⟨S580, .i1⟩
  | 104 => ⟨S_, .i32⟩
  | 105 => ⟨S580, .i32⟩
  | 106 => ⟨S580, .i32⟩
  | 107 => ⟨S580, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S580x1, .i32⟩
  | 125 => ⟨S580x1, .i32⟩
  | 126 => ⟨S580x1, .i32⟩
  | 127 => ⟨S580x3, .i32⟩
  | _ => ⟨S290, .i32⟩

abbrev hbmTy0_1 (i : Nat) : BufTy := match i % 128 with
  | 0 => ⟨S580x1x1024x1024, .f32⟩
  | 1 => ⟨S580x1024x1024, .f32⟩
  | 2 => ⟨S580x128x1024, .f32⟩
  | 3 => ⟨S_, .i32⟩
  | 4 => ⟨S580, .i32⟩
  | 5 => ⟨S580, .i1⟩
  | 6 => ⟨S_, .i32⟩
  | 7 => ⟨S580, .i32⟩
  | 8 => ⟨S580, .i32⟩
  | 9 => ⟨S580, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S580x1, .i32⟩
  | 27 => ⟨S580x1, .i32⟩
  | 28 => ⟨S580x1, .i32⟩
  | 29 => ⟨S580x3, .i32⟩
  | 30 => ⟨S580x1x1x1024, .f32⟩
  | 31 => ⟨S580x1x1024, .f32⟩
  | 32 => ⟨S580x128x1024, .f32⟩
  | 33 => ⟨S580x128x1024, .f32⟩
  | 34 => ⟨S74240x1024, .f32⟩
  | 35 => ⟨S290, .i32⟩
  | 36 => ⟨S290x256, .i32⟩
  | 37 => ⟨S74240, .i32⟩
  | 38 => ⟨S_, .i32⟩
  | 39 => ⟨S74240, .i32⟩
  | 40 => ⟨S74240, .i1⟩
  | 41 => ⟨S74240x1, .i1⟩
  | 42 => ⟨S74240x1024, .f32⟩
  | 43 => ⟨S74240x1024, .f32⟩
  | 44 => ⟨S_, .f32⟩
  | 45 => ⟨S_, .f32⟩
  | 46 => ⟨S74240x1024, .i1⟩
  | 47 => ⟨S74240x1024, .f32⟩
  | 48 => ⟨S74240x1024, .f32⟩
  | _ => ⟨S290, .i32⟩

abbrev hbmTy (i : Nat) : BufTy := match i / 128 with
  | 0 => hbmTy0_0 i
  | 1 => hbmTy0_1 i
  | _ => ⟨S290, .i32⟩

abbrev bufTy : (tb : Table) → Fin (tcTables nBuf tb) → BufTy
  | .hbm, ⟨i, _⟩ => hbmTy i
  | _, _ => ⟨S290, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_c_2 : Ref sig .tc := ⟨.hbm, 19, rfl⟩
abbrev main_v8 : Ref sig .tc := ⟨.hbm, 20, rfl⟩
abbrev main_c_3 : Ref sig .tc := ⟨.hbm, 21, rfl⟩
abbrev main_c_4 : Ref sig .tc := ⟨.hbm, 22, rfl⟩
abbrev main_v9 : Ref sig .tc := ⟨.hbm, 23, rfl⟩
abbrev main_c_5 : Ref sig .tc := ⟨.hbm, 24, rfl⟩
abbrev main_v10 : Ref sig .tc := ⟨.hbm, 25, rfl⟩
abbrev main_c_6 : Ref sig .tc := ⟨.hbm, 26, rfl⟩
abbrev main_c_7 : Ref sig .tc := ⟨.hbm, 27, rfl⟩
abbrev main_v11 : Ref sig .tc := ⟨.hbm, 28, rfl⟩
abbrev main_c_8 : Ref sig .tc := ⟨.hbm, 29, rfl⟩
abbrev main_c_9 : Ref sig .tc := ⟨.hbm, 30, rfl⟩
abbrev main_v12 : Ref sig .tc := ⟨.hbm, 31, rfl⟩
abbrev main_c_10 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_11 : Ref sig .tc := ⟨.hbm, 41, rfl⟩
abbrev main_v21 : Ref sig .tc := ⟨.hbm, 42, rfl⟩
abbrev main_v22 : Ref sig .tc := ⟨.hbm, 43, rfl⟩
abbrev main_c_12 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_13 : Ref sig .tc := ⟨.hbm, 48, rfl⟩
abbrev main_c_14 : Ref sig .tc := ⟨.hbm, 49, rfl⟩
abbrev main_v26 : Ref sig .tc := ⟨.hbm, 50, rfl⟩
abbrev main_c_15 : Ref sig .tc := ⟨.hbm, 51, rfl⟩
abbrev main_c_16 : Ref sig .tc := ⟨.hbm, 52, rfl⟩
abbrev main_v27 : Ref sig .tc := ⟨.hbm, 53, rfl⟩
abbrev main_c_17 : Ref sig .tc := ⟨.hbm, 54, rfl⟩
abbrev main_v28 : Ref sig .tc := ⟨.hbm, 55, rfl⟩
abbrev main_c_18 : Ref sig .tc := ⟨.hbm, 56, rfl⟩
abbrev main_c_19 : Ref sig .tc := ⟨.hbm, 57, rfl⟩
abbrev main_v29 : Ref sig .tc := ⟨.hbm, 58, rfl⟩
abbrev main_c_20 : Ref sig .tc := ⟨.hbm, 59, rfl⟩
abbrev main_c_21 : Ref sig .tc := ⟨.hbm, 60, rfl⟩
abbrev main_v30 : Ref sig .tc := ⟨.hbm, 61, rfl⟩
abbrev main_c_22 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_23 : Ref sig .tc := ⟨.hbm, 77, rfl⟩
abbrev main_cst_24 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v44 : Ref sig .tc := ⟨.hbm, 84, rfl⟩
abbrev main_cst_25 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_26 : Ref sig .tc := ⟨.hbm, 90, rfl⟩
abbrev main_v49 : Ref sig .tc := ⟨.hbm, 91, rfl⟩
abbrev main_v50 : Ref sig .tc := ⟨.hbm, 92, rfl⟩
abbrev main_cst_27 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_28 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_29 : Ref sig .tc := ⟨.hbm, 101, rfl⟩
abbrev main_v57 : Ref sig .tc := ⟨.hbm, 102, rfl⟩
abbrev main_v58 : Ref sig .tc := ⟨.hbm, 103, rfl⟩
abbrev main_c_30 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_31 : Ref sig .tc := ⟨.hbm, 108, rfl⟩
abbrev main_c_32 : Ref sig .tc := ⟨.hbm, 109, rfl⟩
abbrev main_v62 : Ref sig .tc := ⟨.hbm, 110, rfl⟩
abbrev main_c_33 : Ref sig .tc := ⟨.hbm, 111, rfl⟩
abbrev main_c_34 : Ref sig .tc := ⟨.hbm, 112, rfl⟩
abbrev main_v63 : Ref sig .tc := ⟨.hbm, 113, rfl⟩
abbrev main_c_35 : Ref sig .tc := ⟨.hbm, 114, rfl⟩
abbrev main_v64 : Ref sig .tc := ⟨.hbm, 115, rfl⟩
abbrev main_c_36 : Ref sig .tc := ⟨.hbm, 116, rfl⟩
abbrev main_c_37 : Ref sig .tc := ⟨.hbm, 117, rfl⟩
abbrev main_v65 : Ref sig .tc := ⟨.hbm, 118, rfl⟩
abbrev main_c_38 : Ref sig .tc := ⟨.hbm, 119, rfl⟩
abbrev main_c_39 : Ref sig .tc := ⟨.hbm, 120, rfl⟩
abbrev main_v66 : Ref sig .tc := ⟨.hbm, 121, rfl⟩
abbrev main_c_40 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_c_41 : Ref sig .tc := ⟨.hbm, 131, rfl⟩
abbrev main_v75 : Ref sig .tc := ⟨.hbm, 132, rfl⟩
abbrev main_v76 : Ref sig .tc := ⟨.hbm, 133, rfl⟩
abbrev main_c_42 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_c_43 : Ref sig .tc := ⟨.hbm, 138, rfl⟩
abbrev main_c_44 : Ref sig .tc := ⟨.hbm, 139, rfl⟩
abbrev main_v80 : Ref sig .tc := ⟨.hbm, 140, rfl⟩
abbrev main_c_45 : Ref sig .tc := ⟨.hbm, 141, rfl⟩
abbrev main_c_46 : Ref sig .tc := ⟨.hbm, 142, rfl⟩
abbrev main_v81 : Ref sig .tc := ⟨.hbm, 143, rfl⟩
abbrev main_c_47 : Ref sig .tc := ⟨.hbm, 144, rfl⟩
abbrev main_v82 : Ref sig .tc := ⟨.hbm, 145, rfl⟩
abbrev main_c_48 : Ref sig .tc := ⟨.hbm, 146, rfl⟩
abbrev main_c_49 : Ref sig .tc := ⟨.hbm, 147, rfl⟩
abbrev main_v83 : Ref sig .tc := ⟨.hbm, 148, rfl⟩
abbrev main_c_50 : Ref sig .tc := ⟨.hbm, 149, rfl⟩
abbrev main_c_51 : Ref sig .tc := ⟨.hbm, 150, rfl⟩
abbrev main_v84 : Ref sig .tc := ⟨.hbm, 151, rfl⟩
abbrev main_c_52 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_53 : Ref sig .tc := ⟨.hbm, 172, rfl⟩
abbrev main_call1_v0 : Ref sig .tc := ⟨.hbm, 173, rfl⟩
abbrev main_call1_v1 : Ref sig .tc := ⟨.hbm, 174, rfl⟩
abbrev main_call1_v2 : Ref sig .tc := ⟨.hbm, 175, rfl⟩
abbrev main_v104 : Ref sig .tc := ⟨.hbm, 176, rfl⟩

abbrev nD : Nat := 1
abbrev τ : Topo := Topo.v7x

variable {F : FTy → Type} [FloatOps F]
-- ==== ProjP.lean ====
abbrev S8x2048x1024 : Shape := ⟨3, ![8, 2048, 1024]⟩
abbrev S1x1024 : Shape := ⟨2, ![1, 1024]⟩
abbrev S1x1024x2048 : Shape := ⟨3, ![1, 1024, 2048]⟩
abbrev S16384x1024 : Shape := ⟨2, ![16384, 1024]⟩
abbrev S1024 : Shape := ⟨1, ![1024]⟩
abbrev S1024x2048 : Shape := ⟨2, ![1024, 2048]⟩
abbrev S16384x512 : Shape := ⟨2, ![16384, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2048, .f32⟩
  | .hbm, ⟨3, _⟩ => ⟨S16384x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjPRefIdeal.lean ====
abbrev S8x2048x1024 : Shape := ⟨3, ![8, 2048, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x2048x2048 : Shape := ⟨3, ![8, 2048, 2048]⟩
abbrev S8x2048x512 : Shape := ⟨3, ![8, 2048, 512]⟩
abbrev S16384x512 : Shape := ⟨2, ![16384, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x2048, .f32⟩
  | .hbm, ⟨21, _⟩ => ⟨S8x2048x2048, .f32⟩
  | .hbm, ⟨22, _⟩ => ⟨S8x2048x512, .f32⟩
  | .hbm, ⟨23, _⟩ => ⟨S_, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== ProjS.lean ====
abbrev S32x4x1024 : Shape := ⟨3, ![32, 4, 1024]⟩
abbrev S1x1024 : Shape := ⟨2, ![1, 1024]⟩
abbrev S1x1024x2048 : Shape := ⟨3, ![1, 1024, 2048]⟩
abbrev S128x1024 : Shape := ⟨2, ![128, 1024]⟩
abbrev S1024 : Shape := ⟨1, ![1024]⟩
abbrev S1024x2048 : Shape := ⟨2, ![1024, 2048]⟩
abbrev S128x512 : Shape := ⟨2, ![128, 512]⟩
abbrev S128 : Shape := ⟨1, ![128]⟩
abbrev S128x1 : Shape := ⟨2, ![128, 1]⟩
abbrev S128x2048 : Shape := ⟨2, ![128, 2048]⟩

abbrev nBuf : Space → Nat
  | .hbm => 11
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x2048, .f32⟩
  | .hbm, ⟨3, _⟩ => ⟨S128x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x2048, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ProjSRefIdeal.lean ====
abbrev S32x4x1024 : Shape := ⟨3, ![32, 4, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x2048 : Shape := ⟨2, ![1024, 2048]⟩
abbrev S32x4x2048 : Shape := ⟨3, ![32, 4, 2048]⟩
abbrev S32x4x512 : Shape := ⟨3, ![32, 4, 512]⟩
abbrev S128x512 : Shape := ⟨2, ![128, 512]⟩

abbrev nBuf : Space → Nat
  | .hbm => 33
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S1024x2048, .f32⟩
  | .hbm, ⟨21, _⟩ => ⟨S32x4x2048, .f32⟩
  | .hbm, ⟨22, _⟩ => ⟨S32x4x512, .f32⟩
  | .hbm, ⟨23, _⟩ => ⟨S_, .f32⟩
  | .hbm, ⟨24, _⟩ => ⟨S32x4x512, .f32⟩
  | .hbm, ⟨25, _⟩ => ⟨S32x4x512, .f32⟩
  | .hbm, ⟨26, _⟩ => ⟨S32x4x512, .f32⟩
  | .hbm, ⟨27, _⟩ => ⟨S32x4x512, .f32⟩
  | .hbm, ⟨28, _⟩ => ⟨S32x4x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== FinalP.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalPRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FinalS.lean ====
abbrev S128x1024 : Shape := ⟨2, ![128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 5
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024, .f32⟩
  | .hbm, ⟨3, _⟩ => ⟨S1x1024, .f32⟩
  | .hbm, ⟨4, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== FinalSRefIdeal.lean ====
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FinishP.lean ====
abbrev S16384x1024 : Shape := ⟨2, ![16384, 1024]⟩
abbrev S16384x512 : Shape := ⟨2, ![16384, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S16384x128 : Shape := ⟨2, ![16384, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩

abbrev nBuf : Space → Nat
  | .hbm => 26
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x128, .i32⟩
  | .hbm, ⟨25, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1024x1024, .f32⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x128, .i32⟩
  | .local _ .vmem, ⟨19, _⟩ => ⟨S256x128, .i32⟩
  | .local _ .vmem, ⟨20, _⟩ => ⟨S256x128, .f32⟩
  | .local _ .vmem, ⟨21, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_cst : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FinishPRefIdeal.lean ====
abbrev S16384x1024 : Shape := ⟨2, ![16384, 1024]⟩
abbrev S16384x512 : Shape := ⟨2, ![16384, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1x512 : Shape := ⟨2, ![1, 512]⟩
abbrev S16384 : Shape := ⟨1, ![16384]⟩
abbrev S16384x1 : Shape := ⟨2, ![16384, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x512, .f32⟩
  | .hbm, ⟨69, _⟩ => ⟨S16384x512, .f32⟩
  | .hbm, ⟨70, _⟩ => ⟨S1x512, .f32⟩
  | .hbm, ⟨71, _⟩ => ⟨S16384x512, .f32⟩
  | .hbm, ⟨72, _⟩ => ⟨S16384x512, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== FinishS.lean ====
abbrev S128x1024 : Shape := ⟨2, ![128, 1024]⟩
abbrev S128x512 : Shape := ⟨2, ![128, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S128x128 : Shape := ⟨2, ![128, 128]⟩
abbrev S128x1 : Shape := ⟨2, ![128, 1]⟩
abbrev S512x1024 : Shape := ⟨2, ![512, 1024]⟩

abbrev nBuf : Space → Nat
  | .hbm => 26
  | .vmem => 15
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S128x128, .i32⟩
  | .hbm, ⟨25, _⟩ => ⟨S128x128, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1024x1024, .f32⟩
  | .local _ .vmem, ⟨8, _⟩ => ⟨S1x1024, .f32⟩
  | .local _ .vmem, ⟨9, _⟩ => ⟨S1024x128, .f32⟩
  | .local _ .vmem, ⟨10, _⟩ => ⟨S1x128, .f32⟩
  | .local _ .vmem, ⟨11, _⟩ => ⟨S128x1024, .f32⟩
  | .local _ .vmem, ⟨12, _⟩ => ⟨S128x1024, .f32⟩
  | .local _ .vmem, ⟨13, _⟩ => ⟨S128x128, .i32⟩
  | .local _ .vmem, ⟨14, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_cst : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== FinishSRefIdeal.lean ====
abbrev S128x1024 : Shape := ⟨2, ![128, 1024]⟩
abbrev S128x512 : Shape := ⟨2, ![128, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1x512 : Shape := ⟨2, ![1, 512]⟩
abbrev S128 : Shape := ⟨1, ![128]⟩
abbrev S128x1 : Shape := ⟨2, ![128, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S1x512, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x1, .f32⟩
  | .hbm, ⟨52, _⟩ => ⟨S128x512, .f32⟩
  | .hbm, ⟨53, _⟩ => ⟨S128x512, .f32⟩
  | .hbm, ⟨54, _⟩ => ⟨S1x512, .f32⟩
  | .hbm, ⟨55, _⟩ => ⟨S128x512, .f32⟩
  | .hbm, ⟨56, _⟩ => ⟨S128x512, .f32⟩
  | .hbm, ⟨57, _⟩ => ⟨S128x512, .f32⟩
  | .hbm, ⟨58, _⟩ => ⟨S_, .f32⟩
  | .hbm, ⟨59, _⟩ => ⟨S128, .f32⟩
  | .hbm, ⟨60, _⟩ => ⟨S128x1, .f32⟩
  | .hbm, ⟨61, _⟩ => ⟨S_, .f32⟩
  | .hbm, ⟨62, _⟩ => ⟨S128x1, .f32⟩
  | .hbm, ⟨63, _⟩ => ⟨S128x1, .f32⟩
  | .hbm, ⟨64, _⟩ => ⟨S_, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S128x512, .f32⟩
  | .hbm, ⟨69, _⟩ => ⟨S128x512, .f32⟩
  | .hbm, ⟨70, _⟩ => ⟨S1x512, .f32⟩
  | .hbm, ⟨71, _⟩ => ⟨S128x512, .f32⟩
  | .hbm, ⟨72, _⟩ => ⟨S128x512, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S_, .f32⟩
  | .hbm, ⟨78, _⟩ => ⟨S128, .f32⟩
  | .hbm, ⟨79, _⟩ => ⟨S128x1, .f32⟩
  | .hbm, ⟨80, _⟩ => ⟨S_, .f32⟩
  | .hbm, ⟨81, _⟩ => ⟨S128x1, .f32⟩
  | .hbm, ⟨82, _⟩ => ⟨S128x1, .f32⟩
  | .hbm, ⟨83, _⟩ => ⟨S_, .f32⟩
  | .hbm, ⟨84, _⟩ => ⟨S128x1, .f32⟩
  | .hbm, ⟨85, _⟩ => ⟨S128x1, .f32⟩
  | .hbm, ⟨86, _⟩ => ⟨S128x1, .f32⟩
  | .hbm, ⟨87, _⟩ => ⟨S128x1024, .f32⟩
  | .hbm, ⟨88, _⟩ => ⟨S128x1024, .f32⟩
  | .hbm, ⟨89, _⟩ => ⟨S1x1024, .f32⟩
  | .hbm, ⟨90, _⟩ => ⟨S128x1024, .f32⟩
  | .hbm, ⟨91, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== AttnS.lean ====
abbrev S32x4x512 : Shape := ⟨3, ![32, 4, 512]⟩
abbrev S32x2048x512 : Shape := ⟨3, ![32, 2048, 512]⟩
abbrev S4x2176 : Shape := ⟨2, ![4, 2176]⟩
abbrev S1x4x512 : Shape := ⟨3, ![1, 4, 512]⟩
abbrev S1x2048x512 : Shape := ⟨3, ![1, 2048, 512]⟩
abbrev S2176x512 : Shape := ⟨2, ![2176, 512]⟩
abbrev S2048x512 : Shape := ⟨2, ![2048, 512]⟩
abbrev S128x512 : Shape := ⟨2, ![128, 512]⟩
abbrev S4x512 : Shape := ⟨2, ![4, 512]⟩
abbrev S32x512 : Shape := ⟨2, ![32, 512]⟩
abbrev S4x1x512 : Shape := ⟨3, ![4, 1, 512]⟩
abbrev S4x8x512 : Shape := ⟨3, ![4, 8, 512]⟩
abbrev S32x2176 : Shape := ⟨2, ![32, 2176]⟩
abbrev S4x1x2176 : Shape := ⟨3, ![4, 1, 2176]⟩
abbrev S4x8x2176 : Shape := ⟨3, ![4, 8, 2176]⟩
abbrev S32 : Shape := ⟨1, ![32]⟩
abbrev S32x1 : Shape := ⟨2, ![32, 1]⟩

abbrev nBuf : Space → Nat
  | .hbm => 7
  | .vmem => 15
  | .smem => 0
  | _ => 0

abbrev bufTy : (tb : Table) → Fin (tcTables nBuf tb) → BufTy
  | .hbm, ⟨0, _⟩ => ⟨S32x4x512, .f32⟩
  | .hbm, ⟨1, _⟩ => ⟨S32x4x512, .f32⟩
  | .hbm, ⟨2, _⟩ => ⟨S32x4x512, .f32⟩
  | .hbm, ⟨3, _⟩ => ⟨S32x2048x512, .f32⟩
  | .hbm, ⟨4, _⟩ => ⟨S32x2048x512, .f32⟩
  | .hbm, ⟨5, _⟩ => ⟨S4x2176, .f32⟩
  | .hbm, ⟨6, _⟩ => ⟨S32x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S4x2176, .f32⟩
  | .local _ .vmem, ⟨11, _⟩ => ⟨S1x4x512, .f32⟩
  | .local _ .vmem, ⟨12, _⟩ => ⟨S1x4x512, .f32⟩
  | .local _ .vmem, ⟨13, _⟩ => ⟨S2176x512, .f32⟩
  | .local _ .vmem, ⟨14, _⟩ => ⟨S2176x512, .f32⟩
  | _, _ => ⟨S32x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnSIdeal.lean ====
variable {F : FTy → Type} [FloatOps F] [Named F]
def κ : String → Option EReal := fun
  | "mask" => some ⊥
  | _ => none
-- ==== AttnSRefIdeal.lean ====
abbrev S32x4x512 : Shape := ⟨3, ![32, 4, 512]⟩
abbrev S32x2048x512 : Shape := ⟨3, ![32, 2048, 512]⟩
abbrev S32x2052x512 : Shape := ⟨3, ![32, 2052, 512]⟩
abbrev S32x2052x8x64 : Shape := ⟨4, ![32, 2052, 8, 64]⟩
abbrev S32x4x8x64 : Shape := ⟨4, ![32, 4, 8, 64]⟩
abbrev S4 : Shape := ⟨1, ![4]⟩
abbrev S4x1 : Shape := ⟨2, ![4, 1]⟩
abbrev S_ : Shape := ⟨0, ![]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S32x4x129x8x64 : Shape := ⟨5, ![32, 4, 129, 8, 64]⟩
abbrev S32x4x8x129 : Shape := ⟨4, ![32, 4, 8, 129]⟩
abbrev S1x4x1x129 : Shape := ⟨4, ![1, 4, 1, 129]⟩
abbrev S32x4x8 : Shape := ⟨3, ![32, 4, 8]⟩
abbrev S32x4x8x1 : Shape := ⟨4, ![32, 4, 8, 1]⟩
abbrev S1x32x4x8 : Shape := ⟨4, ![1, 32, 4, 8]⟩
abbrev S3x32x4x8 : Shape := ⟨4, ![3, 32, 4, 8]⟩
abbrev S3x32x4x8x1 : Shape := ⟨5, ![3, 32, 4, 8, 1]⟩
abbrev S1x32x4x8x64 : Shape := ⟨5, ![1, 32, 4, 8, 64]⟩
abbrev S3x32x4x8x64 : Shape := ⟨5, ![3, 32, 4, 8, 64]⟩

abbrev nBuf : Space → Nat
  | .hbm => 215
  | .vmem => 0
  | .smem => 0
  | _ => 0

abbrev hbmTy0_0 (i : Nat) : BufTy := match i % 128 with
  | 0 => ⟨S32x4x512, .f32⟩
  | 1 => ⟨S32x4x512, .f32⟩
  | 2 => ⟨S32x4x512, .f32⟩
  | 3 => ⟨S32x2048x512, .f32⟩
  | 4 => ⟨S32x2048x512, .f32⟩
  | 5 => ⟨S32x2052x512, .f32⟩
  | 6 => ⟨S32x2052x8x64, .f32⟩
  | 7 => ⟨S32x2052x512, .f32⟩
  | 8 => ⟨S32x2052x8x64, .f32⟩
  | 9 => ⟨S32x4x8x64, .f32⟩
  | 10 => ⟨S4, .i32⟩
  | 11 => ⟨S4x1, .i32⟩
  | 12 => ⟨S_, .i32⟩
  | 13 => ⟨S4x1, .i32⟩
  | 14 => ⟨S4x1, .i32⟩
  | 15 => ⟨S129, .i32⟩
  | 16 => ⟨S1x129, .i32⟩
  | 17 => ⟨S_, .i32⟩
  | 18 => ⟨S1x129, .i32⟩
  | 19 => ⟨S1x129, .i32⟩
  | 20 => ⟨S4x129, .i32⟩
  | 21 => ⟨S4x129, .i32⟩
  | 22 => ⟨S4x129, .i32⟩
  | 23 => ⟨S_, .i32⟩
  | 24 => ⟨S4x129, .i32⟩
  | 25 => ⟨S4x129, .i1⟩
  | 26 => ⟨S_, .i32⟩
  | 27 => ⟨S4x129, .i32⟩
  | 28 => ⟨S4x129, .i32⟩
  | 29 => ⟨S_, .i32⟩
  | 30 => ⟨S4x129, .i32⟩
  | 31 => ⟨S4x129, .i1⟩
  | 32 => ⟨S_, .i32⟩
  | 33 => ⟨S4x129, .i32⟩
  | 34 => ⟨S4x129, .i32⟩
  | 35 => ⟨S4x129, .i32⟩
  | 36 => ⟨S4x129x1, .i32⟩
  | 37 => ⟨S32x4x129x8x64, .f32⟩
  | 38 => ⟨S_, .i32⟩
  | 39 => ⟨S4x129, .i32⟩
  | 40 => ⟨S4x129, .i1⟩
  | 41 => ⟨S_, .i32⟩
  | 42 => ⟨S4x129, .i32⟩
  | 43 => ⟨S4x129, .i32⟩
  | 44 => ⟨S4x129, .i32⟩
  | 45 => ⟨S4x129x1, .i32⟩
  | 46 => ⟨S32x4x129x8x64, .f32⟩
  | 47 => ⟨S32x4x8x129, .f32⟩
  | 48 => ⟨S1x4x1x129, .i1⟩
  | 49 => ⟨S_, .f32⟩
  | 50 => ⟨S_, .f32⟩
  | 51 => ⟨S32x4x8x129, .i1⟩
  | 52 => ⟨S32x4x8x129, .f32⟩
  | 53 => ⟨S32x4x8x129, .f32⟩
  | 54 => ⟨S_, .f32⟩
  | 55 => ⟨S32x4x8, .f32⟩
  | 56 => ⟨S32x4x8x1, .f32⟩
  | 57 => ⟨S32x4x8x129, .f32⟩
  | 58 => ⟨S32x4x8x129, .f32⟩
  | 59 => ⟨S32x4x8x129, .f32⟩
  | 60 => ⟨S_, .f32⟩
  | 61 => ⟨S32x4x8, .f32⟩
  | 62 => ⟨S32x4x8x1, .f32⟩
  | 63 => ⟨S32x4x8x64, .f32⟩
  | 64 => ⟨S32x4x8x64, .f32⟩
  | 65 => ⟨S32x4x8x64, .f32⟩
  | 66 => ⟨S32x4x8x1, .f32⟩
  | 67 => ⟨S32x4x8x1, .f32⟩
  | 68 => ⟨S32x4x8, .f32⟩
  | 69 => ⟨S4, .i32⟩
  | 70 => ⟨S4x1, .i32⟩
  | 71 => ⟨S_, .i32⟩
  | 72 => ⟨S4x1, .i32⟩
  | 73 => ⟨S4x1, .i32⟩
  | 74 => ⟨S129, .i32⟩
  | 75 => ⟨S1x129, .i32⟩
  | 76 => ⟨S_, .i32⟩
  | 77 => ⟨S1x129, .i32⟩
  | 78 => ⟨S1x129, .i32⟩
  | 79 => ⟨S4x129, .i32⟩
  | 80 => ⟨S4x129, .i32⟩
  | 81 => ⟨S4x129, .i32⟩
  | 82 => ⟨S_, .i32⟩
  | 83 => ⟨S4x129, .i32⟩
  | 84 => ⟨S4x129, .i1⟩
  | 85 => ⟨S_, .i32⟩
  | 86 => ⟨S4x129, .i32⟩
  | 87 => ⟨S4x129, .i32⟩
  | 88 => ⟨S_, .i32⟩
  | 89 => ⟨S4x129, .i32⟩
  | 90 => ⟨S4x129, .i1⟩
  | 91 => ⟨S_, .i32⟩
  | 92 => ⟨S4x129, .i32⟩
  | 93 => ⟨S4x129, .i32⟩
  | 94 => ⟨S4x129, .i32⟩
  | 95 => ⟨S4x129x1, .i32⟩
  | 96 => ⟨S32x4x129x8x64, .f32⟩
  | 97 => ⟨S_, .i32⟩
  | 98 => ⟨S4x129, .i32⟩
  | 99 => ⟨S4x129, .i1⟩
  | 100 => ⟨S_, .i32⟩
  | 101 => ⟨S4x129, .i32⟩
  | 102 => ⟨S4x129, .i32⟩
  | 103 => ⟨S4x129, .i32⟩
  | 104 => ⟨S4x129x1, .i32⟩
  | 105 => ⟨S32x4x129x8x64, .f32⟩
  | 106 => ⟨S32x4x8x129, .f32⟩
  | 107 => ⟨S1x4x1x129, .i1⟩
  | 108 => ⟨S_, .f32⟩
  | 109 => ⟨S_, .f32⟩
  | 110 => ⟨S32x4x8x129, .i1⟩
  | 111 => ⟨S32x4x8x129, .f32⟩
  | 112 => ⟨S32x4x8x129, .f32⟩
  | 113 => ⟨S_, .f32⟩
  | 114 => ⟨S32x4x8, .f32⟩
  | 115 => ⟨S32x4x8x1, .f32⟩
  | 116 => ⟨S32x4x8x129, .f32⟩
  | 117 => ⟨S32x4x8x129, .f32⟩
  | 118 => ⟨S32x4x8x129, .f32⟩
  | 119 => ⟨S_, .f32⟩
  | 120 => ⟨S32x4x8, .f32⟩
  | 121 => ⟨S32x4x8x1, .f32⟩
  | 122 => ⟨S32x4x8x64, .f32⟩
  | 123 => ⟨S32x4x8x64, .f32⟩
  | 124 => ⟨S32x4x8x64, .f32⟩
  | 125 => ⟨S32x4x8x1, .f32⟩
  | 126 => ⟨S32x4x8x1, .f32⟩
  | 127 => ⟨S32x4x8, .f32⟩
  | _ => ⟨S32x4x512, .f32⟩

abbrev hbmTy0_1 (i : Nat) : BufTy := match i % 128 with
  | 0 => ⟨S4, .i32⟩
  | 1 => ⟨S4x1, .i32⟩
  | 2 => ⟨S_, .i32⟩
  | 3 => ⟨S4x1, .i32⟩
  | 4 => ⟨S4x1, .i32⟩
  | 5 => ⟨S129, .i32⟩
  | 6 => ⟨S1x129, .i32⟩
  | 7 => ⟨S_, .i32⟩
  | 8 => ⟨S1x129, .i32⟩
  | 9 => ⟨S1x129, .i32⟩
  | 10 => ⟨S4x129, .i32⟩
  | 11 => ⟨S4x129, .i32⟩
  | 12 => ⟨S4x129, .i32⟩
  | 13 => ⟨S_, .i32⟩
  | 14 => ⟨S4x129, .i32⟩
  | 15 => ⟨S4x129, .i1⟩
  | 16 => ⟨S_, .i32⟩
  | 17 => ⟨S4x129, .i32⟩
  | 18 => ⟨S4x129, .i32⟩
  | 19 => ⟨S_, .i32⟩
  | 20 => ⟨S4x129, .i32⟩
  | 21 => ⟨S4x129, .i1⟩
  | 22 => ⟨S_, .i32⟩
  | 23 => ⟨S4x129, .i32⟩
  | 24 => ⟨S4x129, .i32⟩
  | 25 => ⟨S4x129, .i32⟩
  | 26 => ⟨S4x129x1, .i32⟩
  | 27 => ⟨S32x4x129x8x64, .f32⟩
  | 28 => ⟨S_, .i32⟩
  | 29 => ⟨S4x129, .i32⟩
  | 30 => ⟨S4x129, .i1⟩
  | 31 => ⟨S_, .i32⟩
  | 32 => ⟨S4x129, .i32⟩
  | 33 => ⟨S4x129, .i32⟩
  | 34 => ⟨S4x129, .i32⟩
  | 35 => ⟨S4x129x1, .i32⟩
  | 36 => ⟨S32x4x129x8x64, .f32⟩
  | 37 => ⟨S32x4x8x129, .f32⟩
  | 38 => ⟨S1x4x1x129, .i1⟩
  | 39 => ⟨S_, .f32⟩
  | 40 => ⟨S_, .f32⟩
  | 41 => ⟨S32x4x8x129, .i1⟩
  | 42 => ⟨S32x4x8x129, .f32⟩
  | 43 => ⟨S32x4x8x129, .f32⟩
  | 44 => ⟨S_, .f32⟩
  | 45 => ⟨S32x4x8, .f32⟩
  | 46 => ⟨S32x4x8x1, .f32⟩
  | 47 => ⟨S32x4x8x129, .f32⟩
  | 48 => ⟨S32x4x8x129, .f32⟩
  | 49 => ⟨S32x4x8x129, .f32⟩
  | 50 => ⟨S_, .f32⟩
  | 51 => ⟨S32x4x8, .f32⟩
  | 52 => ⟨S32x4x8x1, .f32⟩
  | 53 => ⟨S32x4x8x64, .f32⟩
  | 54 => ⟨S32x4x8x64, .f32⟩
  | 55 => ⟨S32x4x8x64, .f32⟩
  | 56 => ⟨S32x4x8x1, .f32⟩
  | 57 => ⟨S32x4x8x1, .f32⟩
  | 58 => ⟨S32x4x8, .f32⟩
  | 59 => ⟨S1x32x4x8, .f32⟩
  | 60 => ⟨S1x32x4x8, .f32⟩
  | 61 => ⟨S1x32x4x8, .f32⟩
  | 62 => ⟨S3x32x4x8, .f32⟩
  | 63 => ⟨S_, .f32⟩
  | 64 => ⟨S32x4x8, .f32⟩
  | 65 => ⟨S_, .f32⟩
  | 66 => ⟨S32x4x8, .f32⟩
  | 67 => ⟨S32x4x8, .f32⟩
  | 68 => ⟨S1x32x4x8, .f32⟩
  | 69 => ⟨S3x32x4x8, .f32⟩
  | 70 => ⟨S3x32x4x8, .f32⟩
  | 71 => ⟨S3x32x4x8, .f32⟩
  | 72 => ⟨S_, .f32⟩
  | 73 => ⟨S32x4x8, .f32⟩
  | 74 => ⟨S1x32x4x8, .f32⟩
  | 75 => ⟨S3x32x4x8, .f32⟩
  | 76 => ⟨S3x32x4x8, .f32⟩
  | 77 => ⟨S3x32x4x8x1, .f32⟩
  | 78 => ⟨S1x32x4x8x64, .f32⟩
  | 79 => ⟨S1x32x4x8x64, .f32⟩
  | 80 => ⟨S1x32x4x8x64, .f32⟩
  | 81 => ⟨S3x32x4x8x64, .f32⟩
  | 82 => ⟨S3x32x4x8x64, .f32⟩
  | 83 => ⟨S3x32x4x8x64, .f32⟩
  | 84 => ⟨S_, .f32⟩
  | 85 => ⟨S32x4x8x64, .f32⟩
  | 86 => ⟨S32x4x512, .f32⟩
  | _ => ⟨S32x4x512, .f32⟩

abbrev hbmTy (i : Nat) : BufTy := match i / 128 with
  | 0 => hbmTy0_0 i
  | 1 => hbmTy0_1 i
  | _ => ⟨S32x4x512, .f32⟩

abbrev bufTy : (tb : Table) → Fin (tcTables nBuf tb) → BufTy
  | .hbm, ⟨i, _⟩ => hbmTy i
  | _, _ => ⟨S32x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_22 : Ref sig .tc := ⟨.hbm, 141, rfl⟩
abbrev main_v106 : Ref sig .tc := ⟨.hbm, 142, rfl⟩
abbrev main_v107 : Ref sig .tc := ⟨.hbm, 143, rfl⟩
abbrev main_c_23 : Ref sig .tc := ⟨.hbm, 144, rfl⟩
abbrev main_v108 : Ref sig .tc := ⟨.hbm, 145, rfl⟩
abbrev main_v109 : Ref sig .tc := ⟨.hbm, 146, rfl⟩
abbrev main_c_24 : Ref sig .tc := ⟨.hbm, 147, rfl⟩
abbrev main_v110 : Ref sig .tc := ⟨.hbm, 148, rfl⟩
abbrev main_v111 : Ref sig .tc := ⟨.hbm, 149, rfl⟩
abbrev main_c_25 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_26 : Ref sig .tc := ⟨.hbm, 156, rfl⟩
abbrev main_v117 : Ref sig .tc := ⟨.hbm, 157, rfl⟩
abbrev main_v118 : Ref sig .tc := ⟨.hbm, 158, rfl⟩
abbrev main_c_27 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_28 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_v126 : Ref sig .tc := ⟨.hbm, 171, rfl⟩
abbrev main_cst_29 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_31 : Ref sig .tc := ⟨.hbm, 191, rfl⟩
abbrev main_v144 : Ref sig .tc := ⟨.hbm, 192, rfl⟩
abbrev main_cst_32 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_33 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_34 : Ref sig .tc := ⟨.hbm, 212, rfl⟩
abbrev main_v162 : Ref sig .tc := ⟨.hbm, 213, rfl⟩
abbrev main_v163 : Ref sig .tc := ⟨.hbm, 214, rfl⟩

abbrev nD : Nat := 1
abbrev τ : Topo := Topo.v7x

variable {F : FTy → Type} [FloatOps F]
-- ==== Proof.MoeIdeal.Runs.lean ====
/- The routed-experts call, first part: @main up to its one pipeline, the prefetched tables, the windows' blocks, and how the frame
   follows from a run of the pipeline. Everything is for any contents of the tables that keep every block inside its array. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Routed

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S290 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f`; read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c)))⟩) h

/-! ## The kernel body on any staging memrefs: a subtype the run finds -/

/-- One staging buffer of output window 6, through which its contents are stated (`View.read_writes_of_cover`: the
    choice does not matter). -/
abbrev VO0_6 : View sig .tc .vmem S256x1024 .f32 := (Memref.whole cc0_stg6_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x1024 .f32 := spec0_6.stage ((cfgM m hO).slots t 6)
abbrev hs0_6 (hO : Ok m) (t : Fin (cfgM m hO).N) : (ms0_6 m hO t).IsWhole := hstage0_6 (((cfgM m hO).slots t 6).cast nbuf0_6)

/-- Window 6 (result 0 the output) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-! ## Which tiles are used -/

/-- The word the kernel compares its tile number with: the count of used tiles, read out of the second table. -/
abbrev usedWord {c : Dev nD} (xt1 : TbBuf0 (F := F) c tbM0_1) : BitVec 32 :=
  View.readAt (Elt F) (tbM0_1).view (Rect.unit (s := S1) ![0] S1.size inb_S1_S1_0).toLoadRect xt1 (Shape.Idx.first (numel1_S1.symm ▸ Nat.one_pos))

/-- A tile is used or unused: the two conditions of the kernel exclude each other … -/
theorem not_unused (i : grid0.Coords) (v : BitVec 32) (h : k0_cond1 i v = 1#1) : ¬ k0_cond2 i v = 1#1 := by
  revert h
  simp only [k0_cond1, k0_cond2, Scalar.cmpi, IntOp.cmpi, BitVec.sle_eq_not_slt]
  cases (BitVec.ofNat 32 (i 0).val).slt v <;> decide

/-- … and one of them holds. -/
theorem unused_of_not (i : grid0.Coords) (v : BitVec 32) (h : ¬ k0_cond1 i v = 1#1) : k0_cond2 i v = 1#1 := by
  revert h
  simp only [k0_cond1, k0_cond2, Scalar.cmpi, IntOp.cmpi, BitVec.sle_eq_not_slt]
  cases (BitVec.ofNat 32 (i 0).val).slt v <;> decide

/-- So the output is stored at every point. -/
theorem not_idle (pf : pre0.Contents (Elt F)) (i : grid0.Coords) : idle0 pf 6 i = false := by
  by_cases h : k0_cond1 i (pf.atD 1 ![0]) = 1#1
  · simp only [idle0, h, beq_self_eq_true, Bool.not_true, Bool.false_and]
  · simp only [idle0, unused_of_not i _ h, beq_self_eq_true, Bool.not_true, Bool.and_false]

end Cert.MoeIdeal.Routed

end
-- ==== Proof.MoeIdeal.Body.lean ====
/- The routed-experts call, second part: the body run once on a used tile and once on an unused one. -/
module

public import proofs.«01_k».proof.Proof.Gen.MoeIdeal.Launch
public import proofs.«01_k».proof.Proof.Gen.MoeIdeal.Skeleton
public import proofs.«01_k».proof.Proof.MoeIdeal.Runs
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Routed

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On a used tile: what the body stores into the output's staging memref, as pieces, with the proof that from whole staging memrefs it
    runs to the continuation holding the inputs and tables as they were and the output with those pieces written. -/
noncomputable def kernelRun0_A (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec F S256x1024 .f32) (x1 : Vec F S256x1 .f32) (x2 : Vec F S1x1024x2048 .f32) (x3 : Vec F S1x1x2048 .f32) (x4 : Vec F S1x1024x1024 .f32) (x5 : Vec F S1x1x1024 .f32) (xt0 : TbBuf0 (F := F) c tbM0_0) (xt1 : TbBuf0 (F := F) c tbM0_1)
    (k0_h1 : k0_cond1 i (usedWord xt1) = 1#1) (k0_h2 : ¬ k0_cond2 i (usedWord xt1) = 1#1) :
    { L6 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ tbPt0 c tbM0_0 xt0 ∗ tbPt0 c tbM0_1 xt1) -∗ K ⟨⟩))
          ⊢ wp frame (wpE (defs₀ (F := F)) Variants.none c none) E (cc0_moe i tbM0_0 htbM0_0 tbM0_1 htbM0_1 arg3 harg3 arg4 harg4 arg5 harg5 arg6 harg6 arg7 harg7 arg8 harg8 arg9 harg9) K } := by
  refine ⟨?_, fun E K => ?run⟩
  case run =>
    simp only [cc0_moe_eq_skeleton]; unfold cc0_moe_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | (guard_target = k0_cond1 _ _ = _; exact k0_h1) | (guard_target = ¬ k0_cond2 _ _ = _; exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HT0]; · iexact HT0
    iexact HT1

set_option maxHeartbeats 1000000 in
/-- On an unused tile: the same; what is stored there is the block of zeros. -/
noncomputable def kernelRun0_B (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec F S256x1024 .f32) (x1 : Vec F S256x1 .f32) (x2 : Vec F S1x1024x2048 .f32) (x3 : Vec F S1x1x2048 .f32) (x4 : Vec F S1x1024x1024 .f32) (x5 : Vec F S1x1x1024 .f32) (xt0 : TbBuf0 (F := F) c tbM0_0) (xt1 : TbBuf0 (F := F) c tbM0_1)
    (k0_h1 : ¬ k0_cond1 i (usedWord xt1) = 1#1) (k0_h2 : k0_cond2 i (usedWord xt1) = 1#1) :
    { L6 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ tbPt0 c tbM0_0 xt0 ∗ tbPt0 c tbM0_1 xt1) -∗ K ⟨⟩))
          ⊢ wp frame (wpE (defs₀ (F := F)) Variants.none c none) E (cc0_moe i tbM0_0 htbM0_0 tbM0_1 htbM0_1 arg3 harg3 arg4 harg4 arg5 harg5 arg6 harg6 arg7 harg7 arg8 harg8 arg9 harg9) K } := by
  refine ⟨?_, fun E K => ?run⟩
  case run =>
    simp only [cc0_moe_eq_skeleton]; unfold cc0_moe_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | (guard_target = ¬ k0_cond1 _ _ = _; exact k0_h1) | (guard_target = k0_cond2 _ _ = _; exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HT0]; · iexact HT0
    iexact HT1

end Cert.MoeIdeal.Routed

end
-- ==== Proof.MoeIdeal.Frame.lean ====
/- The routed-experts call, third part: what the output block holds after each tile, the pipeline's proof data, and the frame. -/
module

public import proofs.«01_k».proof.Proof.Gen.MoeIdeal.Launch
public import proofs.«01_k».proof.Proof.Gen.MoeIdeal.Skeleton
public import proofs.«01_k».proof.Proof.MoeIdeal.Body
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Routed

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 6 tile its block (one store of the whole block), so they cover it. -/
theorem cover0_A_6 (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec F S256x1024 .f32) (x1 : Vec F S256x1 .f32) (x2 : Vec F S1x1024x2048 .f32) (x3 : Vec F S1x1x2048 .f32) (x4 : Vec F S1x1024x1024 .f32) (x5 : Vec F S1x1x1024 .f32) (xt0 : TbBuf0 (F := F) c tbM0_0) (xt1 : TbBuf0 (F := F) c tbM0_1) (k0_h1 : k0_cond1 i (usedWord xt1) = 1#1) (k0_h2 : ¬ k0_cond2 i (usedWord xt1) = 1#1) (y : S256x1024.Idx) :
    ∃ pc ∈ (kernelRun0_A c i arg3 harg3 arg4 harg4 arg5 harg5 arg6 harg6 arg7 harg7 arg8 harg8 arg9 harg9 x0 x1 x2 x3 x4 x5 xt0 xt1 k0_h1 k0_h2).1, y ∈ pc.1.set :=
  View.cover_of_tiledL (kernelRun0_A c i arg3 harg3 arg4 harg4 arg5 harg5 arg6 harg6 arg7 harg7 arg8 harg8 arg9 harg9 x0 x1 x2 x3 x4 x5 xt0 xt1 k0_h1 k0_h2).1 S256x1024.size (by sl_kernel_rfl) y

/-- What the run leaves in output 6's staging buffer: its pieces read back over junk. -/
def out0_A_6 (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec F S256x1024 .f32) (x1 : Vec F S256x1 .f32) (x2 : Vec F S1x1024x2048 .f32) (x3 : Vec F S1x1x2048 .f32) (x4 : Vec F S1x1024x1024 .f32) (x5 : Vec F S1x1x1024 .f32) (xt0 : TbBuf0 (F := F) c tbM0_0) (xt1 : TbBuf0 (F := F) c tbM0_1) (k0_h1 : k0_cond1 i (usedWord xt1) = 1#1) (k0_h2 : ¬ k0_cond2 i (usedWord xt1) = 1#1) : Vec F S256x1024 .f32 :=
  VO0_6.read (Elt F) (VO0_6.writes (Elt F) VO0_6.junk (kernelRun0_A c i arg3 harg3 arg4 harg4 arg5 harg5 arg6 harg6 arg7 harg7 arg8 harg8 arg9 harg9 x0 x1 x2 x3 x4 x5 xt0 xt1 k0_h1 k0_h2).1)

/-- The run's pieces for output 6 tile its block (one store of the whole block), so they cover it. -/
theorem cover0_B_6 (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec F S256x1024 .f32) (x1 : Vec F S256x1 .f32) (x2 : Vec F S1x1024x2048 .f32) (x3 : Vec F S1x1x2048 .f32) (x4 : Vec F S1x1024x1024 .f32) (x5 : Vec F S1x1x1024 .f32) (xt0 : TbBuf0 (F := F) c tbM0_0) (xt1 : TbBuf0 (F := F) c tbM0_1) (k0_h1 : ¬ k0_cond1 i (usedWord xt1) = 1#1) (k0_h2 : k0_cond2 i (usedWord xt1) = 1#1) (y : S256x1024.Idx) :
    ∃ pc ∈ (kernelRun0_B c i arg3 harg3 arg4 harg4 arg5 harg5 arg6 harg6 arg7 harg7 arg8 harg8 arg9 harg9 x0 x1 x2 x3 x4 x5 xt0 xt1 k0_h1 k0_h2).1, y ∈ pc.1.set :=
  View.cover_of_tiledL (kernelRun0_B c i arg3 harg3 arg4 harg4 arg5 harg5 arg6 harg6 arg7 harg7 arg8 harg8 arg9 harg9 x0 x1 x2 x3 x4 x5 xt0 xt1 k0_h1 k0_h2).1 S256x1024.size (by sl_kernel_rfl) y

/-- What the run leaves in output 6's staging buffer: its pieces read back over junk. -/
def out0_B_6 (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec F S256x1024 .f32) (x1 : Vec F S256x1 .f32) (x2 : Vec F S1x1024x2048 .f32) (x3 : Vec F S1x1x2048 .f32) (x4 : Vec F S1x1024x1024 .f32) (x5 : Vec F S1x1x1024 .f32) (xt0 : TbBuf0 (F := F) c tbM0_0) (xt1 : TbBuf0 (F := F) c tbM0_1) (k0_h1 : ¬ k0_cond1 i (usedWord xt1) = 1#1) (k0_h2 : k0_cond2 i (usedWord xt1) = 1#1) : Vec F S256x1024 .f32 :=
  VO0_6.read (Elt F) (VO0_6.writes (Elt F) VO0_6.junk (kernelRun0_B c i arg3 harg3 arg4 harg4 arg5 harg5 arg6 harg6 arg7 harg7 arg8 harg8 arg9 harg9 x0 x1 x2 x3 x4 x5 xt0 xt1 k0_h1 k0_h2).1)

/-! ## What the outputs hold after each point -/

/-- What the outputs' staging buffers hold after the body at point `t`: the run's contents at
    the point's memrefs and input blocks. -/
def outsAt0 (hO : Ok m) (c : Dev nD) (t : Fin (cfgM m hO).N) : Vec F S256x1024 .f32 :=
  if h : k0_cond1 (grid0.coords t) (usedWord (c := c) (tbl m 1)) = 1#1 then
    out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (iblk m hO c 5 t) (tbl m 0) (tbl m 1) h (not_unused _ _ h)
  else
    out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (iblk m hO c 5 t) (tbl m 0) (tbl m 1) h (unused_of_not _ _ h)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t)
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  by_cases h : k0_cond1 (grid0.coords t) (usedWord (c := c) (tbl m 1)) = 1#1
  · rw [outsAt0, dif_pos h]
    unfold out0_A_6
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) h (not_unused _ _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT0]; · iexact HT0
    isplitl [HT1]; · iexact HT1
    iintro ⟨H0, H1, H2, H3, H4, H5, ⟨%e6, H6⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ h (not_unused _ _ h))
  · rw [outsAt0, dif_neg h]
    unfold out0_B_6
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) h (unused_of_not _ _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT0]; · iexact HT0
    isplitl [HT1]; · iexact HT1
    iintro ⟨H0, H1, H2, H3, H4, H5, ⟨%e6, H6⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ h (unused_of_not _ _ h))

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What is asked of the output's buffer after the body, for a window that may be left alone at some points; this one never is. -/
theorem after_stored (hO : Ok m) (c : Dev nD) (t : Fin (cfgM m hO).N) :
    (match (cfgM m hO).idle (6 : Fin 7) ((cfgM m hO).grid.coords t) with
      | true =>
        match ((cfgM m hO).win (6 : Fin 7)).flush t with
        | false => iprop(∃ d, owns (c : Thread nD τ) (ms0_6 m hO t) fullShare ((dats m hO 0 c).before 6 t d))
        | true => owns (c : Thread nD τ) (ms0_6 m hO t) fullShare ((dats m hO 0 c).after 6 t)
      | false => owns (c : Thread nD τ) (ms0_6 m hO t) fullShare ((dats m hO 0 c).after 6 t))
      = (owns (c : Thread nD τ) (ms0_6 m hO t) fullShare ((dats m hO 0 c).after 6 t) : sProp 𝕄) := by
  have i6 : (cfgM m hO).idle (6 : Fin 7) ((cfgM m hO).grid.coords t) = false := not_idle _ _
  rw [i6]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  have h := sound_body m hO c t
  unfold bodyPost at h
  rw [← after_stored] at h
  exact triple_restated h rfl .rfl fun _ => .rfl

/-! ## The run and the frame -/

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame: the argument arrays end unchanged and every counter at zero, for tables whose expert indices select blocks inside the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.MoeIdeal.Routed

end
-- ==== Proof.MoeIdeal.Pre.lean ====
/- The precondition "every tile's expert index is one of the 32" keeps every block of the routed-experts call inside its array. -/
module

public import proofs.«01_k».proof.Defs
public import proofs.«01_k».proof.Proof.Gen.Pre_experts_in_range
public import proofs.«01_k».proof.Proof.MoeIdeal.Frame
public import Idealize.ShloMosaic.Lib.ReduceAll
public import Idealize.ShloMosaic.Lib.WordCmp

@[expose] public section

set_option maxRecDepth 16384

noncomputable section

namespace Cert.MoeIdeal.Routed

open Cert.MoeIdeal Cert.MoeIdeal.Gen
open Idealize.ShloMosaic Idealize.ShloMosaic.TcCoe

variable (m : (ℓ : Loc nD τ sig) → Buf (Elt Ideal) ℓ)

/-- Every tile's expert index, read as a natural number, is below 32. -/
theorem expert_lt (h : Cert.Pre_MoeIdeal m) (c : Dev nD) (y : S290.Idx) : (m ((c : Thread nD τ).loc main_arg0) y).toNat < 32 := by
  have e := congrFun (h c) (Shape.Idx.first (by decide))
  have e' := Host.reduce_andi_all _ _ _ _ _ e y
  simp only [andi, cmpi, broadcastInDim, constantI, IntOp.cmpi, WordCmp.andi_ofBool, WordCmp.ofBool_eq_one_iff, Bool.and_eq_true] at e'
  obtain ⟨hge, hlt⟩ := e'
  simp only [BitVec.sle, BitVec.slt, decide_eq_true_eq, BitVec.toInt, BitVec.toNat_ofNat] at hge hlt
  omega

/-- So every block a tile's expert index selects lies inside its array. -/
theorem ok_of_pre (h : Cert.Pre_MoeIdeal m) : Ok m := by
  have hat : ∀ r h1, ((tbl m).at 0 r h1).toNat < 32 := fun r h1 => expert_lt m h 0 _
  refine ⟨fun i => ?_, fun i => ?_, fun i => ?_, fun i => ?_⟩
  all_goals
    refine ⟨fun a => ?_, .inl rfl⟩
    fin_cases a
    · exact (Nat.mul_one _).le.trans (hat _ _)
    all_goals exact Nat.le_of_eq (Nat.one_mul _)

end Cert.MoeIdeal.Routed

end
-- ==== Proof.MoeRef.Gather.lean ====
/- Reading one matrix of a stack by a table of starts: `table[i]` for a stack of matrices, as the host program writes it. -/
module

public import Idealize.ShloMosaic.Lib.Pointwise

@[expose] public section

set_option maxRecDepth 16384

namespace Cert.MoeRefIdeal.Stack

open Idealize.ShloMosaic

/-- The gather that takes, for each of `G` starts, one whole `R` by `C` matrix out of a stack of `N`. -/
abbrev dims (N R C G : Nat) (wf : GatherDims.WF ⟨3, ![N, R, C]⟩ ⟨2, ![G, 3]⟩ ⟨4, ![G, 1, R, C]⟩ [1, 2, 3] [] [] [0, 1, 2] [] 1 ![1, R, C]) :
    GatherDims ⟨3, ![N, R, C]⟩ ⟨2, ![G, 3]⟩ ⟨4, ![G, 1, R, C]⟩ where
  offsetDims := [1, 2, 3]
  collapsedSliceDims := []
  operandBatchingDims := []
  startIndicesBatchingDims := []
  startIndexMap := [0, 1, 2]
  indexVectorDim := 1
  sliceSizes := ![1, R, C]
  wf := wf

/-- It reads matrix `e` when the first component of the start, read signed and clamped into the stack, is `e`: on the other
    two axes the slice is the whole extent, so the clamped start is zero whatever the components are. -/
theorem gather_at {α : Type} (N R C G : Nat)
    (wf : GatherDims.WF ⟨3, ![N, R, C]⟩ ⟨2, ![G, 3]⟩ ⟨4, ![G, 1, R, C]⟩ [1, 2, 3] [] [] [0, 1, 2] [] 1 ![1, R, C])
    (x : (⟨3, ![N, R, C]⟩ : Shape).Idx → α) (idx : IVec ⟨2, ![G, 3]⟩ 32) (g : Fin G) (i : Fin R) (j : Fin C) (e : Fin N)
    (h : min (idx (ix2 g 0)).toInt.toNat (N - 1) = e.val) :
    Host.gather (dims N R C G wf) x idx (ix4 g 0 i j) = x (ix3 e i j) := by
  unfold Host.gather
  refine congrArg x ?_
  funext a
  refine Fin.ext ?_
  show (dims N R C G wf).start (ix4 g 0 i j) idx a + (dims N R C G wf).batchCoord (ix4 g 0 i j) a
    + (dims N R C G wf).offCoord (ix4 g 0 i j) a = _
  rw [GatherDims.batchCoord_eq_zero _ _ _ List.not_mem_nil]
  match a with
  | ⟨0, _⟩ =>
    have hs : (dims N R C G wf).start (ix4 g 0 i j) idx 0 = e.val := by
      unfold GatherDims.start
      rw [dif_pos (show (0 : Fin 3) ∈ (dims N R C G wf).startIndexMap from List.mem_cons_self ..)]
      refine Eq.trans ?_ h
      refine congrArg (fun k => min (idx k).toInt.toNat (N - 1)) ?_
      funext b; refine Fin.ext ?_
      match b with
      | ⟨0, _⟩ => rfl
      | ⟨1, _⟩ => rfl
    exact congrArg (fun k => k + 0 + 0) hs
  | ⟨1, _⟩ =>
    have hs : (dims N R C G wf).start (ix4 g 0 i j) idx 1 = 0 :=
      Nat.le_zero.mp (((dims N R C G wf).start_le _ _ _).trans (Nat.sub_self R).le)
    exact (congrArg (fun k => k + 0 + i.val) hs).trans (by simp)
  | ⟨2, _⟩ =>
    have hs : (dims N R C G wf).start (ix4 g 0 i j) idx 2 = 0 :=
      Nat.le_zero.mp (((dims N R C G wf).start_le _ _ _).trans (Nat.sub_self C).le)
    exact (congrArg (fun k => k + 0 + j.val) hs).trans (by simp)

end Cert.MoeRefIdeal.Stack
-- ==== Proof.MoeRef.Value.lean ====
/- The reference of the routed-experts call, built from its stages, and what each stage holds at an index. -/
module

public import proofs.«01_k».proof.Proof.Gen.MoeRefIdeal
public import proofs.«01_k».proof.Proof.MoeRef.Gather
public import Idealize.ShloMosaic.Lib.Pointwise
public import Idealize.ShloMosaic.Lib.WordCmp

@[expose] public section

set_option maxRecDepth 16384

noncomputable section

namespace Cert.MoeRefIdeal.Stages

open Cert.MoeRefIdeal Cert.MoeRefIdeal.Gen
open Idealize.ShloMosaic Idealize.ShloMosaic.TcCoe
open scoped BigOperators

/-! ## The stages -/

/-- The expert of each block of 128 rows: two blocks a tile. -/
def blockExp (a0 : IVec S290 32) : IVec S580 32 :=
  shapeCast _ (broadcastInDim S290x2 ![0] bcast_S290_S290x2_0 a0) shapeCasts_S290x2_S580

/-- The starts of the blocks' matrices in a stack of 32 matrices of `r` by `k`, negative ones wrapped. -/
def starts (a0 : IVec S290 32) (r k : BitVec 32) : IVec S580x3 32 :=
  concatenate S580x3 1
    [⟨S580x1, broadcastInDim S580x1 ![0] bcast_S580_S580x1_0
        (select (cmpi .slt (blockExp a0) (broadcastInDim S580 ![] bcast_S_S580 (constantI S_ 32 0#32)))
          (addi (blockExp a0) (broadcastInDim S580 ![] bcast_S_S580 (constantI S_ 32 32#32))) (blockExp a0))⟩,
     ⟨S580x1, broadcastInDim S580x1 ![] bcast_S_S580x1
        (select (cmpi .slt (constantI S_ 32 0#32) (constantI S_ 32 0#32)) (addi (constantI S_ 32 0#32) (constantI S_ 32 r)) (constantI S_ 32 0#32))⟩,
     ⟨S580x1, broadcastInDim S580x1 ![] bcast_S_S580x1
        (select (cmpi .slt (constantI S_ 32 0#32) (constantI S_ 32 0#32)) (addi (constantI S_ 32 0#32) (constantI S_ 32 k)) (constantI S_ 32 0#32))⟩]
    concatenates_S580x1_S580x1_S580x1_S580x3_d1

/-- The blocks' first weights, -/
def W1 (a0 : IVec S290 32) (a4 : FVec Ideal S32x1024x2048 .f32) : FVec Ideal S580x1024x2048 .f32 :=
  shapeCast _ (Host.gather gather_S32x1024x2048_S580x3_S580x1x1024x2048_123_n_n_n_012_1_110242048 a4 (starts a0 1024#32 2048#32))
    shapeCasts_S580x1x1024x2048_S580x1024x2048
/-- first biases, -/
def B1 (a0 : IVec S290 32) (a5 : FVec Ideal S32x1x2048 .f32) : FVec Ideal S580x1x2048 .f32 :=
  shapeCast _ (Host.gather gather_S32x1x2048_S580x3_S580x1x1x2048_123_n_n_n_012_1_112048 a5 (starts a0 1#32 2048#32))
    shapeCasts_S580x1x1x2048_S580x1x2048
/-- second weights -/
def W2 (a0 : IVec S290 32) (a6 : FVec Ideal S32x1024x1024 .f32) : FVec Ideal S580x1024x1024 .f32 :=
  shapeCast _ (Host.gather gather_S32x1024x1024_S580x3_S580x1x1024x1024_123_n_n_n_012_1_110241024 a6 (starts a0 1024#32 1024#32))
    shapeCasts_S580x1x1024x1024_S580x1024x1024
/-- and second biases. -/
def B2 (a0 : IVec S290 32) (a7 : FVec Ideal S32x1x1024 .f32) : FVec Ideal S580x1x1024 .f32 :=
  shapeCast _ (Host.gather gather_S32x1x1024_S580x3_S580x1x1x1024_123_n_n_n_012_1_111024 a7 (starts a0 1#32 1024#32))
    shapeCasts_S580x1x1x1024_S580x1x1024

/-- The first product, with its bias. -/
def U (a2 : FVec Ideal S74240x1024 .f32) (w1 : FVec Ideal S580x1024x2048 .f32) (b1 : FVec Ideal S580x1x2048 .f32) :
    FVec Ideal S580x128x2048 .f32 :=
  addf (Host.dotGeneral dot_S580x128x1024_S580x1024x2048_S580x128x2048_2_1_1_2_0_0 none
      (shapeCast S580x128x1024 a2 shapeCasts_S74240x1024_S580x128x1024) w1)
    (broadcastInDim S580x128x2048 ![0, 1, 2] bcast_S580x1x2048_S580x128x2048_0_1_2 b1)

/-- The gate half of the first product, clipped above. -/
abbrev gateHalf (u : FVec Ideal S580x128x2048 .f32) : FVec Ideal S580x128x1024 .f32 :=
  minimumf (extractStridedSlice S580x128x1024 ![0, 0, 0] u slices_S580x128x2048_S580x128x1024_0_0_0)
    (broadcastInDim S580x128x1024 ![] bcast_S_S580x128x1024 (constant S_ .f32 0x40E00000#32))

/-- The hidden values: the clipped gate half under its sigmoid, times the clipped linear half plus one. -/
def H (u : FVec Ideal S580x128x2048 .f32) : FVec Ideal S580x128x1024 .f32 :=
  mulf
    (mulf (gateHalf u)
      (Host.divf (broadcastInDim S580x128x1024 ![] bcast_S_S580x128x1024 (constant S_ .f32 0x3F800000#32))
        (addf (broadcastInDim S580x128x1024 ![] bcast_S_S580x128x1024 (constant S_ .f32 0x3F800000#32))
          (Host.exp (Host.negf (mulf (broadcastInDim S580x128x1024 ![] bcast_S_S580x128x1024 (constant S_ .f32 0x3FD9DB23#32)) (gateHalf u)))))))
    (addf
      (minimumf (broadcastInDim S580x128x1024 ![] bcast_S_S580x128x1024 (id (constant S_ .f32 0x40E00000#32)))
        (maximumf (broadcastInDim S580x128x1024 ![] bcast_S_S580x128x1024 (id (constant S_ .f32 0xC0E00000#32)))
          (extractStridedSlice S580x128x1024 ![0, 0, 1024] u slices_S580x128x2048_S580x128x1024_0_0_1024)))
      (broadcastInDim S580x128x1024 ![] bcast_S_S580x128x1024 (constant S_ .f32 0x3F800000#32)))

/-- The second product, with its bias. -/
def O (h : FVec Ideal S580x128x1024 .f32) (w2 : FVec Ideal S580x1024x1024 .f32) (b2 : FVec Ideal S580x1x1024 .f32) :
    FVec Ideal S580x128x1024 .f32 :=
  addf (Host.dotGeneral dot_S580x128x1024_S580x1024x1024_S580x128x1024_2_1_1_2_0_0 none h w2)
    (broadcastInDim S580x128x1024 ![0, 1, 2] bcast_S580x1x1024_S580x128x1024_0_1_2 b2)

/-- Which rows lie in a used tile. -/
def used (a1 : IVec S1 32) : IVec S74240 1 :=
  cmpi .slt (shapeCast S74240 (broadcastInDim S290x256 ![0] bcast_S290_S290x256_0 (iotaInDim S290 32 0)) shapeCasts_S290x256_S74240)
    (broadcastInDim S74240 ![] bcast_S_S74240 (shapeCast S_ a1 shapeCasts_S1_S_))

/-- The rows, each by its gate, and zero in the unused tiles. -/
def gated (a1 : IVec S1 32) (a3 : FVec Ideal S74240x1 .f32) (o : FVec Ideal S580x128x1024 .f32) : FVec Ideal S74240x1024 .f32 :=
  select (broadcastInDim S74240x1024 ![0, 1] bcast_S74240x1_S74240x1024_0_1 (broadcastInDim S74240x1 ![0] bcast_S74240_S74240x1_0 (used a1)))
    (mulf (shapeCast S74240x1024 o shapeCasts_S580x128x1024_S74240x1024)
      (broadcastInDim S74240x1024 ![0, 1] bcast_S74240x1_S74240x1024_0_1 a3))
    (broadcastInDim S74240x1024 ![] bcast_S_S74240x1024 (id (constant S_ .f32 0x00000000#32)))

/-- The reference's result. -/
def REF (a0 : IVec S290 32) (a1 : IVec S1 32) (a2 : FVec Ideal S74240x1024 .f32) (a3 : FVec Ideal S74240x1 .f32)
    (a4 : FVec Ideal S32x1024x2048 .f32) (a5 : FVec Ideal S32x1x2048 .f32) (a6 : FVec Ideal S32x1024x1024 .f32)
    (a7 : FVec Ideal S32x1x1024 .f32) : FVec Ideal S74240x1024 .f32 :=
  gated a1 a3 (O (H (U a2 (W1 a0 a4) (B1 a0 a5))) (W2 a0 a6) (B2 a0 a7))

/-! ## The stages at an index -/

/-- Block `g`'s expert is tile `g / 2`'s. -/
theorem blockExp_at (a0 : IVec S290 32) (g : Fin 580) : blockExp a0 (ix1 g) = a0 (ix1 ⟨g.val / 2, by omega⟩) := by
  pointwise [blockExp]

/-- The first component of block `g`'s start, read signed and clamped, is its expert, when that is one of the 32. -/
theorem starts_at (a0 : IVec S290 32) (r k : BitVec 32) (g : Fin 580) (h : (a0 (ix1 ⟨g.val / 2, by omega⟩)).toNat < 32) :
    min (starts a0 r k (ix2 g 0)).toInt.toNat (32 - 1) = (a0 (ix1 ⟨g.val / 2, by omega⟩)).toNat := by
  have e : starts a0 r k (ix2 g 0) = a0 (ix1 ⟨g.val / 2, by omega⟩) := by
    pointwise [starts, blockExp_at]
    generalize a0 (ix1 ⟨g.val / 2, by omega⟩) = v at h
    have hs : BitVec.slt v 0#32 = false := by
      simp only [BitVec.slt, decide_eq_false_iff_not, BitVec.toInt, BitVec.toNat_ofNat]; omega
    simp [IntOp.cmpi, hs, Scalar.select]
  rw [e]
  generalize a0 (ix1 ⟨g.val / 2, by omega⟩) = v at h
  rw [BitVec.toInt_eq_toNat_of_lt (by omega)]
  simp only [Int.toNat_natCast]
  omega

variable (a0 : IVec S290 32)

/-- The expert of block `g`, when it is one of the 32. -/
abbrev expertOf (h : ∀ y, (a0 y).toNat < 32) (t : Fin 290) : Fin 32 := ⟨(a0 (ix1 t)).toNat, h _⟩

theorem W1_at (h : ∀ y, (a0 y).toNat < 32) (a4 : FVec Ideal S32x1024x2048 .f32) (g : Fin 580) (i : Fin 1024) (j : Fin 2048) :
    W1 a0 a4 (ix3 g i j) = a4 (ix3 (expertOf a0 h ⟨g.val / 2, by omega⟩) i j) := by
  refine Eq.trans ?_ (Stack.gather_at 32 1024 2048 580 gather_S32x1024x2048_S580x3_S580x1x1024x2048_123_n_n_n_012_1_110242048_wf a4
    (starts a0 1024#32 2048#32) g i j (expertOf a0 h ⟨g.val / 2, by omega⟩) (starts_at a0 _ _ g (h _)))
  unfold W1
  generalize hx : Host.gather gather_S32x1024x2048_S580x3_S580x1x1024x2048_123_n_n_n_012_1_110242048 a4 (starts a0 1024#32 2048#32) = X
  refine Eq.trans ?_ (congrFun hx _).symm
  pointwise []

theorem B1_at (h : ∀ y, (a0 y).toNat < 32) (a5 : FVec Ideal S32x1x2048 .f32) (g : Fin 580) (j : Fin 2048) :
    B1 a0 a5 (ix3 g 0 j) = a5 (ix3 (expertOf a0 h ⟨g.val / 2, by omega⟩) 0 j) := by
  refine Eq.trans ?_ (Stack.gather_at 32 1 2048 580 gather_S32x1x2048_S580x3_S580x1x1x2048_123_n_n_n_012_1_112048_wf a5
    (starts a0 1#32 2048#32) g 0 j (expertOf a0 h ⟨g.val / 2, by omega⟩) (starts_at a0 _ _ g (h _)))
  unfold B1
  generalize hx : Host.gather gather_S32x1x2048_S580x3_S580x1x1x2048_123_n_n_n_012_1_112048 a5 (starts a0 1#32 2048#32) = X
  refine Eq.trans ?_ (congrFun hx _).symm
  pointwise []

theorem W2_at (h : ∀ y, (a0 y).toNat < 32) (a6 : FVec Ideal S32x1024x1024 .f32) (g : Fin 580) (i j : Fin 1024) :
    W2 a0 a6 (ix3 g i j) = a6 (ix3 (expertOf a0 h ⟨g.val / 2, by omega⟩) i j) := by
  refine Eq.trans ?_ (Stack.gather_at 32 1024 1024 580 gather_S32x1024x1024_S580x3_S580x1x1024x1024_123_n_n_n_012_1_110241024_wf a6
    (starts a0 1024#32 1024#32) g i j (expertOf a0 h ⟨g.val / 2, by omega⟩) (starts_at a0 _ _ g (h _)))
  unfold W2
  generalize hx : Host.gather gather_S32x1024x1024_S580x3_S580x1x1024x1024_123_n_n_n_012_1_110241024 a6 (starts a0 1024#32 1024#32) = X
  refine Eq.trans ?_ (congrFun hx _).symm
  pointwise []

theorem B2_at (h : ∀ y, (a0 y).toNat < 32) (a7 : FVec Ideal S32x1x1024 .f32) (g : Fin 580) (j : Fin 1024) :
    B2 a0 a7 (ix3 g 0 j) = a7 (ix3 (expertOf a0 h ⟨g.val / 2, by omega⟩) 0 j) := by
  refine Eq.trans ?_ (Stack.gather_at 32 1 1024 580 gather_S32x1x1024_S580x3_S580x1x1x1024_123_n_n_n_012_1_111024_wf a7
    (starts a0 1#32 1024#32) g 0 j (expertOf a0 h ⟨g.val / 2, by omega⟩) (starts_at a0 _ _ g (h _)))
  unfold B2
  generalize hx : Host.gather gather_S32x1x1024_S580x3_S580x1x1x1024_123_n_n_n_012_1_111024 a7 (starts a0 1#32 1024#32) = X
  refine Eq.trans ?_ (congrFun hx _).symm
  pointwise []

theorem U_at (a2 : FVec Ideal S74240x1024 .f32) (w1 : FVec Ideal S580x1024x2048 .f32) (b1 : FVec Ideal S580x1x2048 .f32)
    (g : Fin 580) (i : Fin 128) (j : Fin 2048) :
    U a2 w1 b1 (ix3 g i j)
      = (∑ x : Fin 1024, a2 (ix2 ⟨g.val * 128 + i.val, by omega⟩ x) * w1 (ix3 g x j)) + b1 (ix3 g 0 j) := by
  pointwise [U]

/-- One hidden value from the two halves of the first product. -/
abbrev act (p q : Ideal .f32) : Ideal .f32 :=
  min p (Ideal.ofBits .f32 0x40E00000#32)
      * Ideal.div 1 (1 + Ideal.exp (-(Ideal.ofBits .f32 0x3FD9DB23#32 * min p (Ideal.ofBits .f32 0x40E00000#32))))
    * (min (Ideal.ofBits .f32 0x40E00000#32) (max (Ideal.ofBits .f32 0xC0E00000#32) q) + 1)

theorem H_at (u : FVec Ideal S580x128x2048 .f32) (g : Fin 580) (i : Fin 128) (j : Fin 1024) :
    H u (ix3 g i j) = act (u (ix3 g i ⟨j.val, by omega⟩)) (u (ix3 g i ⟨1024 + j.val, by omega⟩)) := by
  pointwise [H, gateHalf, act, id]

theorem O_at (h : FVec Ideal S580x128x1024 .f32) (w2 : FVec Ideal S580x1024x1024 .f32) (b2 : FVec Ideal S580x1x1024 .f32)
    (g : Fin 580) (i : Fin 128) (j : Fin 1024) :
    O h w2 b2 (ix3 g i j) = (∑ x : Fin 1024, h (ix3 g i x) * w2 (ix3 g x j)) + b2 (ix3 g 0 j) := by
  pointwise [O]

/-- One row of the result, from the stage before: the row's product by its gate, and zero when its tile is not used. -/
theorem gated_at (a1 : IVec S1 32) (a3 : FVec Ideal S74240x1 .f32) (o : FVec Ideal S580x128x1024 .f32) (r : Fin 74240) (j : Fin 1024) :
    gated a1 a3 o (ix2 r j)
      = Scalar.select (IntOp.cmpi .slt (BitVec.ofNat 32 (r.val / 256)) (a1 (ix1 0)))
          (o (ix3 ⟨r.val / 128, by omega⟩ ⟨r.val % 128, by omega⟩ j) * a3 (ix2 r 0)) 0 := by
  pointwise [gated, used, id]

/-- The first product of tile `t`, row `i` of it, by expert `e`. -/
abbrev preact (a2 : FVec Ideal S74240x1024 .f32) (a4 : FVec Ideal S32x1024x2048 .f32) (a5 : FVec Ideal S32x1x2048 .f32)
    (r : Fin 74240) (e : Fin 32) (j : Fin 2048) : Ideal .f32 :=
  (∑ x : Fin 1024, a2 (ix2 r x) * a4 (ix3 e x j)) + a5 (ix3 e 0 j)

/-- The routed value of row `r` under expert `e`. -/
abbrev expert (a2 : FVec Ideal S74240x1024 .f32) (a3 : FVec Ideal S74240x1 .f32)
    (a4 : FVec Ideal S32x1024x2048 .f32) (a5 : FVec Ideal S32x1x2048 .f32) (a6 : FVec Ideal S32x1024x1024 .f32)
    (a7 : FVec Ideal S32x1x1024 .f32) (r : Fin 74240) (e : Fin 32) (j : Fin 1024) : Ideal .f32 :=
  ((∑ x : Fin 1024, act (preact a2 a4 a5 r e ⟨x.val, by omega⟩) (preact a2 a4 a5 r e ⟨1024 + x.val, by omega⟩) * a6 (ix3 e x j))
    + a7 (ix3 e 0 j)) * a3 (ix2 r 0)

/-- The reference at an index: the row under its tile's expert when the tile is used, else zero. -/
theorem REF_at (h : ∀ y, (a0 y).toNat < 32) (a1 : IVec S1 32) (a2 : FVec Ideal S74240x1024 .f32) (a3 : FVec Ideal S74240x1 .f32)
    (a4 : FVec Ideal S32x1024x2048 .f32) (a5 : FVec Ideal S32x1x2048 .f32) (a6 : FVec Ideal S32x1024x1024 .f32)
    (a7 : FVec Ideal S32x1x1024 .f32) (t : Fin 290) (i : Fin 256) (r : Fin 74240) (hr : r.val = t.val * 256 + i.val) (j : Fin 1024) :
    REF a0 a1 a2 a3 a4 a5 a6 a7 (ix2 r j)
      = Scalar.select (IntOp.cmpi .slt (BitVec.ofNat 32 t.val) (a1 (ix1 0)))
          (expert a2 a3 a4 a5 a6 a7 r (expertOf a0 h t) j) 0 := by
  have e1 : r.val / 256 = t.val := by omega
  have e2 : (⟨r.val / 128 / 2, by omega⟩ : Fin 290) = t := Fin.ext (by show r.val / 128 / 2 = t.val; omega)
  have e3 : (⟨r.val / 128 * 128 + r.val % 128, by omega⟩ : Fin 74240) = r := Fin.ext (by show r.val / 128 * 128 + r.val % 128 = r.val; omega)
  unfold REF
  rw [gated_at, e1]
  simp only [O_at, H_at, U_at, W1_at a0 h, B1_at a0 h, W2_at a0 h, B2_at a0 h, e2, e3]

end Cert.MoeRefIdeal.Stages

end
-- ==== Proof.MoeIdeal.Value.lean ====
/- The routed-experts call: at exact arithmetic the result array is the reference's term of the arguments. -/
module

public import proofs.«01_k».proof.Proof.MoeIdeal.Pre
public import proofs.«01_k».proof.Proof.MoeIdeal.Frame
public import proofs.«01_k».proof.Proof.MoeRef.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MoeIdeal.Value

open Cert.MoeIdeal Cert.MoeIdeal.Gen Cert.MoeIdeal.Routed
open Cert.MoeRefIdeal.Stages (act expert REF REF_at expertOf)

variable (m : (ℓ : Loc nD τ sig) → Buf (Elt Ideal) ℓ)

/-- What the body stores on a used tile, at an index. -/
theorem pay_at (x0 : Vec Ideal S256x1024 .f32) (x1 : Vec Ideal S256x1 .f32) (x2 : Vec Ideal S1x1024x2048 .f32)
    (x3 : Vec Ideal S1x1x2048 .f32) (x4 : Vec Ideal S1x1024x1024 .f32) (x5 : Vec Ideal S1x1x1024 .f32) (i : Fin 256) (j : Fin 1024) :
    k0_pay2 x0 x2 x3 x4 x5 x1 (ix2 i j)
      = ((∑ x : Fin 1024, act ((∑ k : Fin 1024, x0 (ix2 i k) * x2 (ix3 0 k ⟨x.val, by omega⟩)) + x3 (ix3 0 0 ⟨x.val, by omega⟩))
            ((∑ k : Fin 1024, x0 (ix2 i k) * x2 (ix3 0 k ⟨1024 + x.val, by omega⟩)) + x3 (ix3 0 0 ⟨1024 + x.val, by omega⟩))
            * x4 (ix3 0 x j)) + x5 (ix3 0 0 j)) * x1 (ix2 i 0) := by
  pointwise [k0_pay2, act, id, Ideal.logistic]

/-- The same, when the six blocks are the row's and the expert's parts of the arguments. -/
theorem pay_of (x0 : Vec Ideal S256x1024 .f32) (x1 : Vec Ideal S256x1 .f32) (x2 : Vec Ideal S1x1024x2048 .f32)
    (x3 : Vec Ideal S1x1x2048 .f32) (x4 : Vec Ideal S1x1024x1024 .f32) (x5 : Vec Ideal S1x1x1024 .f32)
    (a2 : FVec Ideal S74240x1024 .f32) (a3 : FVec Ideal S74240x1 .f32) (a4 : FVec Ideal S32x1024x2048 .f32)
    (a5 : FVec Ideal S32x1x2048 .f32) (a6 : FVec Ideal S32x1024x1024 .f32) (a7 : FVec Ideal S32x1x1024 .f32)
    (r : Fin 74240) (e : Fin 32) (i : Fin 256) (j : Fin 1024)
    (h0 : ∀ x, x0 (ix2 i x) = a2 (ix2 r x)) (h1 : x1 (ix2 i 0) = a3 (ix2 r 0)) (h2 : ∀ x j, x2 (ix3 0 x j) = a4 (ix3 e x j))
    (h3 : ∀ j, x3 (ix3 0 0 j) = a5 (ix3 e 0 j)) (h4 : ∀ x j, x4 (ix3 0 x j) = a6 (ix3 e x j)) (h5 : ∀ j, x5 (ix3 0 0 j) = a7 (ix3 e 0 j)) :
    k0_pay2 x0 x2 x3 x4 x5 x1 (ix2 i j) = expert a2 a3 a4 a5 a6 a7 r e j := by
  rw [pay_at]
  simp only [h0, h1, h2, h3, h4, h5]

/-- What it stores on an unused tile. -/
theorem pay_zero (i : Fin 256) (j : Fin 1024) : (k0_pay1 : FVec Ideal S256x1024 .f32) (ix2 i j) = 0 := by
  pointwise [k0_pay1, id]

/-- The block after a used tile. -/
theorem out_A (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec Ideal S256x1024 .f32) (x1 : Vec Ideal S256x1 .f32) (x2 : Vec Ideal S1x1024x2048 .f32) (x3 : Vec Ideal S1x1x2048 .f32) (x4 : Vec Ideal S1x1024x1024 .f32) (x5 : Vec Ideal S1x1x1024 .f32) (xt0 : TbBuf0 (F := Ideal) c tbM0_0) (xt1 : TbBuf0 (F := Ideal) c tbM0_1) (k0_h1 : k0_cond1 i (usedWord xt1) = 1#1) (k0_h2 : ¬ k0_cond2 i (usedWord xt1) = 1#1) :
    out0_A_6 c i arg3 harg3 arg4 harg4 arg5 harg5 arg6 harg6 arg7 harg7 arg8 harg8 arg9 harg9 x0 x1 x2 x3 x4 x5 xt0 xt1 k0_h1 k0_h2 = k0_pay2 x0 x2 x3 x4 x5 x1 := by
  funext y; frame_out; try rfl

/-- The block after an unused tile. -/
theorem out_B (c : Dev nD) (i : grid0.Coords) (arg3 : Memref sig .tc .vmem S256x1024 .f32) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)
    (x0 : Vec Ideal S256x1024 .f32) (x1 : Vec Ideal S256x1 .f32) (x2 : Vec Ideal S1x1024x2048 .f32) (x3 : Vec Ideal S1x1x2048 .f32) (x4 : Vec Ideal S1x1024x1024 .f32) (x5 : Vec Ideal S1x1x1024 .f32) (xt0 : TbBuf0 (F := Ideal) c tbM0_0) (xt1 : TbBuf0 (F := Ideal) c tbM0_1) (k0_h1 : ¬ k0_cond1 i (usedWord xt1) = 1#1) (k0_h2 : k0_cond2 i (usedWord xt1) = 1#1) :
    out0_B_6 c i arg3 harg3 arg4 harg4 arg5 harg5 arg6 harg6 arg7 harg7 arg8 harg8 arg9 harg9 x0 x1 x2 x3 x4 x5 xt0 xt1 k0_h1 k0_h2 = (k0_pay1 : FVec Ideal S256x1024 .f32) := by
  funext y; frame_out; try rfl

theorem coords_val : ∀ t : Fin grid0.N, (grid0.coords t 0).val = t.val := by
  decide +kernel

variable (hO : Ok m)

/-- The expert index of tile `t`. -/
abbrev word (c : Dev nD) (t : Fin 290) : BitVec 32 := m ((c : Thread nD τ).loc main_arg0) (ix1 t)

theorem at_word (c : Dev nD) (t : Fin grid0.N) (h1) (h2) :
    (tbl m).at 0 (Rect.unit (s := S290) ![(BitVec.ofNat 32 (grid0.coords t 0).val).toNat] S1.size h1) h2 = word m c t := by
  obtain rfl : c = 0 := Subsingleton.elim _ _
  have ht : t.val < 290 := t.2
  refine congrArg (m (((0 : Dev nD) : Thread nD τ).loc main_arg0)) (funext fun (a : Fin 1) => ?_)
  obtain rfl : a = 0 := Subsingleton.elim _ _
  apply Fin.ext
  have e : (BitVec.ofNat 32 (grid0.coords t 0).val).toNat = t.val := by
    rw [coords_val, BitVec.toNat_ofNat, Nat.mod_eq_of_lt (by omega)]
  exact e

theorem idx2 (c : Dev nD) (t : Fin (cfgM m hO).N) : ((cfgM m hO).win 2).index t = ![(word m c t).toNat, 0, 0] :=
  congrArg (fun v : BitVec 32 => ![v.toNat, 0, 0]) (at_word m c t _ _)
theorem idx3 (c : Dev nD) (t : Fin (cfgM m hO).N) : ((cfgM m hO).win 3).index t = ![(word m c t).toNat, 0, 0] :=
  congrArg (fun v : BitVec 32 => ![v.toNat, 0, 0]) (at_word m c t _ _)
theorem idx4 (c : Dev nD) (t : Fin (cfgM m hO).N) : ((cfgM m hO).win 4).index t = ![(word m c t).toNat, 0, 0] :=
  congrArg (fun v : BitVec 32 => ![v.toNat, 0, 0]) (at_word m c t _ _)
theorem idx5 (c : Dev nD) (t : Fin (cfgM m hO).N) : ((cfgM m hO).win 5).index t = ![(word m c t).toNat, 0, 0] :=
  congrArg (fun v : BitVec 32 => ![v.toNat, 0, 0]) (at_word m c t _ _)
theorem idx0 (t : Fin (cfgM m hO).N) : ((cfgM m hO).win 0).index t = ![t.val, 0] :=
  congrArg (fun v : ℕ => ![v, 0]) ((Nat.mod_eq_of_lt ((coords_val t).le.trans_lt (Nat.lt_trans (show t.val < 290 from t.2) (by decide)))).trans (coords_val t))
theorem idx1 (t : Fin (cfgM m hO).N) : ((cfgM m hO).win 1).index t = ![t.val, 0] :=
  congrArg (fun v : ℕ => ![v, 0]) ((Nat.mod_eq_of_lt ((coords_val t).le.trans_lt (Nat.lt_trans (show t.val < 290 from t.2) (by decide)))).trans (coords_val t))
theorem idx6 (t : Fin (cfgM m hO).N) : ((cfgM m hO).win 6).index t = ![t.val, 0] :=
  congrArg (fun v : ℕ => ![v, 0]) ((Nat.mod_eq_of_lt ((coords_val t).le.trans_lt (Nat.lt_trans (show t.val < 290 from t.2) (by decide)))).trans (coords_val t))

theorem blk0 (c : Dev nD) (t : Fin (cfgM m hO).N) (i : Fin 256) (r : Fin 74240) (hr : r.val = t.val * 256 + i.val) (x : Fin 1024) :
    iblk m hO c 0 t (ix2 i x) = m ((c : Thread nD τ).loc main_arg2) (ix2 r x) := by
  blk_point [iblk, V, idx0 m hO t]

theorem blk2 (c : Dev nD) (t : Fin (cfgM m hO).N) (e : Fin 32) (he : e.val = (word m c t).toNat) (x : Fin 1024) (j : Fin 2048) :
    iblk m hO c 2 t (ix3 0 x j) = m ((c : Thread nD τ).loc main_arg4) (ix3 e x j) := by
  blk_point [iblk, V, idx2 m hO c t]

theorem blk1 (c : Dev nD) (t : Fin (cfgM m hO).N) (i : Fin 256) (r : Fin 74240) (hr : r.val = t.val * 256 + i.val) :
    iblk m hO c 1 t (ix2 i 0) = m ((c : Thread nD τ).loc main_arg3) (ix2 r 0) := by
  blk_point [iblk, V, idx1 m hO t]

theorem blk3 (c : Dev nD) (t : Fin (cfgM m hO).N) (e : Fin 32) (he : e.val = (word m c t).toNat) (j : Fin 2048) :
    iblk m hO c 3 t (ix3 0 0 j) = m ((c : Thread nD τ).loc main_arg5) (ix3 e 0 j) := by
  blk_point [iblk, V, idx3 m hO c t]

theorem blk4 (c : Dev nD) (t : Fin (cfgM m hO).N) (e : Fin 32) (he : e.val = (word m c t).toNat) (x j : Fin 1024) :
    iblk m hO c 4 t (ix3 0 x j) = m ((c : Thread nD τ).loc main_arg6) (ix3 e x j) := by
  blk_point [iblk, V, idx4 m hO c t]

theorem blk5 (c : Dev nD) (t : Fin (cfgM m hO).N) (e : Fin 32) (he : e.val = (word m c t).toNat) (j : Fin 1024) :
    iblk m hO c 5 t (ix3 0 0 j) = m ((c : Thread nD τ).loc main_arg7) (ix3 e 0 j) := by
  blk_point [iblk, V, idx5 m hO c t]

/-- On a used tile the stored block is the routed values of the tile's rows, under the tile's expert. -/
theorem tile_at (c : Dev nD) (t : Fin (cfgM m hO).N) (e : Fin 32) (he : e.val = (word m c t).toNat)
    (i : Fin 256) (r : Fin 74240) (hr : r.val = t.val * 256 + i.val) (j : Fin 1024) :
    k0_pay2 (iblk m hO c 0 t) (iblk m hO c 2 t) (iblk m hO c 3 t) (iblk m hO c 4 t) (iblk m hO c 5 t) (iblk m hO c 1 t) (ix2 i j)
      = expert (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) r e j := by
  exact pay_of _ _ _ _ _ _ _ _ _ _ _ _ r e i j (blk0 m hO c t i r hr) (blk1 m hO c t i r hr) (blk2 m hO c t e he) (blk3 m hO c t e he)
    (blk4 m hO c t e he) (blk5 m hO c t e he)

/-- The count the kernel compares with is the second argument's word. -/
theorem used_eq (c : Dev nD) : usedWord (c := c) (tbl m 1) = m ((c : Thread nD τ).loc main_arg1) (ix1 0) := by
  obtain rfl : c = 0 := Subsingleton.elim _ _
  refine congrArg (m (((0 : Dev nD) : Thread nD τ).loc main_arg1)) (funext fun (a : Fin 1) => ?_)
  obtain rfl : a = 0 := Subsingleton.elim _ _
  exact Subsingleton.elim (α := Fin 1) _ _

/-- The kernel's test of a tile is the reference's. -/
theorem cond_eq (t : Fin grid0.N) (v : BitVec 32) : k0_cond1 (grid0.coords t) v = IntOp.cmpi .slt (BitVec.ofNat 32 t.val) v := by
  simp only [k0_cond1, Scalar.cmpi, coords_val, IntOp.cmpi]
  cases (BitVec.ofNat 32 t.val).slt v <;> decide

theorem covers6 : ((cfgM m hO).win 6).Covers := of_decide_eq_true (by sl_kernel_rfl)

/-- What the body stores at index `y` of tile `t`'s block is the reference at the array index `y` sits at. -/
theorem point (h : Cert.Pre_MoeIdeal m) (c : Dev nD) (t : Fin (cfgM m hO).N) (y : S256x1024.Idx) :
    outsAt0 m hO c t y = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) ((((cfgM m hO).win 6).blk t).view.emb y) := by
  have ht : t.val < 290 := t.2
  idx_vars y
  have e : (((cfgM m hO).win 6).blk t).view.emb (ix2 y0 y1) = ix2 ⟨t.val*256+y0.val, by omega⟩ y1 := by
    blk_ext [idx6 m hO t]
  refine Eq.trans ?_ (congrArg _ e.symm)
  rw [REF_at _ (expert_lt m h c) _ _ _ _ _ _ _ ⟨t.val, ht⟩ y0 _ rfl]
  unfold outsAt0
  split
  · rename_i hu
    rw [cond_eq, used_eq] at hu
    rw [hu]
    refine (congrFun (out_A _ _ _ _ _ _ _ _ _ _ _ _ _ _ _ _ _ _ _ _ _ _ _ _ _ _) _).trans ?_
    refine (tile_at m hO c t (expertOf _ (expert_lt m h c) ⟨t.val, ht⟩) rfl y0 ⟨t.val*256+y0.val, by omega⟩ rfl y1).trans ?_
    rfl
  · rename_i hu
    rw [cond_eq, used_eq] at hu
    refine (congrFun (out_B _ _ _ _ _ _ _ _ _ _ _ _ _ _ _ _ _ _ _ _ _ _ _ _ _ _) _).trans ?_
    refine (pay_zero y0 y1).trans ?_
    exact (if_neg hu).symm

/-- So the result array after the run is the reference's (the blocks tile the array). -/
theorem final_6 (h : Cert.Pre_MoeIdeal m) (c : Dev nD) :
    (dats m hO 0 c).arrAt 6 (cfgM m hO).N = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m hO 0 c).arrAt_eq_of_covers 6 _ (covers6 m hO) fun t hf y => ?_
  blk_simp; rw [after0_6]
  exact point m hO h c t y

/-- The run: the result array is the reference's term of the arguments, and the arguments end as they were. -/
theorem run (ρ : Dev nD → PrngReg) (h : Cert.Pre_MoeIdeal m) :
    θ_run defs (onTc (τ := τ) (main (F := Ideal))) ⟨m, fun _ => 0, ρ⟩ (fun r => ∀ c : Dev nD,
      r.2.mem ((c.tc : Thread nD τ).loc main_v0) = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h' c => ⟨((h'.1 c).1 6).trans (final_6 m (ok_of_pre m h) h c), h'.2 c⟩)
    (θ_run_and (run_main m ρ (ok_of_pre m h)) (unchanged m ρ (ok_of_pre m h)))

end Cert.MoeIdeal.Value

end
-- ==== Proof.MoeRef.Result.lean ====
/- The reference program's result is the stages' value of its arguments. -/
module

public import proofs.«01_k».proof.Proof.Gen.MoeRefIdeal.Run
public import proofs.«01_k».proof.Proof.MoeRef.Value

@[expose] public section

set_option maxRecDepth 16384

noncomputable section

namespace Cert.MoeRefIdeal.Stages

open Cert.MoeRefIdeal Cert.MoeRefIdeal.Gen
open Idealize.ShloMosaic Idealize.ShloMosaic.TcCoe

theorem result_eq (m : (ℓ : Loc nD τ sig) → Buf (Elt Ideal) ℓ) (c : Dev nD) :
    Value.res_main_v104 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  rfl

end Cert.MoeRefIdeal.Stages

end
-- ==== Proof.ProjP.Value.lean ====
/- The input projection of the prompt rows: at exact arithmetic the four result arrays (queries, keys, values, recurrence inputs)
   are the reference's terms of the arguments. -/
module

public import proofs.«01_k».proof.Proof.Gen.ProjPIdeal
public import proofs.«01_k».proof.Proof.Gen.ProjPIdeal.Skeleton
public import proofs.«01_k».proof.Proof.Gen.ProjPIdeal.Launch
public import proofs.«01_k».proof.Proof.Gen.ProjPIdeal.Points
public import proofs.«01_k».proof.Proof.Gen.ProjPIdeal.Frame
public import proofs.«01_k».proof.Proof.Gen.ProjPRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.ProjPIdeal.Value

open Cert.ProjPIdeal Cert.ProjPIdeal.Gen

variable (m : (ℓ : Loc nD τ sig) → Buf (Elt Ideal) ℓ)

/-- The reference's normalised rows: each row over the root of its mean square (plus the small constant), times the gain. -/
abbrev normed (a0 : FVec Ideal Cert.ProjPRefIdeal.S8x2048x1024 .f32) (a1 : FVec Ideal Cert.ProjPRefIdeal.S1x1024 .f32) : FVec Ideal Cert.ProjPRefIdeal.S8x2048x1024 .f32 :=
  mulf (mulf a0 (broadcastInDim Cert.ProjPRefIdeal.S8x2048x1024 ![0, 1, 2] Cert.ProjPRefIdeal.Gen.bcast_S8x2048x1_S8x2048x1024_0_1_2
      (Host.rsqrt (addf (Host.divf (broadcastInDim Cert.ProjPRefIdeal.S8x2048x1 ![0, 1] Cert.ProjPRefIdeal.Gen.bcast_S8x2048_S8x2048x1_0_1
          (Host.reduceAdd (mulf a0 a0) (constant Cert.ProjPRefIdeal.S_ .f32 0x00000000#32) Cert.ProjPRefIdeal.Gen.reducesTo_S8x2048x1024_S8x2048_d2 Cert.ProjPRefIdeal.Gen.h_S_))
        (broadcastInDim Cert.ProjPRefIdeal.S8x2048x1 ![] Cert.ProjPRefIdeal.Gen.bcast_S_S8x2048x1 (constant Cert.ProjPRefIdeal.S_ .f32 0x44800000#32)))
        (broadcastInDim Cert.ProjPRefIdeal.S8x2048x1 ![] Cert.ProjPRefIdeal.Gen.bcast_S_S8x2048x1 (constant Cert.ProjPRefIdeal.S_ .f32 0x3727C5AC#32))))))
    (broadcastInDim Cert.ProjPRefIdeal.S8x2048x1024 ![0, 1, 2] Cert.ProjPRefIdeal.Gen.bcast_S1x1x1024_S8x2048x1024_0_1_2
      (broadcastInDim Cert.ProjPRefIdeal.S1x1x1024 ![2] Cert.ProjPRefIdeal.Gen.bcast_S1024_S1x1x1024_2 (shapeCast _ a1 Cert.ProjPRefIdeal.Gen.shapeCasts_S1x1024_S1024)))

/-- The reference's product of the normalised rows with the input weights. -/
abbrev joint (a0 : FVec Ideal Cert.ProjPRefIdeal.S8x2048x1024 .f32) (a1 : FVec Ideal Cert.ProjPRefIdeal.S1x1024 .f32) (a2 : FVec Ideal Cert.ProjPRefIdeal.S1x1024x2048 .f32) : FVec Ideal Cert.ProjPRefIdeal.S8x2048x2048 .f32 :=
  Host.dotGeneral Cert.ProjPRefIdeal.dot_S8x2048x1024_S1024x2048_S8x2048x2048_2_0_01_1_n_n none (normed a0 a1)
    (shapeCast Cert.ProjPRefIdeal.S1024x2048 a2 Cert.ProjPRefIdeal.Gen.shapeCasts_S1x1024x2048_S1024x2048)

/-- The reference's queries: the first 512 columns, scaled. -/
abbrev REF_v22 (a0 : FVec Ideal Cert.ProjPRefIdeal.S8x2048x1024 .f32) (a1 : FVec Ideal Cert.ProjPRefIdeal.S1x1024 .f32) (a2 : FVec Ideal Cert.ProjPRefIdeal.S1x1024x2048 .f32) : FVec Ideal Cert.ProjPRefIdeal.S16384x512 .f32 :=
  shapeCast _ (mulf (extractStridedSlice Cert.ProjPRefIdeal.S8x2048x512 ![0, 0, 0] (joint a0 a1 a2) Cert.ProjPRefIdeal.Gen.slices_S8x2048x2048_S8x2048x512_0_0_0)
    (broadcastInDim Cert.ProjPRefIdeal.S8x2048x512 ![] Cert.ProjPRefIdeal.Gen.bcast_S_S8x2048x512 (constant Cert.ProjPRefIdeal.S_ .f32 0x3E000000#32))) Cert.ProjPRefIdeal.Gen.shapeCasts_S8x2048x512_S16384x512

/-- The reference's keys: the second 512 columns. -/
abbrev REF_v23 (a0 : FVec Ideal Cert.ProjPRefIdeal.S8x2048x1024 .f32) (a1 : FVec Ideal Cert.ProjPRefIdeal.S1x1024 .f32) (a2 : FVec Ideal Cert.ProjPRefIdeal.S1x1024x2048 .f32) : FVec Ideal Cert.ProjPRefIdeal.S16384x512 .f32 :=
  shapeCast _ (extractStridedSlice Cert.ProjPRefIdeal.S8x2048x512 ![0, 0, 512] (joint a0 a1 a2) Cert.ProjPRefIdeal.Gen.slices_S8x2048x2048_S8x2048x512_0_0_512) Cert.ProjPRefIdeal.Gen.shapeCasts_S8x2048x512_S16384x512

/-- The reference's values: the third 512 columns. -/
abbrev REF_v24 (a0 : FVec Ideal Cert.ProjPRefIdeal.S8x2048x1024 .f32) (a1 : FVec Ideal Cert.ProjPRefIdeal.S1x1024 .f32) (a2 : FVec Ideal Cert.ProjPRefIdeal.S1x1024x2048 .f32) : FVec Ideal Cert.ProjPRefIdeal.S16384x512 .f32 :=
  shapeCast _ (extractStridedSlice Cert.ProjPRefIdeal.S8x2048x512 ![0, 0, 1024] (joint a0 a1 a2) Cert.ProjPRefIdeal.Gen.slices_S8x2048x2048_S8x2048x512_0_0_1024) Cert.ProjPRefIdeal.Gen.shapeCasts_S8x2048x512_S16384x512

/-- The reference's recurrence inputs: the last 512 columns. -/
abbrev REF_v25 (a0 : FVec Ideal Cert.ProjPRefIdeal.S8x2048x1024 .f32) (a1 : FVec Ideal Cert.ProjPRefIdeal.S1x1024 .f32) (a2 : FVec Ideal Cert.ProjPRefIdeal.S1x1024x2048 .f32) : FVec Ideal Cert.ProjPRefIdeal.S16384x512 .f32 :=
  shapeCast _ (extractStridedSlice Cert.ProjPRefIdeal.S8x2048x512 ![0, 0, 1536] (joint a0 a1 a2) Cert.ProjPRefIdeal.Gen.slices_S8x2048x2048_S8x2048x512_0_0_1536) Cert.ProjPRefIdeal.Gen.shapeCasts_S8x2048x512_S16384x512

/-- every window's block index at every grid point, in closed form (decided). Use: `obtain ⟨e0, e1, e2, e3, e4, e5, e6⟩ := idx t`, then
    `blk_simp [e0, …]` / `blk_ext [e0, …]` put block embeddings at coordinates (value_ideal.md §3). -/
theorem idx : ∀ t : Fin cfg0.N, win0_0.index t = ![(grid0.coords t 0).val, 0]
    ∧ win0_1.index t = ![0, 0]
    ∧ win0_2.index t = ![0, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- One entry of the product of the normalised rows with the weights. -/
abbrev entry (a0 : FVec Ideal Cert.ProjPRefIdeal.S8x2048x1024 .f32) (a1 : FVec Ideal Cert.ProjPRefIdeal.S1x1024 .f32)
    (a2 : FVec Ideal Cert.ProjPRefIdeal.S1x1024x2048 .f32) (b : Fin 8) (r : Fin 2048) (j : Fin 2048) : Ideal .f32 :=
  ∑ x : Fin 1024, a0 (ix3 b r x)
      * Ideal.rsqrt (Ideal.div (∑ x : Fin 1024, a0 (ix3 b r x) * a0 (ix3 b r x)) (Ideal.ofBits .f32 0x44800000#32)
          + Ideal.ofBits .f32 0x3727C5AC#32)
      * a1 (ix2 0 x) * a2 (ix3 0 x j)

/-- The reference's product at an index is that entry. -/
theorem joint_at (a0 : FVec Ideal Cert.ProjPRefIdeal.S8x2048x1024 .f32) (a1 : FVec Ideal Cert.ProjPRefIdeal.S1x1024 .f32)
    (a2 : FVec Ideal Cert.ProjPRefIdeal.S1x1024x2048 .f32) (b : Fin 8) (r : Fin 2048) (j : Fin 2048) :
    joint a0 a1 a2 (ix3 b r j) = entry a0 a1 a2 b r j := by
  pointwise [joint, normed, entry]

/-- The body's product at an index of its tile. -/
theorem pay_at (x0 : Vec Ideal S256x1024 .f32) (x1 : Vec Ideal S1x1024 .f32) (x2 : Vec Ideal S1024x2048 .f32) (i : Fin 256) (j : Fin 2048) :
    k0_pay1 x0 x1 x2 (ix2 i j) = ∑ x : Fin 1024, x0 (ix2 i x)
      * Ideal.rsqrt (Ideal.div (∑ x : Fin 1024, x0 (ix2 i x) * x0 (ix2 i x)) (Ideal.ofBits .f32 0x44800000#32)
          + Ideal.ofBits .f32 0x3727C5AC#32)
      * x1 (ix2 0 x) * x2 (ix2 x j) := by
  pointwise [k0_pay1]

/-- Row `i` of tile `t` is row `t * 256 + i` of all the rows, a batch and a position in it. -/
theorem blk0 (c : Dev nD) (t : Fin cfg0.N) (i : Fin 256) (x : Fin 1024) : iblk m c 0 t (ix2 i x)
    = m ((c : Thread nD τ).loc main_arg0) (ix3 ⟨(t.val*256+i.val)/2048, by have : t.val < 64 := t.2; omega⟩ ⟨(t.val*256+i.val)%2048, by omega⟩ x) := by
  blk_point [iblk, V, idx_val t]
/-- Every tile is handed the whole gain, -/
theorem blk1 (c : Dev nD) (t : Fin cfg0.N) (x : Fin 1024) : iblk m c 1 t (ix2 0 x)
    = m ((c : Thread nD τ).loc main_arg1) (ix2 0 x) := by
  blk_point [iblk, V, idx_val t]
/-- and all the weights. -/
theorem blk2 (c : Dev nD) (t : Fin cfg0.N) (x : Fin 1024) (j : Fin 2048) : iblk m c 2 t (ix2 x j)
    = m ((c : Thread nD τ).loc main_arg2) (ix3 0 x j) := by
  blk_point [iblk, V, idx_val t]

/-- The body's product over tile `t`'s blocks is the reference's product at the tile's rows. -/
theorem tile_at (c : Dev nD) (t : Fin cfg0.N) (i : Fin 256) (j : Fin 2048) :
    k0_pay1 (iblk m c 0 t) (iblk m c 1 t) (iblk m c 2 t) (ix2 i j)
      = joint (m ((c : Thread nD τ).loc main_arg0)) (m ((c : Thread nD τ).loc main_arg1)) (m ((c : Thread nD τ).loc main_arg2))
          (ix3 ⟨(t.val*256+i.val)/2048, by have : t.val < 64 := t.2; omega⟩ ⟨(t.val*256+i.val)%2048, by omega⟩ j) := by
  refine (pay_at (iblk m c 0 t) (iblk m c 1 t) (iblk m c 2 t) i j).trans (Eq.trans ?_ (joint_at _ _ _ _ _ _).symm)
  simp only [blk0 m c t, blk1 m c t, blk2 m c t, entry]

/-- The reference's result at an index, by its product. -/
theorem ref_at_3 (a0 : FVec Ideal Cert.ProjPRefIdeal.S8x2048x1024 .f32) (a1 : FVec Ideal Cert.ProjPRefIdeal.S1x1024 .f32)
    (a2 : FVec Ideal Cert.ProjPRefIdeal.S1x1024x2048 .f32) (r : Fin 16384) (j : Fin 512) :
    REF_v22 a0 a1 a2 (ix2 r j) = joint a0 a1 a2 (ix3 ⟨r.val/2048, by omega⟩ ⟨r.val%2048, by omega⟩ ⟨j.val, by omega⟩) * Ideal.ofBits .f32 0x3E000000#32 := by
  unfold REF_v22
  generalize joint a0 a1 a2 = g
  pointwise []

/-- The body's stored block at an index, by its product. -/
theorem pay_at_3 (x0 : Vec Ideal S256x1024 .f32) (x1 : Vec Ideal S1x1024 .f32) (x2 : Vec Ideal S1024x2048 .f32) (i : Fin 256) (j : Fin 512) :
    k0_pay2 x0 x1 x2 (ix2 i j) = k0_pay1 x0 x1 x2 (ix2 i ⟨j.val, by omega⟩) * Ideal.ofBits .f32 0x3E000000#32 := by
  unfold k0_pay2
  generalize k0_pay1 x0 x1 x2 = g
  pointwise []

/-- What the body stores at block index `y` of tile `t` is the reference at the array index `y` sits at. -/
theorem point_3 (c : Dev nD) (t : Fin cfg0.N) (y) :
    k0_pay2 (iblk m c 0 t) (iblk m c 1 t) (iblk m c 2 t) y = REF_v22 (m ((c : Thread nD τ).loc main_arg0)) (m ((c : Thread nD τ).loc main_arg1)) (m ((c : Thread nD τ).loc main_arg2)) (((cfg0.win 3).blk t).view.emb y) := by
  have ht : t.val < 64 := t.2
  idx_vars y
  have e : ((cfg0.win 3).blk t).view.emb (ix2 y0 y1) = ix2 ⟨t.val*256+y0.val, by omega⟩ y1 := by
    blk_ext [idx_val t]
  refine ((pay_at_3 _ _ _ y0 y1).trans ?_).trans (congrArg _ e.symm)
  rw [tile_at]
  exact (ref_at_3 _ _ _ ⟨t.val*256+y0.val, by omega⟩ y1).symm

/-- So the result array after the run is the reference's (the blocks tile the array). -/
theorem final_3 (c : Dev nD) : (dats m 0 c).arrAt 3 (cfgs 0).N = REF_v22 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_3 m c t y

/-- The reference's result at an index, by its product. -/
theorem ref_at_4 (a0 : FVec Ideal Cert.ProjPRefIdeal.S8x2048x1024 .f32) (a1 : FVec Ideal Cert.ProjPRefIdeal.S1x1024 .f32)
    (a2 : FVec Ideal Cert.ProjPRefIdeal.S1x1024x2048 .f32) (r : Fin 16384) (j : Fin 512) :
    REF_v23 a0 a1 a2 (ix2 r j) = joint a0 a1 a2 (ix3 ⟨r.val/2048, by omega⟩ ⟨r.val%2048, by omega⟩ ⟨512 + j.val, by omega⟩) := by
  unfold REF_v23
  generalize joint a0 a1 a2 = g
  pointwise []

/-- The body's stored block at an index, by its product. -/
theorem pay_at_4 (x0 : Vec Ideal S256x1024 .f32) (x1 : Vec Ideal S1x1024 .f32) (x2 : Vec Ideal S1024x2048 .f32) (i : Fin 256) (j : Fin 512) :
    k0_pay3 x0 x1 x2 (ix2 i j) = k0_pay1 x0 x1 x2 (ix2 i ⟨512 + j.val, by omega⟩) := by
  unfold k0_pay3
  generalize k0_pay1 x0 x1 x2 = g
  pointwise []

/-- What the body stores at block index `y` of tile `t` is the reference at the array index `y` sits at. -/
theorem point_4 (c : Dev nD) (t : Fin cfg0.N) (y) :
    k0_pay3 (iblk m c 0 t) (iblk m c 1 t) (iblk m c 2 t) y = REF_v23 (m ((c : Thread nD τ).loc main_arg0)) (m ((c : Thread nD τ).loc main_arg1)) (m ((c : Thread nD τ).loc main_arg2)) (((cfg0.win 4).blk t).view.emb y) := by
  have ht : t.val < 64 := t.2
  idx_vars y
  have e : ((cfg0.win 4).blk t).view.emb (ix2 y0 y1) = ix2 ⟨t.val*256+y0.val, by omega⟩ y1 := by
    blk_ext [idx_val t]
  refine ((pay_at_4 _ _ _ y0 y1).trans ?_).trans (congrArg _ e.symm)
  rw [tile_at]
  exact (ref_at_4 _ _ _ ⟨t.val*256+y0.val, by omega⟩ y1).symm

/-- So the result array after the run is the reference's (the blocks tile the array). -/
theorem final_4 (c : Dev nD) : (dats m 0 c).arrAt 4 (cfgs 0).N = REF_v23 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

/-- The reference's result at an index, by its product. -/
theorem ref_at_5 (a0 : FVec Ideal Cert.ProjPRefIdeal.S8x2048x1024 .f32) (a1 : FVec Ideal Cert.ProjPRefIdeal.S1x1024 .f32)
    (a2 : FVec Ideal Cert.ProjPRefIdeal.S1x1024x2048 .f32) (r : Fin 16384) (j : Fin 512) :
    REF_v24 a0 a1 a2 (ix2 r j) = joint a0 a1 a2 (ix3 ⟨r.val/2048, by omega⟩ ⟨r.val%2048, by omega⟩ ⟨1024 + j.val, by omega⟩) := by
  unfold REF_v24
  generalize joint a0 a1 a2 = g
  pointwise []

/-- The body's stored block at an index, by its product. -/
theorem pay_at_5 (x0 : Vec Ideal S256x1024 .f32) (x1 : Vec Ideal S1x1024 .f32) (x2 : Vec Ideal S1024x2048 .f32) (i : Fin 256) (j : Fin 512) :
    k0_pay4 x0 x1 x2 (ix2 i j) = k0_pay1 x0 x1 x2 (ix2 i ⟨1024 + j.val, by omega⟩) := by
  unfold k0_pay4
  generalize k0_pay1 x0 x1 x2 = g
  pointwise []

/-- What the body stores at block index `y` of tile `t` is the reference at the array index `y` sits at. -/
theorem point_5 (c : Dev nD) (t : Fin cfg0.N) (y) :
    k0_pay4 (iblk m c 0 t) (iblk m c 1 t) (iblk m c 2 t) y = REF_v24 (m ((c : Thread nD τ).loc main_arg0)) (m ((c : Thread nD τ).loc main_arg1)) (m ((c : Thread nD τ).loc main_arg2)) (((cfg0.win 5).blk t).view.emb y) := by
  have ht : t.val < 64 := t.2
  idx_vars y
  have e : ((cfg0.win 5).blk t).view.emb (ix2 y0 y1) = ix2 ⟨t.val*256+y0.val, by omega⟩ y1 := by
    blk_ext [idx_val t]
  refine ((pay_at_5 _ _ _ y0 y1).trans ?_).trans (congrArg _ e.symm)
  rw [tile_at]
  exact (ref_at_5 _ _ _ ⟨t.val*256+y0.val, by omega⟩ y1).symm

/-- So the result array after the run is the reference's (the blocks tile the array). -/
theorem final_5 (c : Dev nD) : (dats m 0 c).arrAt 5 (cfgs 0).N = REF_v24 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- The reference's result at an index, by its product. -/
theorem ref_at_6 (a0 : FVec Ideal Cert.ProjPRefIdeal.S8x2048x1024 .f32) (a1 : FVec Ideal Cert.ProjPRefIdeal.S1x1024 .f32)
    (a2 : FVec Ideal Cert.ProjPRefIdeal.S1x1024x2048 .f32) (r : Fin 16384) (j : Fin 512) :
    REF_v25 a0 a1 a2 (ix2 r j) = joint a0 a1 a2 (ix3 ⟨r.val/2048, by omega⟩ ⟨r.val%2048, by omega⟩ ⟨1536 + j.val, by omega⟩) := by
  unfold REF_v25
  generalize joint a0 a1 a2 = g
  pointwise []

/-- The body's stored block at an index, by its product. -/
theorem pay_at_6 (x0 : Vec Ideal S256x1024 .f32) (x1 : Vec Ideal S1x1024 .f32) (x2 : Vec Ideal S1024x2048 .f32) (i : Fin 256) (j : Fin 512) :
    k0_pay5 x0 x1 x2 (ix2 i j) = k0_pay1 x0 x1 x2 (ix2 i ⟨1536 + j.val, by omega⟩) := by
  unfold k0_pay5
  generalize k0_pay1 x0 x1 x2 = g
  pointwise []

/-- What the body stores at block index `y` of tile `t` is the reference at the array index `y` sits at. -/
theorem point_6 (c : Dev nD) (t : Fin cfg0.N) (y) :
    k0_pay5 (iblk m c 0 t) (iblk m c 1 t) (iblk m c 2 t) y = REF_v25 (m ((c : Thread nD τ).loc main_arg0)) (m ((c : Thread nD τ).loc main_arg1)) (m ((c : Thread nD τ).loc main_arg2)) (((cfg0.win 6).blk t).view.emb y) := by
  have ht : t.val < 64 := t.2
  idx_vars y
  have e : ((cfg0.win 6).blk t).view.emb (ix2 y0 y1) = ix2 ⟨t.val*256+y0.val, by omega⟩ y1 := by
    blk_ext [idx_val t]
  refine ((pay_at_6 _ _ _ y0 y1).trans ?_).trans (congrArg _ e.symm)
  rw [tile_at]
  exact (ref_at_6 _ _ _ ⟨t.val*256+y0.val, by omega⟩ y1).symm

/-- So the result array after the run is the reference's (the blocks tile the array). -/
theorem final_6 (c : Dev nD) : (dats m 0 c).arrAt 6 (cfgs 0).N = REF_v25 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

end Cert.ProjPIdeal.Value

end
-- ==== Proof.ProjS.Value.lean ====
/- The input projection of the sample rows: at exact arithmetic the four result arrays (queries, keys, values, recurrence inputs)
   are the reference's terms of the arguments. -/
module

public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.ProjSIdeal.Value

open Cert.ProjSIdeal Cert.ProjSIdeal.Gen

variable (m : (ℓ : Loc nD τ sig) → Buf (Elt Ideal) ℓ)

/-- The reference's normalised rows: each row over the root of its mean square (plus the small constant), times the gain. -/
abbrev normed (a0 : FVec Ideal Cert.ProjSRefIdeal.S32x4x1024 .f32) (a1 : FVec Ideal Cert.ProjSRefIdeal.S1x1024 .f32) : FVec Ideal Cert.ProjSRefIdeal.S32x4x1024 .f32 :=
  mulf (mulf a0 (broadcastInDim Cert.ProjSRefIdeal.S32x4x1024 ![0, 1, 2] Cert.ProjSRefIdeal.Gen.bcast_S32x4x1_S32x4x1024_0_1_2
      (Host.rsqrt (addf (Host.divf (broadcastInDim Cert.ProjSRefIdeal.S32x4x1 ![0, 1] Cert.ProjSRefIdeal.Gen.bcast_S32x4_S32x4x1_0_1
          (Host.reduceAdd (mulf a0 a0) (constant Cert.ProjSRefIdeal.S_ .f32 0x00000000#32) Cert.ProjSRefIdeal.Gen.reducesTo_S32x4x1024_S32x4_d2 Cert.ProjSRefIdeal.Gen.h_S_))
        (broadcastInDim Cert.ProjSRefIdeal.S32x4x1 ![] Cert.ProjSRefIdeal.Gen.bcast_S_S32x4x1 (constant Cert.ProjSRefIdeal.S_ .f32 0x44800000#32)))
        (broadcastInDim Cert.ProjSRefIdeal.S32x4x1 ![] Cert.ProjSRefIdeal.Gen.bcast_S_S32x4x1 (constant Cert.ProjSRefIdeal.S_ .f32 0x3727C5AC#32))))))
    (broadcastInDim Cert.ProjSRefIdeal.S32x4x1024 ![0, 1, 2] Cert.ProjSRefIdeal.Gen.bcast_S1x1x1024_S32x4x1024_0_1_2
      (broadcastInDim Cert.ProjSRefIdeal.S1x1x1024 ![2] Cert.ProjSRefIdeal.Gen.bcast_S1024_S1x1x1024_2 (shapeCast _ a1 Cert.ProjSRefIdeal.Gen.shapeCasts_S1x1024_S1024)))

/-- The reference's product of the normalised rows with the input weights. -/
abbrev joint (a0 : FVec Ideal Cert.ProjSRefIdeal.S32x4x1024 .f32) (a1 : FVec Ideal Cert.ProjSRefIdeal.S1x1024 .f32) (a2 : FVec Ideal Cert.ProjSRefIdeal.S1x1024x2048 .f32) : FVec Ideal Cert.ProjSRefIdeal.S32x4x2048 .f32 :=
  Host.dotGeneral Cert.ProjSRefIdeal.dot_S32x4x1024_S1024x2048_S32x4x2048_2_0_01_1_n_n none (normed a0 a1)
    (shapeCast Cert.ProjSRefIdeal.S1024x2048 a2 Cert.ProjSRefIdeal.Gen.shapeCasts_S1x1024x2048_S1024x2048)

/-- The reference's queries: the first 512 columns, scaled. -/
abbrev REF_v22 (a0 : FVec Ideal Cert.ProjSRefIdeal.S32x4x1024 .f32) (a1 : FVec Ideal Cert.ProjSRefIdeal.S1x1024 .f32) (a2 : FVec Ideal Cert.ProjSRefIdeal.S1x1024x2048 .f32) : FVec Ideal Cert.ProjSRefIdeal.S128x512 .f32 :=
  shapeCast _ (mulf (extractStridedSlice Cert.ProjSRefIdeal.S32x4x512 ![0, 0, 0] (joint a0 a1 a2) Cert.ProjSRefIdeal.Gen.slices_S32x4x2048_S32x4x512_0_0_0)
    (broadcastInDim Cert.ProjSRefIdeal.S32x4x512 ![] Cert.ProjSRefIdeal.Gen.bcast_S_S32x4x512 (constant Cert.ProjSRefIdeal.S_ .f32 0x3E000000#32))) Cert.ProjSRefIdeal.Gen.shapeCasts_S32x4x512_S128x512

/-- The reference's keys: the second 512 columns. -/
abbrev REF_v23 (a0 : FVec Ideal Cert.ProjSRefIdeal.S32x4x1024 .f32) (a1 : FVec Ideal Cert.ProjSRefIdeal.S1x1024 .f32) (a2 : FVec Ideal Cert.ProjSRefIdeal.S1x1024x2048 .f32) : FVec Ideal Cert.ProjSRefIdeal.S128x512 .f32 :=
  shapeCast _ (extractStridedSlice Cert.ProjSRefIdeal.S32x4x512 ![0, 0, 512] (joint a0 a1 a2) Cert.ProjSRefIdeal.Gen.slices_S32x4x2048_S32x4x512_0_0_512) Cert.ProjSRefIdeal.Gen.shapeCasts_S32x4x512_S128x512

/-- The reference's values: the third 512 columns. -/
abbrev REF_v24 (a0 : FVec Ideal Cert.ProjSRefIdeal.S32x4x1024 .f32) (a1 : FVec Ideal Cert.ProjSRefIdeal.S1x1024 .f32) (a2 : FVec Ideal Cert.ProjSRefIdeal.S1x1024x2048 .f32) : FVec Ideal Cert.ProjSRefIdeal.S128x512 .f32 :=
  shapeCast _ (extractStridedSlice Cert.ProjSRefIdeal.S32x4x512 ![0, 0, 1024] (joint a0 a1 a2) Cert.ProjSRefIdeal.Gen.slices_S32x4x2048_S32x4x512_0_0_1024) Cert.ProjSRefIdeal.Gen.shapeCasts_S32x4x512_S128x512

/-- The reference's recurrence inputs: the last 512 columns. -/
abbrev REF_v25 (a0 : FVec Ideal Cert.ProjSRefIdeal.S32x4x1024 .f32) (a1 : FVec Ideal Cert.ProjSRefIdeal.S1x1024 .f32) (a2 : FVec Ideal Cert.ProjSRefIdeal.S1x1024x2048 .f32) : FVec Ideal Cert.ProjSRefIdeal.S128x512 .f32 :=
  shapeCast _ (extractStridedSlice Cert.ProjSRefIdeal.S32x4x512 ![0, 0, 1536] (joint a0 a1 a2) Cert.ProjSRefIdeal.Gen.slices_S32x4x2048_S32x4x512_0_0_1536) Cert.ProjSRefIdeal.Gen.shapeCasts_S32x4x512_S128x512

/-- every window's block index at every grid point, in closed form (decided). Use: `obtain ⟨e0, e1, e2, e3, e4, e5, e6⟩ := idx t`, then
    `blk_simp [e0, …]` / `blk_ext [e0, …]` put block embeddings at coordinates (value_ideal.md §3). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- One entry of the product of the normalised rows with the weights. -/
abbrev entry (a0 : FVec Ideal Cert.ProjSRefIdeal.S32x4x1024 .f32) (a1 : FVec Ideal Cert.ProjSRefIdeal.S1x1024 .f32)
    (a2 : FVec Ideal Cert.ProjSRefIdeal.S1x1024x2048 .f32) (b : Fin 32) (r : Fin 4) (j : Fin 2048) : Ideal .f32 :=
  ∑ x : Fin 1024, a0 (ix3 b r x)
      * Ideal.rsqrt (Ideal.div (∑ x : Fin 1024, a0 (ix3 b r x) * a0 (ix3 b r x)) (Ideal.ofBits .f32 0x44800000#32)
          + Ideal.ofBits .f32 0x3727C5AC#32)
      * a1 (ix2 0 x) * a2 (ix3 0 x j)

/-- The reference's product at an index is that entry. -/
theorem joint_at (a0 : FVec Ideal Cert.ProjSRefIdeal.S32x4x1024 .f32) (a1 : FVec Ideal Cert.ProjSRefIdeal.S1x1024 .f32)
    (a2 : FVec Ideal Cert.ProjSRefIdeal.S1x1024x2048 .f32) (b : Fin 32) (r : Fin 4) (j : Fin 2048) :
    joint a0 a1 a2 (ix3 b r j) = entry a0 a1 a2 b r j := by
  pointwise [joint, normed, entry]

/-- The body's product at an index of its tile. -/
theorem pay_at (x0 : Vec Ideal S128x1024 .f32) (x1 : Vec Ideal S1x1024 .f32) (x2 : Vec Ideal S1024x2048 .f32) (i : Fin 128) (j : Fin 2048) :
    k0_pay1 x0 x1 x2 (ix2 i j) = ∑ x : Fin 1024, x0 (ix2 i x)
      * Ideal.rsqrt (Ideal.div (∑ x : Fin 1024, x0 (ix2 i x) * x0 (ix2 i x)) (Ideal.ofBits .f32 0x44800000#32)
          + Ideal.ofBits .f32 0x3727C5AC#32)
      * x1 (ix2 0 x) * x2 (ix2 x j) := by
  pointwise [k0_pay1]

/-- Row `i` of tile `t` is row `i` of all the rows, a batch and a position in it. -/
theorem blk0 (c : Dev nD) (t : Fin cfg0.N) (i : Fin 128) (x : Fin 1024) : iblk m c 0 t (ix2 i x)
    = m ((c : Thread nD τ).loc main_arg0) (ix3 ⟨(i.val)/4, by have : t.val < 1 := t.2; omega⟩ ⟨(i.val)%4, by omega⟩ x) := by
  blk_point [iblk, V, idx t]
/-- Every tile is handed the whole gain, -/
theorem blk1 (c : Dev nD) (t : Fin cfg0.N) (x : Fin 1024) : iblk m c 1 t (ix2 0 x)
    = m ((c : Thread nD τ).loc main_arg1) (ix2 0 x) := by
  blk_point [iblk, V, idx t]
/-- and all the weights. -/
theorem blk2 (c : Dev nD) (t : Fin cfg0.N) (x : Fin 1024) (j : Fin 2048) : iblk m c 2 t (ix2 x j)
    = m ((c : Thread nD τ).loc main_arg2) (ix3 0 x j) := by
  blk_point [iblk, V, idx t]

/-- The body's product over tile `t`'s blocks is the reference's product at the tile's rows. -/
theorem tile_at (c : Dev nD) (t : Fin cfg0.N) (i : Fin 128) (j : Fin 2048) :
    k0_pay1 (iblk m c 0 t) (iblk m c 1 t) (iblk m c 2 t) (ix2 i j)
      = joint (m ((c : Thread nD τ).loc main_arg0)) (m ((c : Thread nD τ).loc main_arg1)) (m ((c : Thread nD τ).loc main_arg2))
          (ix3 ⟨(i.val)/4, by have : t.val < 1 := t.2; omega⟩ ⟨(i.val)%4, by omega⟩ j) := by
  refine (pay_at (iblk m c 0 t) (iblk m c 1 t) (iblk m c 2 t) i j).trans (Eq.trans ?_ (joint_at _ _ _ _ _ _).symm)
  simp only [blk0 m c t, blk1 m c t, blk2 m c t, entry]

/-- The reference's result at an index, by its product. -/
theorem ref_at_3 (a0 : FVec Ideal Cert.ProjSRefIdeal.S32x4x1024 .f32) (a1 : FVec Ideal Cert.ProjSRefIdeal.S1x1024 .f32)
    (a2 : FVec Ideal Cert.ProjSRefIdeal.S1x1024x2048 .f32) (r : Fin 128) (j : Fin 512) :
    REF_v22 a0 a1 a2 (ix2 r j) = joint a0 a1 a2 (ix3 ⟨r.val/4, by omega⟩ ⟨r.val%4, by omega⟩ ⟨j.val, by omega⟩) * Ideal.ofBits .f32 0x3E000000#32 := by
  unfold REF_v22
  generalize joint a0 a1 a2 = g
  pointwise []

/-- The body's stored block at an index, by its product. -/
theorem pay_at_3 (x0 : Vec Ideal S128x1024 .f32) (x1 : Vec Ideal S1x1024 .f32) (x2 : Vec Ideal S1024x2048 .f32) (i : Fin 128) (j : Fin 512) :
    k0_pay2 x0 x1 x2 (ix2 i j) = k0_pay1 x0 x1 x2 (ix2 i ⟨j.val, by omega⟩) * Ideal.ofBits .f32 0x3E000000#32 := by
  unfold k0_pay2
  generalize k0_pay1 x0 x1 x2 = g
  pointwise []

/-- What the body stores at block index `y` of tile `t` is the reference at the array index `y` sits at. -/
theorem point_3 (c : Dev nD) (t : Fin cfg0.N) (y) :
    k0_pay2 (iblk m c 0 t) (iblk m c 1 t) (iblk m c 2 t) y = REF_v22 (m ((c : Thread nD τ).loc main_arg0)) (m ((c : Thread nD τ).loc main_arg1)) (m ((c : Thread nD τ).loc main_arg2)) (((cfg0.win 3).blk t).view.emb y) := by
  have ht : t.val < 1 := t.2
  idx_vars y
  have e : ((cfg0.win 3).blk t).view.emb (ix2 y0 y1) = ix2 ⟨y0.val, by omega⟩ y1 := by
    blk_ext [idx t]
  refine ((pay_at_3 _ _ _ y0 y1).trans ?_).trans (congrArg _ e.symm)
  rw [tile_at]
  exact (ref_at_3 _ _ _ ⟨y0.val, by omega⟩ y1).symm

/-- So the result array after the run is the reference's (the blocks tile the array). -/
theorem final_3 (c : Dev nD) : (dats m 0 c).arrAt 3 (cfgs 0).N = REF_v22 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_3 m c t y

/-- The reference's result at an index, by its product. -/
theorem ref_at_4 (a0 : FVec Ideal Cert.ProjSRefIdeal.S32x4x1024 .f32) (a1 : FVec Ideal Cert.ProjSRefIdeal.S1x1024 .f32)
    (a2 : FVec Ideal Cert.ProjSRefIdeal.S1x1024x2048 .f32) (r : Fin 128) (j : Fin 512) :
    REF_v23 a0 a1 a2 (ix2 r j) = joint a0 a1 a2 (ix3 ⟨r.val/4, by omega⟩ ⟨r.val%4, by omega⟩ ⟨512 + j.val, by omega⟩) := by
  unfold REF_v23
  generalize joint a0 a1 a2 = g
  pointwise []

/-- The body's stored block at an index, by its product. -/
theorem pay_at_4 (x0 : Vec Ideal S128x1024 .f32) (x1 : Vec Ideal S1x1024 .f32) (x2 : Vec Ideal S1024x2048 .f32) (i : Fin 128) (j : Fin 512) :
    k0_pay3 x0 x1 x2 (ix2 i j) = k0_pay1 x0 x1 x2 (ix2 i ⟨512 + j.val, by omega⟩) := by
  unfold k0_pay3
  generalize k0_pay1 x0 x1 x2 = g
  pointwise []

/-- What the body stores at block index `y` of tile `t` is the reference at the array index `y` sits at. -/
theorem point_4 (c : Dev nD) (t : Fin cfg0.N) (y) :
    k0_pay3 (iblk m c 0 t) (iblk m c 1 t) (iblk m c 2 t) y = REF_v23 (m ((c : Thread nD τ).loc main_arg0)) (m ((c : Thread nD τ).loc main_arg1)) (m ((c : Thread nD τ).loc main_arg2)) (((cfg0.win 4).blk t).view.emb y) := by
  have ht : t.val < 1 := t.2
  idx_vars y
  have e : ((cfg0.win 4).blk t).view.emb (ix2 y0 y1) = ix2 ⟨y0.val, by omega⟩ y1 := by
    blk_ext [idx t]
  refine ((pay_at_4 _ _ _ y0 y1).trans ?_).trans (congrArg _ e.symm)
  rw [tile_at]
  exact (ref_at_4 _ _ _ ⟨y0.val, by omega⟩ y1).symm

/-- So the result array after the run is the reference's (the blocks tile the array). -/
theorem final_4 (c : Dev nD) : (dats m 0 c).arrAt 4 (cfgs 0).N = REF_v23 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

/-- The reference's result at an index, by its product. -/
theorem ref_at_5 (a0 : FVec Ideal Cert.ProjSRefIdeal.S32x4x1024 .f32) (a1 : FVec Ideal Cert.ProjSRefIdeal.S1x1024 .f32)
    (a2 : FVec Ideal Cert.ProjSRefIdeal.S1x1024x2048 .f32) (r : Fin 128) (j : Fin 512) :
    REF_v24 a0 a1 a2 (ix2 r j) = joint a0 a1 a2 (ix3 ⟨r.val/4, by omega⟩ ⟨r.val%4, by omega⟩ ⟨1024 + j.val, by omega⟩) := by
  unfold REF_v24
  generalize joint a0 a1 a2 = g
  pointwise []

/-- The body's stored block at an index, by its product. -/
theorem pay_at_5 (x0 : Vec Ideal S128x1024 .f32) (x1 : Vec Ideal S1x1024 .f32) (x2 : Vec Ideal S1024x2048 .f32) (i : Fin 128) (j : Fin 512) :
    k0_pay4 x0 x1 x2 (ix2 i j) = k0_pay1 x0 x1 x2 (ix2 i ⟨1024 + j.val, by omega⟩) := by
  unfold k0_pay4
  generalize k0_pay1 x0 x1 x2 = g
  pointwise []

/-- What the body stores at block index `y` of tile `t` is the reference at the array index `y` sits at. -/
theorem point_5 (c : Dev nD) (t : Fin cfg0.N) (y) :
    k0_pay4 (iblk m c 0 t) (iblk m c 1 t) (iblk m c 2 t) y = REF_v24 (m ((c : Thread nD τ).loc main_arg0)) (m ((c : Thread nD τ).loc main_arg1)) (m ((c : Thread nD τ).loc main_arg2)) (((cfg0.win 5).blk t).view.emb y) := by
  have ht : t.val < 1 := t.2
  idx_vars y
  have e : ((cfg0.win 5).blk t).view.emb (ix2 y0 y1) = ix2 ⟨y0.val, by omega⟩ y1 := by
    blk_ext [idx t]
  refine ((pay_at_5 _ _ _ y0 y1).trans ?_).trans (congrArg _ e.symm)
  rw [tile_at]
  exact (ref_at_5 _ _ _ ⟨y0.val, by omega⟩ y1).symm

/-- So the result array after the run is the reference's (the blocks tile the array). -/
theorem final_5 (c : Dev nD) : (dats m 0 c).arrAt 5 (cfgs 0).N = REF_v24 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- The reference's result at an index, by its product. -/
theorem ref_at_6 (a0 : FVec Ideal Cert.ProjSRefIdeal.S32x4x1024 .f32) (a1 : FVec Ideal Cert.ProjSRefIdeal.S1x1024 .f32)
    (a2 : FVec Ideal Cert.ProjSRefIdeal.S1x1024x2048 .f32) (r : Fin 128) (j : Fin 512) :
    REF_v25 a0 a1 a2 (ix2 r j) = joint a0 a1 a2 (ix3 ⟨r.val/4, by omega⟩ ⟨r.val%4, by omega⟩ ⟨1536 + j.val, by omega⟩) := by
  unfold REF_v25
  generalize joint a0 a1 a2 = g
  pointwise []

/-- The body's stored block at an index, by its product. -/
theorem pay_at_6 (x0 : Vec Ideal S128x1024 .f32) (x1 : Vec Ideal S1x1024 .f32) (x2 : Vec Ideal S1024x2048 .f32) (i : Fin 128) (j : Fin 512) :
    k0_pay5 x0 x1 x2 (ix2 i j) = k0_pay1 x0 x1 x2 (ix2 i ⟨1536 + j.val, by omega⟩) := by
  unfold k0_pay5
  generalize k0_pay1 x0 x1 x2 = g
  pointwise []

/-- What the body stores at block index `y` of tile `t` is the reference at the array index `y` sits at. -/
theorem point_6 (c : Dev nD) (t : Fin cfg0.N) (y) :
    k0_pay5 (iblk m c 0 t) (iblk m c 1 t) (iblk m c 2 t) y = REF_v25 (m ((c : Thread nD τ).loc main_arg0)) (m ((c : Thread nD τ).loc main_arg1)) (m ((c : Thread nD τ).loc main_arg2)) (((cfg0.win 6).blk t).view.emb y) := by
  have ht : t.val < 1 := t.2
  idx_vars y
  have e : ((cfg0.win 6).blk t).view.emb (ix2 y0 y1) = ix2 ⟨y0.val, by omega⟩ y1 := by
    blk_ext [idx t]
  refine ((pay_at_6 _ _ _ y0 y1).trans ?_).trans (congrArg _ e.symm)
  rw [tile_at]
  exact (ref_at_6 _ _ _ ⟨y0.val, by omega⟩ y1).symm

/-- So the result array after the run is the reference's (the blocks tile the array). -/
theorem final_6 (c : Dev nD) : (dats m 0 c).arrAt 6 (cfgs 0).N = REF_v25 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

end Cert.ProjSIdeal.Value

end
-- ==== Proof.FinalP.Value.lean ====
/- The final norm of the prompt rows: at exact arithmetic the result array is the reference's term of the arguments. -/
module

public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.FinalPRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FinalPIdeal.Value

open Cert.FinalPIdeal Cert.FinalPIdeal.Gen

variable (m : (ℓ : Loc nD τ sig) → Buf (Elt Ideal) ℓ)

/-- The rows that are normalised: the two arguments' sum. -/
abbrev total (a0 a1 : FVec Ideal Cert.FinalPRefIdeal.S16384x1024 .f32) : FVec Ideal Cert.FinalPRefIdeal.S16384x1024 .f32 := addf a0 a1

/-- The reference's result: each row over the root of its mean square (plus the small constant), times the gain. -/
abbrev REF (a0 a1 : FVec Ideal Cert.FinalPRefIdeal.S16384x1024 .f32) (a2 : FVec Ideal Cert.FinalPRefIdeal.S1024 .f32) : FVec Ideal Cert.FinalPRefIdeal.S16384x1024 .f32 :=
  mulf (mulf (total a0 a1) (broadcastInDim Cert.FinalPRefIdeal.S16384x1024 ![0, 1] Cert.FinalPRefIdeal.Gen.bcast_S16384x1_S16384x1024_0_1
      (Host.rsqrt (addf (Host.divf (broadcastInDim Cert.FinalPRefIdeal.S16384x1 ![0] Cert.FinalPRefIdeal.Gen.bcast_S16384_S16384x1_0
          (Host.reduceAdd (mulf (total a0 a1) (total a0 a1)) (constant Cert.FinalPRefIdeal.S_ .f32 0x00000000#32) Cert.FinalPRefIdeal.Gen.reducesTo_S16384x1024_S16384_d1 Cert.FinalPRefIdeal.Gen.h_S_))
        (broadcastInDim Cert.FinalPRefIdeal.S16384x1 ![] Cert.FinalPRefIdeal.Gen.bcast_S_S16384x1 (constant Cert.FinalPRefIdeal.S_ .f32 0x44800000#32)))
        (broadcastInDim Cert.FinalPRefIdeal.S16384x1 ![] Cert.FinalPRefIdeal.Gen.bcast_S_S16384x1 (constant Cert.FinalPRefIdeal.S_ .f32 0x3727C5AC#32))))))
    (broadcastInDim Cert.FinalPRefIdeal.S16384x1024 ![0, 1] Cert.FinalPRefIdeal.Gen.bcast_S1x1024_S16384x1024_0_1
      (broadcastInDim Cert.FinalPRefIdeal.S1x1024 ![1] Cert.FinalPRefIdeal.Gen.bcast_S1024_S1x1024_1 a2))

/-- Every window's block index at every grid point, in closed form (decided). -/
theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- One entry of the result: the row's own sum scaled by the row's root mean square and the gain. -/
abbrev entry (f : Fin 1024 → Ideal .f32) (g : Fin 1024 → Ideal .f32) (j : Fin 1024) : Ideal .f32 :=
  f j * Ideal.rsqrt (Ideal.div (∑ x : Fin 1024, f x * f x) (Ideal.ofBits .f32 0x44800000#32)
          + Ideal.ofBits .f32 0x3727C5AC#32) * g j

/-- The reference's result at an index. -/
theorem ref_at (a0 a1 : FVec Ideal Cert.FinalPRefIdeal.S16384x1024 .f32) (a2 : FVec Ideal Cert.FinalPRefIdeal.S1024 .f32) (r : Fin 16384) (j : Fin 1024) :
    REF a0 a1 a2 (ix2 r j) = entry (fun x => a0 (ix2 r x) + a1 (ix2 r x)) (fun x => a2 (ix1 x)) j := by
  pointwise [REF, total, entry]

/-- The body's stored block at an index of its tile. -/
theorem pay_at (x0 x1 : Vec Ideal S256x1024 .f32) (x2 : Vec Ideal S1x1024 .f32) (i : Fin 256) (j : Fin 1024) :
    k0_pay1 x0 x1 x2 (ix2 i j) = entry (fun x => x0 (ix2 i x) + x1 (ix2 i x)) (fun x => x2 (ix2 0 x)) j := by
  pointwise [k0_pay1, entry]

/-- Row `i` of tile `t` is a row of the first array, -/
theorem blk0 (c : Dev nD) (t : Fin cfg0.N) (i : Fin 256) (x : Fin 1024) : iblk m c 0 t (ix2 i x)
    = m ((c : Thread nD τ).loc main_arg0) (ix2 ⟨t.val*256+i.val, by have : t.val < 64 := t.2; omega⟩ x) := by
  blk_point [iblk, V, idx t]
/-- the same row of the second, -/
theorem blk1 (c : Dev nD) (t : Fin cfg0.N) (i : Fin 256) (x : Fin 1024) : iblk m c 1 t (ix2 i x)
    = m ((c : Thread nD τ).loc main_arg1) (ix2 ⟨t.val*256+i.val, by have : t.val < 64 := t.2; omega⟩ x) := by
  blk_point [iblk, V, idx t]
/-- and every tile is handed the whole gain. -/
theorem blk2 (c : Dev nD) (t : Fin cfg0.N) (x : Fin 1024) : iblk m c 2 t (ix2 0 x)
    = m ((c : Thread nD τ).loc main_arg2) (ix1 x) := by
  blk_point [iblk, V, idx t]

/-- What the body stores at block index `y` of tile `t` is the reference at the array index `y` sits at. -/
theorem point (c : Dev nD) (t : Fin cfg0.N) (y) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  have ht : t.val < 64 := t.2
  idx_vars y
  have e : ((cfg0.win 3).blk t).view.emb (ix2 y0 y1) = ix2 ⟨t.val*256+y0.val, by omega⟩ y1 := by
    blk_ext [idx t]
  refine ((pay_at _ _ _ y0 y1).trans ?_).trans (congrArg _ e.symm)
  simp only [blk0 m c t, blk1 m c t, blk2 m c t]
  exact (ref_at _ _ _ ⟨t.val*256+y0.val, by omega⟩ y1).symm

/-- So the result array after the run is the reference's (the blocks tile the array). -/
theorem final_3 (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.FinalPIdeal.Value

end
-- ==== Proof.FinalS.Value.lean ====
/- The final norm of the sample rows: at exact arithmetic the result array is the reference's term of the arguments. -/
module

public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.FinalSRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FinalSIdeal.Value

open Cert.FinalSIdeal Cert.FinalSIdeal.Gen

variable (m : (ℓ : Loc nD τ sig) → Buf (Elt Ideal) ℓ)

/-- The rows that are normalised: the two arguments' sum. -/
abbrev total (a0 a1 : FVec Ideal Cert.FinalSRefIdeal.S128x1024 .f32) : FVec Ideal Cert.FinalSRefIdeal.S128x1024 .f32 := addf a0 a1

/-- The reference's result: each row over the root of its mean square (plus the small constant), times the gain. -/
abbrev REF (a0 a1 : FVec Ideal Cert.FinalSRefIdeal.S128x1024 .f32) (a2 : FVec Ideal Cert.FinalSRefIdeal.S1024 .f32) : FVec Ideal Cert.FinalSRefIdeal.S128x1024 .f32 :=
  mulf (mulf (total a0 a1) (broadcastInDim Cert.FinalSRefIdeal.S128x1024 ![0, 1] Cert.FinalSRefIdeal.Gen.bcast_S128x1_S128x1024_0_1
      (Host.rsqrt (addf (Host.divf (broadcastInDim Cert.FinalSRefIdeal.S128x1 ![0] Cert.FinalSRefIdeal.Gen.bcast_S128_S128x1_0
          (Host.reduceAdd (mulf (total a0 a1) (total a0 a1)) (constant Cert.FinalSRefIdeal.S_ .f32 0x00000000#32) Cert.FinalSRefIdeal.Gen.reducesTo_S128x1024_S128_d1 Cert.FinalSRefIdeal.Gen.h_S_))
        (broadcastInDim Cert.FinalSRefIdeal.S128x1 ![] Cert.FinalSRefIdeal.Gen.bcast_S_S128x1 (constant Cert.FinalSRefIdeal.S_ .f32 0x44800000#32)))
        (broadcastInDim Cert.FinalSRefIdeal.S128x1 ![] Cert.FinalSRefIdeal.Gen.bcast_S_S128x1 (constant Cert.FinalSRefIdeal.S_ .f32 0x3727C5AC#32))))))
    (broadcastInDim Cert.FinalSRefIdeal.S128x1024 ![0, 1] Cert.FinalSRefIdeal.Gen.bcast_S1x1024_S128x1024_0_1
      (broadcastInDim Cert.FinalSRefIdeal.S1x1024 ![1] Cert.FinalSRefIdeal.Gen.bcast_S1024_S1x1024_1 a2))

/-- Every window's block index at every grid point, in closed form (decided). -/
theorem idx : ∀ t : Fin cfg0.N, win0_0.index t = ![0, 0]
    ∧ win0_1.index t = ![0, 0]
    ∧ win0_2.index t = ![0, 0]
    ∧ win0_3.index t = ![0, 0] :=
  (by decide +kernel : ∀ t : Fin grid0.N, _)

/-- One entry of the result: the row's own sum scaled by the row's root mean square and the gain. -/
abbrev entry (f : Fin 1024 → Ideal .f32) (g : Fin 1024 → Ideal .f32) (j : Fin 1024) : Ideal .f32 :=
  f j * Ideal.rsqrt (Ideal.div (∑ x : Fin 1024, f x * f x) (Ideal.ofBits .f32 0x44800000#32)
          + Ideal.ofBits .f32 0x3727C5AC#32) * g j

/-- The reference's result at an index. -/
theorem ref_at (a0 a1 : FVec Ideal Cert.FinalSRefIdeal.S128x1024 .f32) (a2 : FVec Ideal Cert.FinalSRefIdeal.S1024 .f32) (r : Fin 128) (j : Fin 1024) :
    REF a0 a1 a2 (ix2 r j) = entry (fun x => a0 (ix2 r x) + a1 (ix2 r x)) (fun x => a2 (ix1 x)) j := by
  pointwise [REF, total, entry]

/-- The body's stored block at an index of its tile. -/
theorem pay_at (x0 x1 : Vec Ideal S128x1024 .f32) (x2 : Vec Ideal S1x1024 .f32) (i : Fin 128) (j : Fin 1024) :
    k0_pay1 x0 x1 x2 (ix2 i j) = entry (fun x => x0 (ix2 i x) + x1 (ix2 i x)) (fun x => x2 (ix2 0 x)) j := by
  pointwise [k0_pay1, entry]

/-- Row `i` of tile `t` is a row of the first array, -/
theorem blk0 (c : Dev nD) (t : Fin cfg0.N) (i : Fin 128) (x : Fin 1024) : iblk m c 0 t (ix2 i x)
    = m ((c : Thread nD τ).loc main_arg0) (ix2 ⟨i.val, by have : t.val < 1 := t.2; omega⟩ x) := by
  blk_point [iblk, V, idx t]
/-- the same row of the second, -/
theorem blk1 (c : Dev nD) (t : Fin cfg0.N) (i : Fin 128) (x : Fin 1024) : iblk m c 1 t (ix2 i x)
    = m ((c : Thread nD τ).loc main_arg1) (ix2 ⟨i.val, by have : t.val < 1 := t.2; omega⟩ x) := by
  blk_point [iblk, V, idx t]
/-- and every tile is handed the whole gain. -/
theorem blk2 (c : Dev nD) (t : Fin cfg0.N) (x : Fin 1024) : iblk m c 2 t (ix2 0 x)
    = m ((c : Thread nD τ).loc main_arg2) (ix1 x) := by
  blk_point [iblk, V, idx t]

/-- What the body stores at block index `y` of tile `t` is the reference at the array index `y` sits at. -/
theorem point (c : Dev nD) (t : Fin cfg0.N) (y) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  have ht : t.val < 1 := t.2
  idx_vars y
  have e : ((cfg0.win 3).blk t).view.emb (ix2 y0 y1) = ix2 ⟨y0.val, by omega⟩ y1 := by
    blk_ext [idx t]
  refine ((pay_at _ _ _ y0 y1).trans ?_).trans (congrArg _ e.symm)
  simp only [blk0 m c t, blk1 m c t, blk2 m c t]
  exact (ref_at _ _ _ ⟨y0.val, by omega⟩ y1).symm

/-- So the result array after the run is the reference's (the blocks tile the array). -/
theorem final_3 (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.FinalSIdeal.Value

end
-- ==== Proof.FinishP.Value.lean ====
/- The gated output of the prompt rows: at exact arithmetic the first two result arrays (the new rows, and those rows normalised for
   the experts) are the reference's terms of the arguments. -/
module

public import proofs.«01_k».proof.Proof.Gen.FinishPIdeal
public import proofs.«01_k».proof.Proof.Gen.FinishPIdeal.Skeleton
public import proofs.«01_k».proof.Proof.Gen.FinishPIdeal.Launch
public import proofs.«01_k».proof.Proof.Gen.FinishPIdeal.Points
public import proofs.«01_k».proof.Proof.Gen.FinishPIdeal.Frame
public import proofs.«01_k».proof.Proof.Gen.FinishPRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FinishPIdeal.Value

open Cert.FinishPIdeal Cert.FinishPIdeal.Gen

variable (m : (ℓ : Loc nD τ sig) → Buf (Elt Ideal) ℓ)

/-! ## The reference's stages -/

/-- The reference's gated recurrence outputs: the activation (in its hyperbolic-tangent form), times the logistic gate of its product. -/
abbrev act (a2 : FVec Ideal Cert.FinishPRefIdeal.S16384x512 .f32) : FVec Ideal Cert.FinishPRefIdeal.S16384x512 .f32 :=
  mulf a2 (mulf (broadcastInDim Cert.FinishPRefIdeal.S16384x512 ![] Cert.FinishPRefIdeal.Gen.bcast_S_S16384x512 (constant Cert.FinishPRefIdeal.S_ .f32 0x3F000000#32))
    (addf (broadcastInDim Cert.FinishPRefIdeal.S16384x512 ![] Cert.FinishPRefIdeal.Gen.bcast_S_S16384x512 (constant Cert.FinishPRefIdeal.S_ .f32 0x3F800000#32))
      (Host.tanh (mulf (broadcastInDim Cert.FinishPRefIdeal.S16384x512 ![] Cert.FinishPRefIdeal.Gen.bcast_S_S16384x512 (constant Cert.FinishPRefIdeal.S_ .f32 0x3F4C422A#32))
        (addf a2 (mulf (broadcastInDim Cert.FinishPRefIdeal.S16384x512 ![] Cert.FinishPRefIdeal.Gen.bcast_S_S16384x512 (constant Cert.FinishPRefIdeal.S_ .f32 0x3D372713#32))
          (mulf (mulf a2 a2) a2)))))))

/-- The activation times the logistic gate of its product with the gate's weights. -/
abbrev gated (a2 : FVec Ideal Cert.FinishPRefIdeal.S16384x512 .f32) (a4 : FVec Ideal Cert.FinishPRefIdeal.S512x512 .f32) (a5 : FVec Ideal Cert.FinishPRefIdeal.S512 .f32) : FVec Ideal Cert.FinishPRefIdeal.S16384x512 .f32 :=
  mulf (act a2) (Host.divf (broadcastInDim Cert.FinishPRefIdeal.S16384x512 ![] Cert.FinishPRefIdeal.Gen.bcast_S_S16384x512 (constant Cert.FinishPRefIdeal.S_ .f32 0x3F800000#32))
    (addf (broadcastInDim Cert.FinishPRefIdeal.S16384x512 ![] Cert.FinishPRefIdeal.Gen.bcast_S_S16384x512 (constant Cert.FinishPRefIdeal.S_ .f32 0x3F800000#32))
      (Host.exp (negf (addf (Host.dotGeneral Cert.FinishPRefIdeal.dot_S16384x512_S512x512_S16384x512_1_0_0_1_n_n none (act a2) a4)
        (broadcastInDim Cert.FinishPRefIdeal.S16384x512 ![0, 1] Cert.FinishPRefIdeal.Gen.bcast_S1x512_S16384x512_0_1 (broadcastInDim Cert.FinishPRefIdeal.S1x512 ![1] Cert.FinishPRefIdeal.Gen.bcast_S512_S1x512_1 a5)))))))

/-- The reference's normalised rows of one mixer: each row over the root of its mean square (plus the small constant), times the gain. -/
abbrev norm512 (a : FVec Ideal Cert.FinishPRefIdeal.S16384x512 .f32) (g : FVec Ideal Cert.FinishPRefIdeal.S512 .f32) : FVec Ideal Cert.FinishPRefIdeal.S16384x512 .f32 :=
  mulf (mulf a (broadcastInDim Cert.FinishPRefIdeal.S16384x512 ![0, 1] Cert.FinishPRefIdeal.Gen.bcast_S16384x1_S16384x512_0_1
      (Host.rsqrt (addf (Host.divf (broadcastInDim Cert.FinishPRefIdeal.S16384x1 ![0] Cert.FinishPRefIdeal.Gen.bcast_S16384_S16384x1_0
          (Host.reduceAdd (mulf a a) (constant Cert.FinishPRefIdeal.S_ .f32 0x00000000#32) Cert.FinishPRefIdeal.Gen.reducesTo_S16384x512_S16384_d1 Cert.FinishPRefIdeal.Gen.h_S_))
        (broadcastInDim Cert.FinishPRefIdeal.S16384x1 ![] Cert.FinishPRefIdeal.Gen.bcast_S_S16384x1 (constant Cert.FinishPRefIdeal.S_ .f32 0x44000000#32)))
        (broadcastInDim Cert.FinishPRefIdeal.S16384x1 ![] Cert.FinishPRefIdeal.Gen.bcast_S_S16384x1 (constant Cert.FinishPRefIdeal.S_ .f32 0x3727C5AC#32))))))
    (broadcastInDim Cert.FinishPRefIdeal.S16384x512 ![0, 1] Cert.FinishPRefIdeal.Gen.bcast_S1x512_S16384x512_0_1 (broadcastInDim Cert.FinishPRefIdeal.S1x512 ![1] Cert.FinishPRefIdeal.Gen.bcast_S512_S1x512_1 g))

/-- Both mixers' rows side by side. -/
abbrev mixed (p q : FVec Ideal Cert.FinishPRefIdeal.S16384x512 .f32) : FVec Ideal Cert.FinishPRefIdeal.S16384x1024 .f32 :=
  concatenate Cert.FinishPRefIdeal.S16384x1024 1 [⟨Cert.FinishPRefIdeal.S16384x512, p⟩, ⟨Cert.FinishPRefIdeal.S16384x512, q⟩] Cert.FinishPRefIdeal.Gen.concatenates_S16384x512_S16384x512_S16384x1024_d1

/-- The residual sum: the rows plus the product of the mixed rows with the output weights. -/
abbrev summed (a0 : FVec Ideal Cert.FinishPRefIdeal.S16384x1024 .f32) (x : FVec Ideal Cert.FinishPRefIdeal.S16384x1024 .f32) (a7 : FVec Ideal Cert.FinishPRefIdeal.S1024x1024 .f32) : FVec Ideal Cert.FinishPRefIdeal.S16384x1024 .f32 :=
  addf a0 (Host.dotGeneral Cert.FinishPRefIdeal.dot_S16384x1024_S1024x1024_S16384x1024_1_0_0_1_n_n none x a7)

/-- The whole rows' norm. -/
abbrev norm1024 (a : FVec Ideal Cert.FinishPRefIdeal.S16384x1024 .f32) (g : FVec Ideal Cert.FinishPRefIdeal.S1024 .f32) : FVec Ideal Cert.FinishPRefIdeal.S16384x1024 .f32 :=
  mulf (mulf a (broadcastInDim Cert.FinishPRefIdeal.S16384x1024 ![0, 1] Cert.FinishPRefIdeal.Gen.bcast_S16384x1_S16384x1024_0_1
      (Host.rsqrt (addf (Host.divf (broadcastInDim Cert.FinishPRefIdeal.S16384x1 ![0] Cert.FinishPRefIdeal.Gen.bcast_S16384_S16384x1_0
          (Host.reduceAdd (mulf a a) (constant Cert.FinishPRefIdeal.S_ .f32 0x00000000#32) Cert.FinishPRefIdeal.Gen.reducesTo_S16384x1024_S16384_d1 Cert.FinishPRefIdeal.Gen.h_S_))
        (broadcastInDim Cert.FinishPRefIdeal.S16384x1 ![] Cert.FinishPRefIdeal.Gen.bcast_S_S16384x1 (constant Cert.FinishPRefIdeal.S_ .f32 0x44800000#32)))
        (broadcastInDim Cert.FinishPRefIdeal.S16384x1 ![] Cert.FinishPRefIdeal.Gen.bcast_S_S16384x1 (constant Cert.FinishPRefIdeal.S_ .f32 0x3727C5AC#32))))))
    (broadcastInDim Cert.FinishPRefIdeal.S16384x1024 ![0, 1] Cert.FinishPRefIdeal.Gen.bcast_S1x1024_S16384x1024_0_1 (broadcastInDim Cert.FinishPRefIdeal.S1x1024 ![1] Cert.FinishPRefIdeal.Gen.bcast_S1024_S1x1024_1 g))

/-- The reference's first result: the rows after both mixers. -/
abbrev REF1 (a0 : FVec Ideal Cert.FinishPRefIdeal.S16384x1024 .f32) (a1 a2 : FVec Ideal Cert.FinishPRefIdeal.S16384x512 .f32) (a3 : FVec Ideal Cert.FinishPRefIdeal.S512 .f32) (a4 : FVec Ideal Cert.FinishPRefIdeal.S512x512 .f32)
    (a5 a6 : FVec Ideal Cert.FinishPRefIdeal.S512 .f32) (a7 : FVec Ideal Cert.FinishPRefIdeal.S1024x1024 .f32) : FVec Ideal Cert.FinishPRefIdeal.S16384x1024 .f32 :=
  summed a0 (mixed (norm512 a1 a3) (norm512 (gated a2 a4 a5) a6)) a7

/-! ## One entry of each stage -/

/-- The activation of one number. -/
abbrev actE (s : Ideal .f32) : Ideal .f32 :=
  s * (Ideal.ofBits .f32 0x3F000000#32 * (Ideal.ofBits .f32 0x3F800000#32
    + Ideal.tanh (Ideal.ofBits .f32 0x3F4C422A#32 * (s + Ideal.ofBits .f32 0x3D372713#32 * (s * s * s)))))

/-- A gated entry, from its row, the gate's weights and its offset. -/
abbrev gatedE (f : Fin 512 → Ideal .f32) (w : Fin 512 → Fin 512 → Ideal .f32) (b : Fin 512 → Ideal .f32) (j : Fin 512) : Ideal .f32 :=
  actE (f j) * Ideal.logistic ((∑ x : Fin 512, actE (f x) * w x j) + b j)

/-- A normalised entry of a row of 512. -/
abbrev norm512E (f g : Fin 512 → Ideal .f32) (j : Fin 512) : Ideal .f32 :=
  f j * Ideal.rsqrt (Ideal.div (∑ x : Fin 512, f x * f x) (Ideal.ofBits .f32 0x44000000#32) + Ideal.ofBits .f32 0x3727C5AC#32) * g j

/-- A normalised entry of a row of 1024. -/
abbrev norm1024E (f g : Fin 1024 → Ideal .f32) (j : Fin 1024) : Ideal .f32 :=
  f j * Ideal.rsqrt (Ideal.div (∑ x : Fin 1024, f x * f x) (Ideal.ofBits .f32 0x44800000#32) + Ideal.ofBits .f32 0x3727C5AC#32) * g j

/-- A sum over 1024 columns is the sum over the first 512 and the sum over the last. -/
theorem halves (f : Fin 1024 → Ideal .f32) :
    ∑ y : Fin 1024, f y = (∑ x : Fin 512, f ⟨x.val, by omega⟩) + ∑ x : Fin 512, f ⟨512 + x.val, by omega⟩ :=
  Fin.sum_univ_add (a := 512) (b := 512) f

theorem act_ref (a2 : FVec Ideal Cert.FinishPRefIdeal.S16384x512 .f32) (r : Fin 16384) (j : Fin 512) : act a2 (ix2 r j) = actE (a2 (ix2 r j)) := by
  pointwise [act, actE]

theorem gated_ref (a2 : FVec Ideal Cert.FinishPRefIdeal.S16384x512 .f32) (a4 : FVec Ideal Cert.FinishPRefIdeal.S512x512 .f32) (a5 : FVec Ideal Cert.FinishPRefIdeal.S512 .f32) (r : Fin 16384) (j : Fin 512) :
    gated a2 a4 a5 (ix2 r j) = gatedE (fun x => a2 (ix2 r x)) (fun x y => a4 (ix2 x y)) (fun x => a5 (ix1 x)) j := by
  unfold gated gatedE
  simp only [← act_ref]
  generalize act a2 = g
  pointwise [Ideal.logistic]

theorem norm512_ref (a : FVec Ideal Cert.FinishPRefIdeal.S16384x512 .f32) (g : FVec Ideal Cert.FinishPRefIdeal.S512 .f32) (r : Fin 16384) (j : Fin 512) :
    norm512 a g (ix2 r j) = norm512E (fun x => a (ix2 r x)) (fun x => g (ix1 x)) j := by
  pointwise [norm512, norm512E]

theorem norm1024_ref (a : FVec Ideal Cert.FinishPRefIdeal.S16384x1024 .f32) (g : FVec Ideal Cert.FinishPRefIdeal.S1024 .f32) (r : Fin 16384) (j : Fin 1024) :
    norm1024 a g (ix2 r j) = norm1024E (fun x => a (ix2 r x)) (fun x => g (ix1 x)) j := by
  pointwise [norm1024, norm1024E]

theorem mixed_left (p q : FVec Ideal Cert.FinishPRefIdeal.S16384x512 .f32) (r : Fin 16384) (x : Fin 512) :
    mixed p q (ix2 r ⟨x.val, by omega⟩) = p (ix2 r x) := by
  pointwise [mixed]

theorem mixed_right (p q : FVec Ideal Cert.FinishPRefIdeal.S16384x512 .f32) (r : Fin 16384) (x : Fin 512) :
    mixed p q (ix2 r ⟨512 + x.val, by omega⟩) = q (ix2 r x) := by
  pointwise [mixed]

theorem summed_ref (a0 x : FVec Ideal Cert.FinishPRefIdeal.S16384x1024 .f32) (a7 : FVec Ideal Cert.FinishPRefIdeal.S1024x1024 .f32) (r : Fin 16384) (j : Fin 1024) :
    summed a0 x a7 (ix2 r j) = a0 (ix2 r j) + ∑ y : Fin 1024, x (ix2 r y) * a7 (ix2 y j) := by
  pointwise [summed]

/-- One entry of the first result. -/
abbrev outE (f0 : Ideal .f32) (f1 f2 g3 : Fin 512 → Ideal .f32) (w4 : Fin 512 → Fin 512 → Ideal .f32) (b5 g6 : Fin 512 → Ideal .f32)
    (w7 : Fin 1024 → Ideal .f32) : Ideal .f32 :=
  f0 + (∑ x : Fin 512, norm512E f1 g3 x * w7 ⟨x.val, by omega⟩)
    + ∑ x : Fin 512, norm512E (gatedE f2 w4 b5) g6 x * w7 ⟨512 + x.val, by omega⟩

theorem REF1_at (a0 : FVec Ideal Cert.FinishPRefIdeal.S16384x1024 .f32) (a1 a2 : FVec Ideal Cert.FinishPRefIdeal.S16384x512 .f32) (a3 : FVec Ideal Cert.FinishPRefIdeal.S512 .f32) (a4 : FVec Ideal Cert.FinishPRefIdeal.S512x512 .f32)
    (a5 a6 : FVec Ideal Cert.FinishPRefIdeal.S512 .f32) (a7 : FVec Ideal Cert.FinishPRefIdeal.S1024x1024 .f32) (r : Fin 16384) (j : Fin 1024) :
    REF1 a0 a1 a2 a3 a4 a5 a6 a7 (ix2 r j) = outE (a0 (ix2 r j)) (fun x => a1 (ix2 r x)) (fun x => a2 (ix2 r x)) (fun x => a3 (ix1 x))
      (fun x y => a4 (ix2 x y)) (fun x => a5 (ix1 x)) (fun x => a6 (ix1 x)) (fun y => a7 (ix2 y j)) := by
  unfold REF1 outE
  rw [summed_ref, halves, ← add_assoc]
  simp only [mixed_left, mixed_right, norm512_ref, gated_ref]

/-! ## The body's stages -/

theorem gated_pay (v0 : Vec Ideal S256x512 .f32) (v14 : Vec Ideal S512x512 .f32) (v16 : Vec Ideal S1x512 .f32) (i : Fin 256) (j : Fin 512) :
    k0_pay4 v0 v14 v16 (ix2 i j) = gatedE (fun x => v0 (ix2 i x)) (fun x y => v14 (ix2 x y)) (fun x => v16 (ix2 0 x)) j := by
  simp only [gatedE, actE, fun s : Ideal .f32 => mul_assoc s s s]
  pointwise [k0_pay4]

theorem norm512_pay (v21 : Vec Ideal S256x512 .f32) (v22 : Vec Ideal S1x512 .f32) (i : Fin 256) (j : Fin 512) :
    k0_pay3 v21 v22 (ix2 i j) = norm512E (fun x => v21 (ix2 i x)) (fun x => v22 (ix2 0 x)) j := by
  pointwise [k0_pay3, norm512E]

theorem out_pay (v35 v36 : FVec Ideal S256x512 .f32) (v38 : FVec Ideal S1x512 .f32) (v51 : Vec Ideal S256x1024 .f32) (v52 v55 : Vec Ideal S512x1024 .f32)
    (i : Fin 256) (j : Fin 1024) :
    k0_pay6 v35 v36 v38 v51 v52 v55 (ix2 i j) = v51 (ix2 i j) + (∑ x : Fin 512, v35 (ix2 i x) * v52 (ix2 x j))
      + ∑ x : Fin 512, norm512E (fun y => v36 (ix2 i y)) (fun y => v38 (ix2 0 y)) x * v55 (ix2 x j) := by
  pointwise [k0_pay6, norm512E]

theorem norm1024_pay (v35 v36 : FVec Ideal S256x512 .f32) (v38 : FVec Ideal S1x512 .f32) (v51 : Vec Ideal S256x1024 .f32) (v52 v55 : Vec Ideal S512x1024 .f32)
    (v59 : Vec Ideal S1x1024 .f32) (i : Fin 256) (j : Fin 1024) :
    k0_pay7 v35 v36 v38 v51 v52 v55 v59 (ix2 i j)
      = norm1024E (fun x => k0_pay6 v35 v36 v38 v51 v52 v55 (ix2 i x)) (fun x => v59 (ix2 0 x)) j := by
  unfold k0_pay7
  generalize k0_pay6 v35 v36 v38 v51 v52 v55 = g
  pointwise [norm1024E]

theorem gain_pay (v37 : Vec Ideal S1x512 .f32) (x : Fin 512) : k0_pay5 v37 (ix2 0 x) = v37 (ix2 0 x) := by
  pointwise [k0_pay5]

/-- Every window's block index at every grid point, in closed form (decided). -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0] :=
  (by decide +kernel : ∀ t : Fin grid0.N, _)

/-- Row `i` of tile `t` is a row of the residual rows, -/
theorem blk0 (c : Dev nD) (t : Fin cfg0.N) (i : Fin 256) (x : Fin 1024) : iblk m c 0 t (ix2 i x)
    = m ((c : Thread nD τ).loc main_arg0) (ix2 ⟨t.val*256+i.val, by have : t.val < 64 := t.2; omega⟩ x) := by
  blk_point [iblk, V, idx t]
/-- of the attention rows, -/
theorem blk1 (c : Dev nD) (t : Fin cfg0.N) (i : Fin 256) (x : Fin 512) : iblk m c 1 t (ix2 i x)
    = m ((c : Thread nD τ).loc main_arg1) (ix2 ⟨t.val*256+i.val, by have : t.val < 64 := t.2; omega⟩ x) := by
  blk_point [iblk, V, idx t]
/-- and of the recurrence rows. -/
theorem blk2 (c : Dev nD) (t : Fin cfg0.N) (i : Fin 256) (x : Fin 512) : iblk m c 2 t (ix2 i x)
    = m ((c : Thread nD τ).loc main_arg2) (ix2 ⟨t.val*256+i.val, by have : t.val < 64 := t.2; omega⟩ x) := by
  blk_point [iblk, V, idx t]
/-- Every tile is handed the whole gains, weights and offsets. -/
theorem entry3 (c : Dev nD) : V m c main_v3 = shapeCast S1x512 (m ((c : Thread nD τ).loc main_arg3)) Gen.shapeCasts_S512_S1x512 := by
  unfold V
  simp only [hostOps0, hostOps0_1, hostOps0_2, hostOps0_3, hostOps0_4, List.flatten_cons, List.flatten_nil, List.append_nil, List.cons_append, List.nil_append]
  after_results
  rfl
theorem blk3 (c : Dev nD) (t : Fin cfg0.N) (x : Fin 512) : iblk m c 3 t (ix2 0 x)
    = m ((c : Thread nD τ).loc main_arg3) (ix1 x) := by
  have e : ((cfg0.win 3).blk t).view.emb (ix2 0 x) = ix2 0 x := by
    blk_ext [idx t]
  refine (congrArg (V m c main_v3) e).trans ((congrFun (entry3 m c) _).trans ?_)
  pointwise []
theorem blk4 (c : Dev nD) (t : Fin cfg0.N) (x y : Fin 512) : iblk m c 4 t (ix2 x y)
    = m ((c : Thread nD τ).loc main_arg4) (ix2 x y) := by
  blk_point [iblk, V, idx t]
theorem entry5 (c : Dev nD) : V m c main_v4 = shapeCast S1x512 (m ((c : Thread nD τ).loc main_arg5)) Gen.shapeCasts_S512_S1x512 := by
  unfold V
  simp only [hostOps0, hostOps0_1, hostOps0_2, hostOps0_3, hostOps0_4, List.flatten_cons, List.flatten_nil, List.append_nil, List.cons_append, List.nil_append]
  after_results
  rfl
theorem blk5 (c : Dev nD) (t : Fin cfg0.N) (x : Fin 512) : iblk m c 5 t (ix2 0 x)
    = m ((c : Thread nD τ).loc main_arg5) (ix1 x) := by
  have e : ((cfg0.win 5).blk t).view.emb (ix2 0 x) = ix2 0 x := by
    blk_ext [idx t]
  refine (congrArg (V m c main_v4) e).trans ((congrFun (entry5 m c) _).trans ?_)
  pointwise []
theorem entry6 (c : Dev nD) : V m c main_v5 = shapeCast S1x512 (m ((c : Thread nD τ).loc main_arg6)) Gen.shapeCasts_S512_S1x512 := by
  unfold V
  simp only [hostOps0, hostOps0_1, hostOps0_2, hostOps0_3, hostOps0_4, List.flatten_cons, List.flatten_nil, List.append_nil, List.cons_append, List.nil_append]
  after_results
  rfl
theorem blk6 (c : Dev nD) (t : Fin cfg0.N) (x : Fin 512) : iblk m c 6 t (ix2 0 x)
    = m ((c : Thread nD τ).loc main_arg6) (ix1 x) := by
  have e : ((cfg0.win 6).blk t).view.emb (ix2 0 x) = ix2 0 x := by
    blk_ext [idx t]
  refine (congrArg (V m c main_v5) e).trans ((congrFun (entry6 m c) _).trans ?_)
  pointwise []
theorem blk7 (c : Dev nD) (t : Fin cfg0.N) (x y : Fin 1024) : iblk m c 7 t (ix2 x y)
    = m ((c : Thread nD τ).loc main_arg7) (ix2 x y) := by
  blk_point [iblk, V, idx t]
theorem entry8 (c : Dev nD) : V m c main_v6 = shapeCast S1x1024 (m ((c : Thread nD τ).loc main_arg8)) Gen.shapeCasts_S1024_S1x1024 := by
  unfold V
  simp only [hostOps0, hostOps0_1, hostOps0_2, hostOps0_3, hostOps0_4, List.flatten_cons, List.flatten_nil, List.append_nil, List.cons_append, List.nil_append]
  after_results
  rfl
theorem blk8 (c : Dev nD) (t : Fin cfg0.N) (x : Fin 1024) : iblk m c 8 t (ix2 0 x)
    = m ((c : Thread nD τ).loc main_arg8) (ix1 x) := by
  have e : ((cfg0.win 8).blk t).view.emb (ix2 0 x) = ix2 0 x := by
    blk_ext [idx t]
  refine (congrArg (V m c main_v6) e).trans ((congrFun (entry8 m c) _).trans ?_)
  pointwise []

/-- The first and the last 512 rows of the output weights, as the body loads them. -/
theorem top (x7 : Vec Ideal S1024x1024 .f32) (x : Fin 512) (j : Fin 1024) : (View.ld x7 r0_4 : Vec Ideal S512x1024 .f32) (ix2 x j) = x7 (ix2 ⟨x.val, by omega⟩ j) := by
  pointwise []
theorem bot (x7 : Vec Ideal S1024x1024 .f32) (x : Fin 512) (j : Fin 1024) : (View.ld x7 r0_5 : Vec Ideal S512x1024 .f32) (ix2 x j) = x7 (ix2 ⟨512 + x.val, by omega⟩ j) := by
  pointwise []

/-- The body's new row entry, over any blocks. -/
theorem out_tile (x0 : Vec Ideal S256x1024 .f32) (x1 x2 : Vec Ideal S256x512 .f32) (x3 : Vec Ideal S1x512 .f32) (x4 : Vec Ideal S512x512 .f32)
    (x5 x6 : Vec Ideal S1x512 .f32) (x7 : Vec Ideal S1024x1024 .f32) (i : Fin 256) (j : Fin 1024) :
    k0_pay6 (k0_pay3 x1 x3) (k0_pay4 x2 x4 x5) (k0_pay5 x6) x0 (View.ld x7 r0_4) (View.ld x7 r0_5) (ix2 i j)
      = outE (x0 (ix2 i j)) (fun x => x1 (ix2 i x)) (fun x => x2 (ix2 i x)) (fun x => x3 (ix2 0 x)) (fun x y => x4 (ix2 x y))
          (fun x => x5 (ix2 0 x)) (fun x => x6 (ix2 0 x)) (fun y => x7 (ix2 y j)) := by
  refine (out_pay (k0_pay3 x1 x3) (k0_pay4 x2 x4 x5) (k0_pay5 x6) x0 (View.ld x7 r0_4) (View.ld x7 r0_5) i j).trans ?_
  simp only [norm512_pay, gated_pay, gain_pay]
  exact congrArg₂ (· + ·) (congrArg₂ (· + ·) rfl (Finset.sum_congr rfl fun x _ => congrArg (_ * ·) (top x7 x j)))
    (Finset.sum_congr rfl fun x _ => congrArg (_ * ·) (bot x7 x j))

/-- The body's new row entry over tile `t`'s blocks is the reference's at the tile's row. -/
theorem tile_at (c : Dev nD) (t : Fin cfg0.N) (i : Fin 256) (j : Fin 1024) :
    k0_pay6 (k0_pay3 (iblk m c 1 t) (iblk m c 3 t)) (k0_pay4 (iblk m c 2 t) (iblk m c 4 t) (iblk m c 5 t)) (k0_pay5 (iblk m c 6 t))
        (iblk m c 0 t) (View.ld (iblk m c 7 t) r0_4) (View.ld (iblk m c 7 t) r0_5) (ix2 i j)
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val*256+i.val, by have : t.val < 64 := t.2; omega⟩ j) := by
  refine (out_tile (iblk m c 0 t) (iblk m c 1 t) (iblk m c 2 t) (iblk m c 3 t) (iblk m c 4 t) (iblk m c 5 t) (iblk m c 6 t) (iblk m c 7 t) i j).trans
    (Eq.trans ?_ (REF1_at _ _ _ _ _ _ _ _ _ _).symm)
  simp only [blk0 m c t, blk1 m c t, blk2 m c t, blk3 m c t, blk4 m c t, blk5 m c t, blk6 m c t, blk7 m c t]

/-- What the body stores in the first result's block is the reference at the array index the entry sits at, -/
theorem point_11 (c : Dev nD) (t : Fin cfg0.N) (y) :
    k0_pay6 (k0_pay3 (iblk m c 1 t) (iblk m c 3 t)) (k0_pay4 (iblk m c 2 t) (iblk m c 4 t) (iblk m c 5 t)) (k0_pay5 (iblk m c 6 t))
        (iblk m c 0 t) (View.ld (iblk m c 7 t) r0_4) (View.ld (iblk m c 7 t) r0_5) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 11).blk t).view.emb y) := by
  have ht : t.val < 64 := t.2
  idx_vars y
  have e : ((cfg0.win 11).blk t).view.emb (ix2 y0 y1) = ix2 ⟨t.val*256+y0.val, by omega⟩ y1 := by
    blk_ext [idx t]
  exact (tile_at m c t y0 y1).trans (congrArg _ e.symm)

/-- and in the second's. -/
theorem point_12 (c : Dev nD) (t : Fin cfg0.N) (y) :
    k0_pay7 (k0_pay3 (iblk m c 1 t) (iblk m c 3 t)) (k0_pay4 (iblk m c 2 t) (iblk m c 4 t) (iblk m c 5 t)) (k0_pay5 (iblk m c 6 t))
        (iblk m c 0 t) (View.ld (iblk m c 7 t) r0_4) (View.ld (iblk m c 7 t) r0_5) (iblk m c 8 t) y
      = norm1024 (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (((cfg0.win 12).blk t).view.emb y) := by
  have ht : t.val < 64 := t.2
  idx_vars y
  have e : ((cfg0.win 12).blk t).view.emb (ix2 y0 y1) = ix2 ⟨t.val*256+y0.val, by omega⟩ y1 := by
    blk_ext [idx t]
  refine ((norm1024_pay _ _ _ _ _ _ _ y0 y1).trans ?_).trans (congrArg _ e.symm)
  refine Eq.trans ?_ (norm1024_ref _ _ ⟨t.val*256+y0.val, by omega⟩ y1).symm
  exact congrArg₂ (fun f g => norm1024E f g y1) (funext fun x => tile_at m c t y0 x) (funext fun x => blk8 m c t x)

/-- What the body leaves in the first result's block, -/
theorem left_11 (x0 : Vec Ideal S256x1024 .f32) (x1 x2 : Vec Ideal S256x512 .f32) (x3 : Vec Ideal S1x512 .f32) (x4 : Vec Ideal S512x512 .f32)
    (x5 x6 : Vec Ideal S1x512 .f32) (x7 : Vec Ideal S1024x1024 .f32) (x8 : Vec Ideal S1x1024 .f32) (x9 : Vec Ideal S1024x128 .f32)
    (x10 : Vec Ideal S1x128 .f32) (y) :
    out0_11 x0 x1 x2 x3 x4 x5 x6 x7 x8 x9 x10 y = k0_pay6 (k0_pay3 x1 x3) (k0_pay4 x2 x4 x5) (k0_pay5 x6) x0 (View.ld x7 r0_4) (View.ld x7 r0_5) y := by
  unfold out0_11 k0_pay32 k0_pay31 k0_pay30
  frame_out

/-- and in the second's. -/
theorem left_12 (x0 : Vec Ideal S256x1024 .f32) (x1 x2 : Vec Ideal S256x512 .f32) (x3 : Vec Ideal S1x512 .f32) (x4 : Vec Ideal S512x512 .f32)
    (x5 x6 : Vec Ideal S1x512 .f32) (x7 : Vec Ideal S1024x1024 .f32) (x8 : Vec Ideal S1x1024 .f32) (x9 : Vec Ideal S1024x128 .f32)
    (x10 : Vec Ideal S1x128 .f32) (y) :
    out0_12 x0 x1 x2 x3 x4 x5 x6 x7 x8 x9 x10 y = k0_pay7 (k0_pay3 x1 x3) (k0_pay4 x2 x4 x5) (k0_pay5 x6) x0 (View.ld x7 r0_4) (View.ld x7 r0_5) x8 y := by
  unfold out0_12 k0_pay32 k0_pay31 k0_pay30
  frame_out

/-- So the first result array after the run is the reference's (the blocks tile the array). -/
theorem final_11 (c : Dev nD) : (dats m 0 c).arrAt 11 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp; rw [after0_11]
  exact (left_11 (iblk m c 0 t) (iblk m c 1 t) (iblk m c 2 t) (iblk m c 3 t) (iblk m c 4 t) (iblk m c 5 t) (iblk m c 6 t) (iblk m c 7 t) (iblk m c 8 t)
    (iblk m c 9 t) (iblk m c 10 t) y).trans (point_11 m c t y)

/-- And the second, the new rows normalised. -/
theorem final_12 (c : Dev nD) : (dats m 0 c).arrAt 12 (cfgs 0).N = norm1024 (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  refine (dats m 0 c).arrAt_eq_of_covers 12 _ (by decide +kernel) fun t hf y => ?_
  blk_simp; rw [after0_12]
  exact (left_12 (iblk m c 0 t) (iblk m c 1 t) (iblk m c 2 t) (iblk m c 3 t) (iblk m c 4 t) (iblk m c 5 t) (iblk m c 6 t) (iblk m c 7 t) (iblk m c 8 t)
    (iblk m c 9 t) (iblk m c 10 t) y).trans (point_12 m c t y)

end Cert.FinishPIdeal.Value

end
-- ==== Proof.FinishS.Value.lean ====
/- The gated output of the sample rows: at exact arithmetic the first two result arrays (the new rows, and those rows normalised for
   the experts) are the reference's terms of the arguments. -/
module

public import proofs.«01_k».proof.Proof.Gen.FinishSIdeal
public import proofs.«01_k».proof.Proof.Gen.FinishSIdeal.Skeleton
public import proofs.«01_k».proof.Proof.Gen.FinishSIdeal.Launch
public import proofs.«01_k».proof.Proof.Gen.FinishSIdeal.Points
public import proofs.«01_k».proof.Proof.Gen.FinishSIdeal.Frame
public import proofs.«01_k».proof.Proof.Gen.FinishSRefIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FinishSIdeal.Value

open Cert.FinishSIdeal Cert.FinishSIdeal.Gen

variable (m : (ℓ : Loc nD τ sig) → Buf (Elt Ideal) ℓ)

/-! ## The reference's stages -/

/-- The reference's gated recurrence outputs: the activation (in its hyperbolic-tangent form), times the logistic gate of its product. -/
abbrev act (a2 : FVec Ideal Cert.FinishSRefIdeal.S128x512 .f32) : FVec Ideal Cert.FinishSRefIdeal.S128x512 .f32 :=
  mulf a2 (mulf (broadcastInDim Cert.FinishSRefIdeal.S128x512 ![] Cert.FinishSRefIdeal.Gen.bcast_S_S128x512 (constant Cert.FinishSRefIdeal.S_ .f32 0x3F000000#32))
    (addf (broadcastInDim Cert.FinishSRefIdeal.S128x512 ![] Cert.FinishSRefIdeal.Gen.bcast_S_S128x512 (constant Cert.FinishSRefIdeal.S_ .f32 0x3F800000#32))
      (Host.tanh (mulf (broadcastInDim Cert.FinishSRefIdeal.S128x512 ![] Cert.FinishSRefIdeal.Gen.bcast_S_S128x512 (constant Cert.FinishSRefIdeal.S_ .f32 0x3F4C422A#32))
        (addf a2 (mulf (broadcastInDim Cert.FinishSRefIdeal.S128x512 ![] Cert.FinishSRefIdeal.Gen.bcast_S_S128x512 (constant Cert.FinishSRefIdeal.S_ .f32 0x3D372713#32))
          (mulf (mulf a2 a2) a2)))))))

/-- The activation times the logistic gate of its product with the gate's weights. -/
abbrev gated (a2 : FVec Ideal Cert.FinishSRefIdeal.S128x512 .f32) (a4 : FVec Ideal Cert.FinishSRefIdeal.S512x512 .f32) (a5 : FVec Ideal Cert.FinishSRefIdeal.S512 .f32) : FVec Ideal Cert.FinishSRefIdeal.S128x512 .f32 :=
  mulf (act a2) (Host.divf (broadcastInDim Cert.FinishSRefIdeal.S128x512 ![] Cert.FinishSRefIdeal.Gen.bcast_S_S128x512 (constant Cert.FinishSRefIdeal.S_ .f32 0x3F800000#32))
    (addf (broadcastInDim Cert.FinishSRefIdeal.S128x512 ![] Cert.FinishSRefIdeal.Gen.bcast_S_S128x512 (constant Cert.FinishSRefIdeal.S_ .f32 0x3F800000#32))
      (Host.exp (negf (addf (Host.dotGeneral Cert.FinishSRefIdeal.dot_S128x512_S512x512_S128x512_1_0_0_1_n_n none (act a2) a4)
        (broadcastInDim Cert.FinishSRefIdeal.S128x512 ![0, 1] Cert.FinishSRefIdeal.Gen.bcast_S1x512_S128x512_0_1 (broadcastInDim Cert.FinishSRefIdeal.S1x512 ![1] Cert.FinishSRefIdeal.Gen.bcast_S512_S1x512_1 a5)))))))

/-- The reference's normalised rows of one mixer: each row over the root of its mean square (plus the small constant), times the gain. -/
abbrev norm512 (a : FVec Ideal Cert.FinishSRefIdeal.S128x512 .f32) (g : FVec Ideal Cert.FinishSRefIdeal.S512 .f32) : FVec Ideal Cert.FinishSRefIdeal.S128x512 .f32 :=
  mulf (mulf a (broadcastInDim Cert.FinishSRefIdeal.S128x512 ![0, 1] Cert.FinishSRefIdeal.Gen.bcast_S128x1_S128x512_0_1
      (Host.rsqrt (addf (Host.divf (broadcastInDim Cert.FinishSRefIdeal.S128x1 ![0] Cert.FinishSRefIdeal.Gen.bcast_S128_S128x1_0
          (Host.reduceAdd (mulf a a) (constant Cert.FinishSRefIdeal.S_ .f32 0x00000000#32) Cert.FinishSRefIdeal.Gen.reducesTo_S128x512_S128_d1 Cert.FinishSRefIdeal.Gen.h_S_))
        (broadcastInDim Cert.FinishSRefIdeal.S128x1 ![] Cert.FinishSRefIdeal.Gen.bcast_S_S128x1 (constant Cert.FinishSRefIdeal.S_ .f32 0x44000000#32)))
        (broadcastInDim Cert.FinishSRefIdeal.S128x1 ![] Cert.FinishSRefIdeal.Gen.bcast_S_S128x1 (constant Cert.FinishSRefIdeal.S_ .f32 0x3727C5AC#32))))))
    (broadcastInDim Cert.FinishSRefIdeal.S128x512 ![0, 1] Cert.FinishSRefIdeal.Gen.bcast_S1x512_S128x512_0_1 (broadcastInDim Cert.FinishSRefIdeal.S1x512 ![1] Cert.FinishSRefIdeal.Gen.bcast_S512_S1x512_1 g))

/-- Both mixers' rows side by side. -/
abbrev mixed (p q : FVec Ideal Cert.FinishSRefIdeal.S128x512 .f32) : FVec Ideal Cert.FinishSRefIdeal.S128x1024 .f32 :=
  concatenate Cert.FinishSRefIdeal.S128x1024 1 [⟨Cert.FinishSRefIdeal.S128x512, p⟩, ⟨Cert.FinishSRefIdeal.S128x512, q⟩] Cert.FinishSRefIdeal.Gen.concatenates_S128x512_S128x512_S128x1024_d1

/-- The residual sum: the rows plus the product of the mixed rows with the output weights. -/
abbrev summed (a0 : FVec Ideal Cert.FinishSRefIdeal.S128x1024 .f32) (x : FVec Ideal Cert.FinishSRefIdeal.S128x1024 .f32) (a7 : FVec Ideal Cert.FinishSRefIdeal.S1024x1024 .f32) : FVec Ideal Cert.FinishSRefIdeal.S128x1024 .f32 :=
  addf a0 (Host.dotGeneral Cert.FinishSRefIdeal.dot_S128x1024_S1024x1024_S128x1024_1_0_0_1_n_n none x a7)

/-- The whole rows' norm. -/
abbrev norm1024 (a : FVec Ideal Cert.FinishSRefIdeal.S128x1024 .f32) (g : FVec Ideal Cert.FinishSRefIdeal.S1024 .f32) : FVec Ideal Cert.FinishSRefIdeal.S128x1024 .f32 :=
  mulf (mulf a (broadcastInDim Cert.FinishSRefIdeal.S128x1024 ![0, 1] Cert.FinishSRefIdeal.Gen.bcast_S128x1_S128x1024_0_1
      (Host.rsqrt (addf (Host.divf (broadcastInDim Cert.FinishSRefIdeal.S128x1 ![0] Cert.FinishSRefIdeal.Gen.bcast_S128_S128x1_0
          (Host.reduceAdd (mulf a a) (constant Cert.FinishSRefIdeal.S_ .f32 0x00000000#32) Cert.FinishSRefIdeal.Gen.reducesTo_S128x1024_S128_d1 Cert.FinishSRefIdeal.Gen.h_S_))
        (broadcastInDim Cert.FinishSRefIdeal.S128x1 ![] Cert.FinishSRefIdeal.Gen.bcast_S_S128x1 (constant Cert.FinishSRefIdeal.S_ .f32 0x44800000#32)))
        (broadcastInDim Cert.FinishSRefIdeal.S128x1 ![] Cert.FinishSRefIdeal.Gen.bcast_S_S128x1 (constant Cert.FinishSRefIdeal.S_ .f32 0x3727C5AC#32))))))
    (broadcastInDim Cert.FinishSRefIdeal.S128x1024 ![0, 1] Cert.FinishSRefIdeal.Gen.bcast_S1x1024_S128x1024_0_1 (broadcastInDim Cert.FinishSRefIdeal.S1x1024 ![1] Cert.FinishSRefIdeal.Gen.bcast_S1024_S1x1024_1 g))

/-- The reference's first result: the rows after both mixers. -/
abbrev REF1 (a0 : FVec Ideal Cert.FinishSRefIdeal.S128x1024 .f32) (a1 a2 : FVec Ideal Cert.FinishSRefIdeal.S128x512 .f32) (a3 : FVec Ideal Cert.FinishSRefIdeal.S512 .f32) (a4 : FVec Ideal Cert.FinishSRefIdeal.S512x512 .f32)
    (a5 a6 : FVec Ideal Cert.FinishSRefIdeal.S512 .f32) (a7 : FVec Ideal Cert.FinishSRefIdeal.S1024x1024 .f32) : FVec Ideal Cert.FinishSRefIdeal.S128x1024 .f32 :=
  summed a0 (mixed (norm512 a1 a3) (norm512 (gated a2 a4 a5) a6)) a7

/-! ## One entry of each stage -/

/-- The activation of one number. -/
abbrev actE (s : Ideal .f32) : Ideal .f32 :=
  s * (Ideal.ofBits .f32 0x3F000000#32 * (Ideal.ofBits .f32 0x3F800000#32
    + Ideal.tanh (Ideal.ofBits .f32 0x3F4C422A#32 * (s + Ideal.ofBits .f32 0x3D372713#32 * (s * s * s)))))

/-- A gated entry, from its row, the gate's weights and its offset. -/
abbrev gatedE (f : Fin 512 → Ideal .f32) (w : Fin 512 → Fin 512 → Ideal .f32) (b : Fin 512 → Ideal .f32) (j : Fin 512) : Ideal .f32 :=
  actE (f j) * Ideal.logistic ((∑ x : Fin 512, actE (f x) * w x j) + b j)

/-- A normalised entry of a row of 512. -/
abbrev norm512E (f g : Fin 512 → Ideal .f32) (j : Fin 512) : Ideal .f32 :=
  f j * Ideal.rsqrt (Ideal.div (∑ x : Fin 512, f x * f x) (Ideal.ofBits .f32 0x44000000#32) + Ideal.ofBits .f32 0x3727C5AC#32) * g j

/-- A normalised entry of a row of 1024. -/
abbrev norm1024E (f g : Fin 1024 → Ideal .f32) (j : Fin 1024) : Ideal .f32 :=
  f j * Ideal.rsqrt (Ideal.div (∑ x : Fin 1024, f x * f x) (Ideal.ofBits .f32 0x44800000#32) + Ideal.ofBits .f32 0x3727C5AC#32) * g j

/-- A sum over 1024 columns is the sum over the first 512 and the sum over the last. -/
theorem halves (f : Fin 1024 → Ideal .f32) :
    ∑ y : Fin 1024, f y = (∑ x : Fin 512, f ⟨x.val, by omega⟩) + ∑ x : Fin 512, f ⟨512 + x.val, by omega⟩ :=
  Fin.sum_univ_add (a := 512) (b := 512) f

theorem act_ref (a2 : FVec Ideal Cert.FinishSRefIdeal.S128x512 .f32) (r : Fin 128) (j : Fin 512) : act a2 (ix2 r j) = actE (a2 (ix2 r j)) := by
  pointwise [act, actE]

theorem gated_ref (a2 : FVec Ideal Cert.FinishSRefIdeal.S128x512 .f32) (a4 : FVec Ideal Cert.FinishSRefIdeal.S512x512 .f32) (a5 : FVec Ideal Cert.FinishSRefIdeal.S512 .f32) (r : Fin 128) (j : Fin 512) :
    gated a2 a4 a5 (ix2 r j) = gatedE (fun x => a2 (ix2 r x)) (fun x y => a4 (ix2 x y)) (fun x => a5 (ix1 x)) j := by
  unfold gated gatedE
  simp only [← act_ref]
  generalize act a2 = g
  pointwise [Ideal.logistic]

theorem norm512_ref (a : FVec Ideal Cert.FinishSRefIdeal.S128x512 .f32) (g : FVec Ideal Cert.FinishSRefIdeal.S512 .f32) (r : Fin 128) (j : Fin 512) :
    norm512 a g (ix2 r j) = norm512E (fun x => a (ix2 r x)) (fun x => g (ix1 x)) j := by
  pointwise [norm512, norm512E]

theorem norm1024_ref (a : FVec Ideal Cert.FinishSRefIdeal.S128x1024 .f32) (g : FVec Ideal Cert.FinishSRefIdeal.S1024 .f32) (r : Fin 128) (j : Fin 1024) :
    norm1024 a g (ix2 r j) = norm1024E (fun x => a (ix2 r x)) (fun x => g (ix1 x)) j := by
  pointwise [norm1024, norm1024E]

theorem mixed_left (p q : FVec Ideal Cert.FinishSRefIdeal.S128x512 .f32) (r : Fin 128) (x : Fin 512) :
    mixed p q (ix2 r ⟨x.val, by omega⟩) = p (ix2 r x) := by
  pointwise [mixed]

theorem mixed_right (p q : FVec Ideal Cert.FinishSRefIdeal.S128x512 .f32) (r : Fin 128) (x : Fin 512) :
    mixed p q (ix2 r ⟨512 + x.val, by omega⟩) = q (ix2 r x) := by
  pointwise [mixed]

theorem summed_ref (a0 x : FVec Ideal Cert.FinishSRefIdeal.S128x1024 .f32) (a7 : FVec Ideal Cert.FinishSRefIdeal.S1024x1024 .f32) (r : Fin 128) (j : Fin 1024) :
    summed a0 x a7 (ix2 r j) = a0 (ix2 r j) + ∑ y : Fin 1024, x (ix2 r y) * a7 (ix2 y j) := by
  pointwise [summed]

/-- One entry of the first result. -/
abbrev outE (f0 : Ideal .f32) (f1 f2 g3 : Fin 512 → Ideal .f32) (w4 : Fin 512 → Fin 512 → Ideal .f32) (b5 g6 : Fin 512 → Ideal .f32)
    (w7 : Fin 1024 → Ideal .f32) : Ideal .f32 :=
  f0 + (∑ x : Fin 512, norm512E f1 g3 x * w7 ⟨x.val, by omega⟩)
    + ∑ x : Fin 512, norm512E (gatedE f2 w4 b5) g6 x * w7 ⟨512 + x.val, by omega⟩

theorem REF1_at (a0 : FVec Ideal Cert.FinishSRefIdeal.S128x1024 .f32) (a1 a2 : FVec Ideal Cert.FinishSRefIdeal.S128x512 .f32) (a3 : FVec Ideal Cert.FinishSRefIdeal.S512 .f32) (a4 : FVec Ideal Cert.FinishSRefIdeal.S512x512 .f32)
    (a5 a6 : FVec Ideal Cert.FinishSRefIdeal.S512 .f32) (a7 : FVec Ideal Cert.FinishSRefIdeal.S1024x1024 .f32) (r : Fin 128) (j : Fin 1024) :
    REF1 a0 a1 a2 a3 a4 a5 a6 a7 (ix2 r j) = outE (a0 (ix2 r j)) (fun x => a1 (ix2 r x)) (fun x => a2 (ix2 r x)) (fun x => a3 (ix1 x))
      (fun x y => a4 (ix2 x y)) (fun x => a5 (ix1 x)) (fun x => a6 (ix1 x)) (fun y => a7 (ix2 y j)) := by
  unfold REF1 outE
  rw [summed_ref, halves, ← add_assoc]
  simp only [mixed_left, mixed_right, norm512_ref, gated_ref]

/-! ## The body's stages -/

theorem gated_pay (v0 : Vec Ideal S128x512 .f32) (v14 : Vec Ideal S512x512 .f32) (v16 : Vec Ideal S1x512 .f32) (i : Fin 128) (j : Fin 512) :
    k0_pay4 v0 v14 v16 (ix2 i j) = gatedE (fun x => v0 (ix2 i x)) (fun x y => v14 (ix2 x y)) (fun x => v16 (ix2 0 x)) j := by
  simp only [gatedE, actE, fun s : Ideal .f32 => mul_assoc s s s]
  pointwise [k0_pay4]

theorem norm512_pay (v21 : Vec Ideal S128x512 .f32) (v22 : Vec Ideal S1x512 .f32) (i : Fin 128) (j : Fin 512) :
    k0_pay3 v21 v22 (ix2 i j) = norm512E (fun x => v21 (ix2 i x)) (fun x => v22 (ix2 0 x)) j := by
  pointwise [k0_pay3, norm512E]

theorem out_pay (v35 v36 : FVec Ideal S128x512 .f32) (v38 : FVec Ideal S1x512 .f32) (v51 : Vec Ideal S128x1024 .f32) (v52 v55 : Vec Ideal S512x1024 .f32)
    (i : Fin 128) (j : Fin 1024) :
    k0_pay6 v35 v36 v38 v51 v52 v55 (ix2 i j) = v51 (ix2 i j) + (∑ x : Fin 512, v35 (ix2 i x) * v52 (ix2 x j))
      + ∑ x : Fin 512, norm512E (fun y => v36 (ix2 i y)) (fun y => v38 (ix2 0 y)) x * v55 (ix2 x j) := by
  pointwise [k0_pay6, norm512E]

theorem norm1024_pay (v35 v36 : FVec Ideal S128x512 .f32) (v38 : FVec Ideal S1x512 .f32) (v51 : Vec Ideal S128x1024 .f32) (v52 v55 : Vec Ideal S512x1024 .f32)
    (v59 : Vec Ideal S1x1024 .f32) (i : Fin 128) (j : Fin 1024) :
    k0_pay7 v35 v36 v38 v51 v52 v55 v59 (ix2 i j)
      = norm1024E (fun x => k0_pay6 v35 v36 v38 v51 v52 v55 (ix2 i x)) (fun x => v59 (ix2 0 x)) j := by
  unfold k0_pay7
  generalize k0_pay6 v35 v36 v38 v51 v52 v55 = g
  pointwise [norm1024E]

theorem gain_pay (v37 : Vec Ideal S1x512 .f32) (x : Fin 512) : k0_pay5 v37 (ix2 0 x) = v37 (ix2 0 x) := by
  pointwise [k0_pay5]

/-- Every window's block index at every grid point, in closed form (decided). -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0] :=
  (by decide +kernel : ∀ t : Fin grid0.N, _)

/-- Row `i` of tile `t` is a row of the residual rows, -/
theorem blk0 (c : Dev nD) (t : Fin cfg0.N) (i : Fin 128) (x : Fin 1024) : iblk m c 0 t (ix2 i x)
    = m ((c : Thread nD τ).loc main_arg0) (ix2 ⟨t.val*128+i.val, by have : t.val < 1 := t.2; omega⟩ x) := by
  blk_point [iblk, V, idx t]
/-- of the attention rows, -/
theorem blk1 (c : Dev nD) (t : Fin cfg0.N) (i : Fin 128) (x : Fin 512) : iblk m c 1 t (ix2 i x)
    = m ((c : Thread nD τ).loc main_arg1) (ix2 ⟨t.val*128+i.val, by have : t.val < 1 := t.2; omega⟩ x) := by
  blk_point [iblk, V, idx t]
/-- and of the recurrence rows. -/
theorem blk2 (c : Dev nD) (t : Fin cfg0.N) (i : Fin 128) (x : Fin 512) : iblk m c 2 t (ix2 i x)
    = m ((c : Thread nD τ).loc main_arg2) (ix2 ⟨t.val*128+i.val, by have : t.val < 1 := t.2; omega⟩ x) := by
  blk_point [iblk, V, idx t]
/-- Every tile is handed the whole gains, weights and offsets. -/
theorem entry3 (c : Dev nD) : V m c main_v3 = shapeCast S1x512 (m ((c : Thread nD τ).loc main_arg3)) Gen.shapeCasts_S512_S1x512 := by
  unfold V
  simp only [hostOps0, hostOps0_1, hostOps0_2, hostOps0_3, hostOps0_4, List.flatten_cons, List.flatten_nil, List.append_nil, List.cons_append, List.nil_append]
  after_results
  rfl
theorem blk3 (c : Dev nD) (t : Fin cfg0.N) (x : Fin 512) : iblk m c 3 t (ix2 0 x)
    = m ((c : Thread nD τ).loc main_arg3) (ix1 x) := by
  have e : ((cfg0.win 3).blk t).view.emb (ix2 0 x) = ix2 0 x := by
    blk_ext [idx t]
  refine (congrArg (V m c main_v3) e).trans ((congrFun (entry3 m c) _).trans ?_)
  pointwise []
theorem blk4 (c : Dev nD) (t : Fin cfg0.N) (x y : Fin 512) : iblk m c 4 t (ix2 x y)
    = m ((c : Thread nD τ).loc main_arg4) (ix2 x y) := by
  blk_point [iblk, V, idx t]
theorem entry5 (c : Dev nD) : V m c main_v4 = shapeCast S1x512 (m ((c : Thread nD τ).loc main_arg5)) Gen.shapeCasts_S512_S1x512 := by
  unfold V
  simp only [hostOps0, hostOps0_1, hostOps0_2, hostOps0_3, hostOps0_4, List.flatten_cons, List.flatten_nil, List.append_nil, List.cons_append, List.nil_append]
  after_results
  rfl
theorem blk5 (c : Dev nD) (t : Fin cfg0.N) (x : Fin 512) : iblk m c 5 t (ix2 0 x)
    = m ((c : Thread nD τ).loc main_arg5) (ix1 x) := by
  have e : ((cfg0.win 5).blk t).view.emb (ix2 0 x) = ix2 0 x := by
    blk_ext [idx t]
  refine (congrArg (V m c main_v4) e).trans ((congrFun (entry5 m c) _).trans ?_)
  pointwise []
theorem entry6 (c : Dev nD) : V m c main_v5 = shapeCast S1x512 (m ((c : Thread nD τ).loc main_arg6)) Gen.shapeCasts_S512_S1x512 := by
  unfold V
  simp only [hostOps0, hostOps0_1, hostOps0_2, hostOps0_3, hostOps0_4, List.flatten_cons, List.flatten_nil, List.append_nil, List.cons_append, List.nil_append]
  after_results
  rfl
theorem blk6 (c : Dev nD) (t : Fin cfg0.N) (x : Fin 512) : iblk m c 6 t (ix2 0 x)
    = m ((c : Thread nD τ).loc main_arg6) (ix1 x) := by
  have e : ((cfg0.win 6).blk t).view.emb (ix2 0 x) = ix2 0 x := by
    blk_ext [idx t]
  refine (congrArg (V m c main_v5) e).trans ((congrFun (entry6 m c) _).trans ?_)
  pointwise []
theorem blk7 (c : Dev nD) (t : Fin cfg0.N) (x y : Fin 1024) : iblk m c 7 t (ix2 x y)
    = m ((c : Thread nD τ).loc main_arg7) (ix2 x y) := by
  blk_point [iblk, V, idx t]
theorem entry8 (c : Dev nD) : V m c main_v6 = shapeCast S1x1024 (m ((c : Thread nD τ).loc main_arg8)) Gen.shapeCasts_S1024_S1x1024 := by
  unfold V
  simp only [hostOps0, hostOps0_1, hostOps0_2, hostOps0_3, hostOps0_4, List.flatten_cons, List.flatten_nil, List.append_nil, List.cons_append, List.nil_append]
  after_results
  rfl
theorem blk8 (c : Dev nD) (t : Fin cfg0.N) (x : Fin 1024) : iblk m c 8 t (ix2 0 x)
    = m ((c : Thread nD τ).loc main_arg8) (ix1 x) := by
  have e : ((cfg0.win 8).blk t).view.emb (ix2 0 x) = ix2 0 x := by
    blk_ext [idx t]
  refine (congrArg (V m c main_v6) e).trans ((congrFun (entry8 m c) _).trans ?_)
  pointwise []

/-- The first and the last 512 rows of the output weights, as the body loads them. -/
theorem top (x7 : Vec Ideal S1024x1024 .f32) (x : Fin 512) (j : Fin 1024) : (View.ld x7 r0_4 : Vec Ideal S512x1024 .f32) (ix2 x j) = x7 (ix2 ⟨x.val, by omega⟩ j) := by
  pointwise []
theorem bot (x7 : Vec Ideal S1024x1024 .f32) (x : Fin 512) (j : Fin 1024) : (View.ld x7 r0_5 : Vec Ideal S512x1024 .f32) (ix2 x j) = x7 (ix2 ⟨512 + x.val, by omega⟩ j) := by
  pointwise []

/-- The body's new row entry, over any blocks. -/
theorem out_tile (x0 : Vec Ideal S128x1024 .f32) (x1 x2 : Vec Ideal S128x512 .f32) (x3 : Vec Ideal S1x512 .f32) (x4 : Vec Ideal S512x512 .f32)
    (x5 x6 : Vec Ideal S1x512 .f32) (x7 : Vec Ideal S1024x1024 .f32) (i : Fin 128) (j : Fin 1024) :
    k0_pay6 (k0_pay3 x1 x3) (k0_pay4 x2 x4 x5) (k0_pay5 x6) x0 (View.ld x7 r0_4) (View.ld x7 r0_5) (ix2 i j)
      = outE (x0 (ix2 i j)) (fun x => x1 (ix2 i x)) (fun x => x2 (ix2 i x)) (fun x => x3 (ix2 0 x)) (fun x y => x4 (ix2 x y))
          (fun x => x5 (ix2 0 x)) (fun x => x6 (ix2 0 x)) (fun y => x7 (ix2 y j)) := by
  refine (out_pay (k0_pay3 x1 x3) (k0_pay4 x2 x4 x5) (k0_pay5 x6) x0 (View.ld x7 r0_4) (View.ld x7 r0_5) i j).trans ?_
  simp only [norm512_pay, gated_pay, gain_pay]
  exact congrArg₂ (· + ·) (congrArg₂ (· + ·) rfl (Finset.sum_congr rfl fun x _ => congrArg (_ * ·) (top x7 x j)))
    (Finset.sum_congr rfl fun x _ => congrArg (_ * ·) (bot x7 x j))

/-- The body's new row entry over tile `t`'s blocks is the reference's at the tile's row. -/
theorem tile_at (c : Dev nD) (t : Fin cfg0.N) (i : Fin 128) (j : Fin 1024) :
    k0_pay6 (k0_pay3 (iblk m c 1 t) (iblk m c 3 t)) (k0_pay4 (iblk m c 2 t) (iblk m c 4 t) (iblk m c 5 t)) (k0_pay5 (iblk m c 6 t))
        (iblk m c 0 t) (View.ld (iblk m c 7 t) r0_4) (View.ld (iblk m c 7 t) r0_5) (ix2 i j)
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val*128+i.val, by have : t.val < 1 := t.2; omega⟩ j) := by
  refine (out_tile (iblk m c 0 t) (iblk m c 1 t) (iblk m c 2 t) (iblk m c 3 t) (iblk m c 4 t) (iblk m c 5 t) (iblk m c 6 t) (iblk m c 7 t) i j).trans
    (Eq.trans ?_ (REF1_at _ _ _ _ _ _ _ _ _ _).symm)
  simp only [blk0 m c t, blk1 m c t, blk2 m c t, blk3 m c t, blk4 m c t, blk5 m c t, blk6 m c t, blk7 m c t]

/-- What the body stores in the first result's block is the reference at the array index the entry sits at, -/
theorem point_11 (c : Dev nD) (t : Fin cfg0.N) (y) :
    k0_pay6 (k0_pay3 (iblk m c 1 t) (iblk m c 3 t)) (k0_pay4 (iblk m c 2 t) (iblk m c 4 t) (iblk m c 5 t)) (k0_pay5 (iblk m c 6 t))
        (iblk m c 0 t) (View.ld (iblk m c 7 t) r0_4) (View.ld (iblk m c 7 t) r0_5) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 11).blk t).view.emb y) := by
  have ht : t.val < 1 := t.2
  idx_vars y
  have e : ((cfg0.win 11).blk t).view.emb (ix2 y0 y1) = ix2 ⟨t.val*128+y0.val, by omega⟩ y1 := by
    blk_ext [idx t]
  exact (tile_at m c t y0 y1).trans (congrArg _ e.symm)

/-- and in the second's. -/
theorem point_12 (c : Dev nD) (t : Fin cfg0.N) (y) :
    k0_pay7 (k0_pay3 (iblk m c 1 t) (iblk m c 3 t)) (k0_pay4 (iblk m c 2 t) (iblk m c 4 t) (iblk m c 5 t)) (k0_pay5 (iblk m c 6 t))
        (iblk m c 0 t) (View.ld (iblk m c 7 t) r0_4) (View.ld (iblk m c 7 t) r0_5) (iblk m c 8 t) y
      = norm1024 (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (((cfg0.win 12).blk t).view.emb y) := by
  have ht : t.val < 1 := t.2
  idx_vars y
  have e : ((cfg0.win 12).blk t).view.emb (ix2 y0 y1) = ix2 ⟨t.val*128+y0.val, by omega⟩ y1 := by
    blk_ext [idx t]
  refine ((norm1024_pay _ _ _ _ _ _ _ y0 y1).trans ?_).trans (congrArg _ e.symm)
  refine Eq.trans ?_ (norm1024_ref _ _ ⟨t.val*128+y0.val, by omega⟩ y1).symm
  exact congrArg₂ (fun f g => norm1024E f g y1) (funext fun x => tile_at m c t y0 x) (funext fun x => blk8 m c t x)

/-- What the body leaves in the first result's block, -/
theorem left_11 (x0 : Vec Ideal S128x1024 .f32) (x1 x2 : Vec Ideal S128x512 .f32) (x3 : Vec Ideal S1x512 .f32) (x4 : Vec Ideal S512x512 .f32)
    (x5 x6 : Vec Ideal S1x512 .f32) (x7 : Vec Ideal S1024x1024 .f32) (x8 : Vec Ideal S1x1024 .f32) (x9 : Vec Ideal S1024x128 .f32)
    (x10 : Vec Ideal S1x128 .f32) (y) :
    out0_11 x0 x1 x2 x3 x4 x5 x6 x7 x8 x9 x10 y = k0_pay6 (k0_pay3 x1 x3) (k0_pay4 x2 x4 x5) (k0_pay5 x6) x0 (View.ld x7 r0_4) (View.ld x7 r0_5) y := by
  unfold out0_11 k0_pay32 k0_pay31 k0_pay30
  frame_out

/-- and in the second's. -/
theorem left_12 (x0 : Vec Ideal S128x1024 .f32) (x1 x2 : Vec Ideal S128x512 .f32) (x3 : Vec Ideal S1x512 .f32) (x4 : Vec Ideal S512x512 .f32)
    (x5 x6 : Vec Ideal S1x512 .f32) (x7 : Vec Ideal S1024x1024 .f32) (x8 : Vec Ideal S1x1024 .f32) (x9 : Vec Ideal S1024x128 .f32)
    (x10 : Vec Ideal S1x128 .f32) (y) :
    out0_12 x0 x1 x2 x3 x4 x5 x6 x7 x8 x9 x10 y = k0_pay7 (k0_pay3 x1 x3) (k0_pay4 x2 x4 x5) (k0_pay5 x6) x0 (View.ld x7 r0_4) (View.ld x7 r0_5) x8 y := by
  unfold out0_12 k0_pay32 k0_pay31 k0_pay30
  frame_out

/-- So the first result array after the run is the reference's (the blocks tile the array). -/
theorem final_11 (c : Dev nD) : (dats m 0 c).arrAt 11 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp; rw [after0_11]
  exact (left_11 (iblk m c 0 t) (iblk m c 1 t) (iblk m c 2 t) (iblk m c 3 t) (iblk m c 4 t) (iblk m c 5 t) (iblk m c 6 t) (iblk m c 7 t) (iblk m c 8 t)
    (iblk m c 9 t) (iblk m c 10 t) y).trans (point_11 m c t y)

/-- And the second, the new rows normalised. -/
theorem final_12 (c : Dev nD) : (dats m 0 c).arrAt 12 (cfgs 0).N = norm1024 (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  refine (dats m 0 c).arrAt_eq_of_covers 12 _ (by decide +kernel) fun t hf y => ?_
  blk_simp; rw [after0_12]
  exact (left_12 (iblk m c 0 t) (iblk m c 1 t) (iblk m c 2 t) (iblk m c 3 t) (iblk m c 4 t) (iblk m c 5 t) (iblk m c 6 t) (iblk m c 7 t) (iblk m c 8 t)
    (iblk m c 9 t) (iblk m c 10 t) y).trans (point_12 m c t y)

end Cert.FinishSIdeal.Value

end
-- ==== Proof.AttnS.Soft.lean ====
/- One attention over all the keys at once, each weighted by how often it is looked at, against several groups' attentions joined by
   the sums of their exponentials: the same number when every score is real, whatever the values. -/
module

public import Idealize.ShloMosaic.Lib.Pointwise
public import Mathlib.Analysis.SpecialFunctions.Log.Basic

@[expose] public section

namespace Cert.AttnSIdeal.Soft

open Idealize.ShloMosaic
open scoped BigOperators

/-- The greatest of a list of reals, not all masked, is a real. -/
theorem sup_real {ι : Type} [Fintype ι] (P : ι → Prop) [DecidablePred P] (s : ι → ℝ) (h : ∃ i, P i) :
    ∃ M : ℝ, Finset.univ.sup (fun i => if P i then (s i : EReal) else ⊥) = (M : EReal) := by
  obtain ⟨i₀, hi₀⟩ := h
  have hb : Finset.univ.sup (fun i => if P i then (s i : EReal) else ⊥) ≠ ⊥ := by
    intro e
    have := Finset.le_sup (f := fun i => if P i then (s i : EReal) else ⊥) (Finset.mem_univ i₀)
    rw [e] at this
    simp [hi₀] at this
  have ht : Finset.univ.sup (fun i => if P i then (s i : EReal) else ⊥) ≠ ⊤ := by
    refine ne_of_lt ((Finset.sup_lt_iff bot_lt_top).mpr fun i _ => ?_)
    split
    · exact EReal.coe_lt_top _
    · exact bot_lt_top
  exact ⟨_, (EReal.coe_toReal ht hb).symm⟩

/-- A sum of reals is a real. -/
theorem coe_sum {ι : Type} (S : Finset ι) (f : ι → ℝ) : ∑ i ∈ S, (f i : EReal) = ((∑ i ∈ S, f i : ℝ) : EReal) :=
  (map_sum (⟨⟨Real.toEReal, EReal.coe_zero⟩, EReal.coe_add⟩ : ℝ →+ EReal) f S).symm

theorem exp_coe (r : ℝ) : Ideal.exp (r : EReal) = (Real.exp r : EReal) := rfl

theorem log_coe (r : ℝ) (h : 0 < r) : Ideal.log (r : EReal) = (Real.log r : EReal) := if_neg (not_le.mpr h)

theorem div_coe (x : EReal) (y : ℝ) (h : y ≠ 0) : Ideal.div x (y : EReal) = (y⁻¹ : ℝ) * x := by
  unfold Ideal.div
  rw [if_neg (by exact_mod_cast h), ← EReal.coe_inv, mul_comm]

/-- A real that is not negative goes into a sum. -/
theorem mul_sum {ι : Type} (S : Finset ι) (r : ℝ) (hr : 0 ≤ r) (f : ι → EReal) : (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (by exact_mod_cast hr) (EReal.coe_ne_top r), ih]

/-- A weighted sum over a scaled total: the scale cancels. -/
theorem scaled {ι : Type} [Fintype ι] (w : ι → ℝ) (v : ι → EReal) (k : ℝ) (hk : 0 < k) (h : 0 < ∑ i, w i) :
    Ideal.div (∑ i, ((w i * k : ℝ) : EReal) * v i) (((∑ i, w i) * k : ℝ) : EReal) = ((∑ i, w i)⁻¹ : ℝ) * ∑ i, (w i : EReal) * v i := by
  have e : ∀ i, ((w i * k : ℝ) : EReal) * v i = (k : EReal) * ((w i : EReal) * v i) := by
    intro i
    rw [← mul_assoc, ← EReal.coe_mul, mul_comm k]
  simp only [e]
  rw [← mul_sum _ k hk.le, div_coe _ _ (mul_pos h hk).ne', ← mul_assoc, ← EReal.coe_mul]
  congr 2
  have := h.ne'
  have := hk.ne'
  field_simp

/-- The weighted attention over all keys: the greatest score cancels. -/
theorem whole {ι : Type} [Fintype ι] (c s : ι → ℝ) (v : ι → EReal) (hc : ∀ i, 0 ≤ c i) (h : ∃ i, 0 < c i) :
    let m := Finset.univ.sup (fun i => if 0 < c i then (s i : EReal) else ⊥)
    let p := fun i => if 0 < c i then (c i : EReal) * Ideal.exp ((s i : EReal) - m) else 0
    Ideal.div (∑ i, p i * v i) (∑ i, p i)
      = ((∑ i, c i * Real.exp (s i))⁻¹ : ℝ) * ∑ i, ((c i * Real.exp (s i) : ℝ) : EReal) * v i := by
  intro m p
  obtain ⟨M, hM⟩ := sup_real (fun i => 0 < c i) s h
  have hp : ∀ i, p i = ((c i * Real.exp (s i) * Real.exp (-M) : ℝ) : EReal) := by
    intro i
    show (if 0 < c i then (c i : EReal) * Ideal.exp ((s i : EReal) - m) else 0) = _
    rw [show m = (M : EReal) from hM, ← EReal.coe_sub, exp_coe, ← EReal.coe_mul, sub_eq_add_neg, Real.exp_add, ← mul_assoc]
    split
    · rfl
    · rw [le_antisymm (not_lt.mp ‹_›) (hc i)]; simp
  have hpos : 0 < ∑ i, c i * Real.exp (s i) := by
    obtain ⟨i₀, hi₀⟩ := h
    exact Finset.sum_pos' (fun i _ => mul_nonneg (hc i) (Real.exp_pos _).le) ⟨i₀, Finset.mem_univ _, mul_pos hi₀ (Real.exp_pos _)⟩
  rw [← scaled _ v _ (Real.exp_pos (-M)) hpos]
  simp only [hp, coe_sum]
  rw [Finset.sum_mul]

/-- One group's greatest score, -/
noncomputable def gm {ι : Type} [Fintype ι] (s : ι → ℝ) : EReal := Finset.univ.sup (fun i => (s i : EReal))
/-- the exponential it gives a key, -/
noncomputable def gp {ι : Type} [Fintype ι] (s : ι → ℝ) (i : ι) : EReal := Ideal.exp ((s i : EReal) - gm s)
/-- their sum, -/
noncomputable def gl {ι : Type} [Fintype ι] (s : ι → ℝ) : EReal := ∑ i, gp s i
/-- its output, -/
noncomputable def go {ι : Type} [Fintype ι] (s : ι → ℝ) (v : ι → EReal) : EReal := Ideal.div (∑ i, gp s i * v i) (gl s)
/-- and the logarithm of its sum of exponentials. -/
noncomputable def ge {ι : Type} [Fintype ι] (s : ι → ℝ) : EReal := gm s + Ideal.log (gl s)

theorem group {ι : Type} [Fintype ι] [Nonempty ι] (s : ι → ℝ) (v : ι → EReal) :
    go s v = ((∑ i, Real.exp (s i))⁻¹ : ℝ) * (∑ i, (Real.exp (s i) : EReal) * v i) ∧ ge s = (Real.log (∑ i, Real.exp (s i)) : ℝ) := by
  obtain ⟨M, hM⟩ := sup_real (fun _ : ι => True) s ⟨Classical.arbitrary ι, trivial⟩
  have hm : gm s = (M : EReal) := by rw [← hM]; unfold gm; simp
  have hp : ∀ i, gp s i = ((Real.exp (s i) * Real.exp (-M) : ℝ) : EReal) := by
    intro i
    unfold gp
    rw [hm, ← EReal.coe_sub, exp_coe, sub_eq_add_neg, Real.exp_add]
  have hl : gl s = (((∑ i, Real.exp (s i)) * Real.exp (-M) : ℝ) : EReal) := by
    unfold gl; simp only [hp, coe_sum]; rw [Finset.sum_mul]
  have hpos : 0 < ∑ i, Real.exp (s i) := Finset.sum_pos (fun i _ => Real.exp_pos _) Finset.univ_nonempty
  constructor
  · unfold go
    rw [hl]
    simp only [hp]
    exact scaled _ v _ (Real.exp_pos (-M)) hpos
  · unfold ge
    rw [hm, hl, log_coe _ (mul_pos hpos (Real.exp_pos _)), Real.log_mul hpos.ne' (Real.exp_pos _).ne', Real.log_exp,
      ← EReal.coe_add]
    congr 1; ring

/-- Outputs joined by the softmax of the logarithms of their sums: the sums themselves are the weights. -/
theorem joined {γ : Type} [Fintype γ] [Nonempty γ] (N : γ → EReal) (Z : γ → ℝ) (hZ : ∀ g, 0 < Z g) (e o : γ → EReal)
    (he : ∀ g, e g = (Real.log (Z g) : ℝ)) (ho : ∀ g, o g = ((Z g)⁻¹ : ℝ) * N g) :
    ∑ g, Ideal.div (Ideal.exp (e g - Finset.univ.sup e)) (∑ g', Ideal.exp (e g' - Finset.univ.sup e)) * o g
      = ((∑ g, Z g)⁻¹ : ℝ) * ∑ g, N g := by
  obtain ⟨M, hM⟩ := sup_real (fun _ : γ => True) (fun g => Real.log (Z g)) ⟨Classical.arbitrary γ, trivial⟩
  have hm : Finset.univ.sup e = (M : EReal) := by
    rw [← hM]; refine Finset.sup_congr rfl fun g _ => ?_; rw [he]; simp
  have hx : ∀ g, Ideal.exp (e g - Finset.univ.sup e) = ((Z g * Real.exp (-M) : ℝ) : EReal) := by
    intro g
    rw [hm, he, ← EReal.coe_sub, exp_coe, sub_eq_add_neg, Real.exp_add, Real.exp_log (hZ g)]
  have hpos : 0 < ∑ g, Z g := Finset.sum_pos (fun g _ => hZ g) Finset.univ_nonempty
  have hd : (∑ g, Z g * Real.exp (-M)) = (∑ g, Z g) * Real.exp (-M) := by rw [Finset.sum_mul]
  simp only [hx, ho, coe_sum, hd]
  have hterm : ∀ g, Ideal.div ((Z g * Real.exp (-M) : ℝ) : EReal) (((∑ g, Z g) * Real.exp (-M) : ℝ) : EReal) * (((Z g)⁻¹ : ℝ) * N g)
      = ((∑ g, Z g)⁻¹ : ℝ) * N g := by
    intro g
    rw [div_coe _ _ (mul_pos hpos (Real.exp_pos _)).ne', ← mul_assoc, ← EReal.coe_mul, ← EReal.coe_mul]
    congr 2
    have := (hZ g).ne'
    have := hpos.ne'
    have := (Real.exp_pos (-M)).ne'
    field_simp
  simp only [hterm]
  exact (mul_sum _ _ (inv_nonneg.mpr hpos.le) _).symm

end Cert.AttnSIdeal.Soft
-- ==== Proof.AttnS.Body.lean ====
/- The samples' attention of the kernel: what one tile's body stores, as one weighted attention over all 2176 rows of its key buffer. -/
module

public import proofs.«01_k».proof.Proof.Gen.AttnSIdeal.Skeleton
public import proofs.«01_k».proof.Proof.AttnS.Soft
public import Idealize.ShloMosaic.Lib.Pointwise
public import Idealize.ShloMosaic.Lib.IdealHost

@[expose] public section

namespace Cert.AttnSIdeal.Body

open Cert.AttnSIdeal Cert.AttnSIdeal.Gen Idealize.ShloMosaic
open scoped BigOperators

/-- The head of a lane. -/
theorem lane_head : ∀ x : Fin 512,
    Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 x.val) 64#32) 0#32))
        (IntOp.subi (IntOp.divsi ArithUnit.vector (BitVec.ofNat 32 x.val) 64#32) 1#32)
        (IntOp.divsi ArithUnit.vector (BitVec.ofNat 32 x.val) 64#32) = BitVec.ofNat 32 (x.val / 64) := by decide +kernel

/-- The head of a row. -/
theorem row_head : ∀ r : Fin 32,
    Scalar.select
        (IntOp.andi
          (IntOp.xori
            (IntOp.cmpi CmpIPredicate.slt
              (IntOp.remsi ArithUnit.vector (BitVec.ofNat 32 r.val)
                (Scalar.select (Scalar.cmpi CmpIPredicate.eq 8#32 0#32) 1#32 8#32))
              0#32)
            (Scalar.cmpi CmpIPredicate.slt (Scalar.select (Scalar.cmpi CmpIPredicate.eq 8#32 0#32) 1#32 8#32) 0#32))
          (IntOp.cmpi CmpIPredicate.ne
            (IntOp.remsi ArithUnit.vector (BitVec.ofNat 32 r.val)
              (Scalar.select (Scalar.cmpi CmpIPredicate.eq 8#32 0#32) 1#32 8#32))
            0#32))
        (IntOp.addi
          (IntOp.remsi ArithUnit.vector (BitVec.ofNat 32 r.val)
            (Scalar.select (Scalar.cmpi CmpIPredicate.eq 8#32 0#32) 1#32 8#32))
          (Scalar.select (Scalar.cmpi CmpIPredicate.eq 8#32 0#32) 1#32 8#32))
        (IntOp.remsi ArithUnit.vector (BitVec.ofNat 32 r.val)
          (Scalar.select (Scalar.cmpi CmpIPredicate.eq 8#32 0#32) 1#32 8#32)) = BitVec.ofNat 32 (r.val % 8) := by decide +kernel

theorem same_head : ∀ a b : Fin 8, IntOp.cmpi CmpIPredicate.eq (BitVec.ofNat 32 a.val) (BitVec.ofNat 32 b.val)
    = BitVec.ofBool (decide (a = b)) := by decide +kernel

/-- A row keeps the lanes of its own head. -/
theorem own_at (r : Fin 32) (x : Fin 512) : k0_pay7 (ix2 r x) = BitVec.ofBool (decide (x.val / 64 = r.val % 8)) := by
  pointwise [k0_pay7]
  rw [lane_head x, row_head r]
  refine (same_head ⟨x.val / 64, by omega⟩ ⟨r.val % 8, by omega⟩).trans ?_
  simp only [Fin.mk.injEq]

/-- The number the masked scores stand at. -/
theorem mask_eq : Named.named (F := Ideal) κ "mask" (φ := .f32) 0xF149F2CA#32 = (⊥ : EReal) :=
  IdealRules.named_const.ideal_named_scalar κ "mask" _ _ rfl

/-- The number a maximum starts from. -/
theorem ninf_eq : Ideal.ofBits .f32 0xFF800000#32 = (⊥ : EReal) := by simp [Ideal.ofBits, Ideal.ieee]

/-- A maximum over a list, as the least upper bound. -/
theorem fold_max {ι : Type} (S : Finset ι) (f : ι → EReal) : Finset.fold max ⊥ f S = S.sup f := rfl

/-- A choice by a decided condition. -/
theorem select_own {α : Type} (b : Bool) (x y : α) : Scalar.select (BitVec.ofBool b) x y = if b = true then x else y := by cases b <;> rfl

/-- A score: the product of one head's lanes. -/
noncomputable def score (Q : Fin 512 → ℝ) (K : Fin 512 → ℝ) (h : Nat) : ℝ := ∑ x : Fin 512, if x.val / 64 = h then Q x * K x else 0

/-- What the body stores, of real queries and keys, any values, and counts that are not all zero. -/
theorem pay8_at (q : Vec Ideal S1x4x512 .f32) (k : Vec Ideal S2176x512 .f32) (n : Vec Ideal S4x2176 .f32) (v : Vec Ideal S2176x512 .f32)
    (Q : Fin 4 → Fin 512 → ℝ) (K : Fin 2176 → Fin 512 → ℝ) (V : Fin 2176 → Fin 512 → EReal) (c : Fin 4 → Fin 2176 → ℝ)
    (hq : ∀ t x, q (ix3 0 t x) = (Q t x : EReal)) (hk : ∀ j x, k (ix2 j x) = (K j x : EReal)) (hv : ∀ j x, v (ix2 j x) = V j x)
    (hn : ∀ t j, n (ix2 t j) = (c t j : EReal)) (hc : ∀ t j, 0 ≤ c t j) (h1 : ∀ t, ∃ j, 0 < c t j) (t : Fin 4) (x : Fin 512) :
    k0_pay8 k0_pay7 q k n v (ix3 0 t x)
      = ((∑ j, c t j * Real.exp (score (Q t) (K j) (x.val / 64)))⁻¹ : ℝ) * ∑ j, ((c t j * Real.exp (score (Q t) (K j) (x.val / 64)) : ℝ) : EReal) * V j x := by
  have hs : ∀ (i : Fin 8) (j : Fin 2176), (∑ y : Fin 512, if y.val / 64 = i.val then (Q t y : EReal) * (K j y : EReal) else 0)
      = (score (Q t) (K j) i.val : EReal) := by
    intro i j
    unfold score
    rw [← Soft.coe_sum]
    refine Finset.sum_congr rfl fun y _ => ?_
    split
    · exact (EReal.coe_mul _ _).symm
    · rfl
  have e1 : ∀ i : Fin 8, (t.val * 8 + i.val) / 8 = t.val := fun i => by omega
  have e2 : ∀ i : Fin 8, (t.val * 8 + i.val) % 8 = i.val := fun i => by omega
  have w := fun i : Fin 8 => Soft.whole (c t) (fun j => score (Q t) (K j) i.val) (fun j => V j x) (hc t) (h1 t)
  pointwise [k0_pay8]
  simp only [own_at, e1, e2, Fin.eta, hq, hk, hv, hn, mask_eq, ninf_eq, fold_max, Body.select_own, decide_eq_true_eq, hs, EReal.coe_pos]
  simp only [w]
  rw [Finset.sum_eq_single (⟨x.val / 64, by omega⟩ : Fin 8)]
  · rw [if_pos rfl]
  · intro b _ hb
    rw [if_neg fun e => hb (Fin.ext e.symm)]
  · exact fun hb => absurd (Finset.mem_univ _) hb

end Cert.AttnSIdeal.Body
-- ==== Proof.AttnS.Pre.lean ====
/- The precondition "every query and key of the samples' attention is finite" makes every entry of those three arrays a real number. -/
module

public import proofs.«01_k».proof.Defs
public import proofs.«01_k».proof.Proof.Gen.Pre_finite_sample
public import proofs.«01_k».proof.Proof.AttnS.Body
public import Idealize.ShloMosaic.Lib.ReduceAll
public import Idealize.ShloMosaic.Lib.WordCmp

@[expose] public section

set_option maxRecDepth 16384

noncomputable section

namespace Cert.AttnSIdeal.Finite

open Cert.AttnSIdeal Cert.AttnSIdeal.Gen
open Idealize.ShloMosaic Idealize.ShloMosaic.TcCoe

variable (m : (ℓ : Loc nD τ sig) → Buf (Elt Ideal) ℓ)

/-- An entry whose absolute value is below +∞ is a real number. -/
theorem real_of_abs (x : EReal) (h : BitVec.ofBool (decide (max x (-x) < Ideal.ofBits .f32 0x7F800000#32)) = 1#1) : x = (x.toReal : EReal) := by
  have htop : Ideal.ofBits .f32 0x7F800000#32 = (⊤ : EReal) := by simp [Ideal.ofBits, Ideal.ieee]
  rw [htop, WordCmp.ofBool_decide_eq_one_iff, max_lt_iff] at h
  refine (EReal.coe_toReal h.1.ne ?_).symm
  rintro rfl
  simp at h

/-- Under the precondition every entry of the queries, the new keys and the cached keys is a real number. -/
theorem reals (h : Cert.Pre_AttnSIdeal_finite_sample m) (c : Dev nD) :
    ∃ (Q K : Fin 32 → Fin 4 → Fin 512 → ℝ) (CK : Fin 32 → Fin 2048 → Fin 512 → ℝ),
      (∀ b t x, m ((c : Thread nD τ).loc main_arg0) (ix3 b t x) = (Q b t x : EReal))
      ∧ (∀ b t x, m ((c : Thread nD τ).loc main_arg1) (ix3 b t x) = (K b t x : EReal))
      ∧ (∀ b t x, m ((c : Thread nD τ).loc main_arg3) (ix3 b t x) = (CK b t x : EReal)) := by
  have e := congrFun (h c) (Shape.Idx.first (by decide))
  simp only [Cert.Pre_finite_sample.fn] at e
  simp only [andi, IntOp.andi_eq_one] at e
  obtain ⟨⟨e0, e1⟩, e3⟩ := e
  exact ⟨_, _, _,
    fun b t x => real_of_abs _ (Host.reduce_andi_all _ _ _ _ _ e0 (ix3 b t x)),
    fun b t x => real_of_abs _ (Host.reduce_andi_all _ _ _ _ _ e1 (ix3 b t x)),
    fun b t x => real_of_abs _ (Host.reduce_andi_all _ _ _ _ _ e3 (ix3 b t x))⟩

end Cert.AttnSIdeal.Finite

end
-- ==== Proof.AttnS.Counts.lean ====
/- How many of the three groups look at a key: the table the samples' attention reads, entry by entry, and the sum it weights. -/
module

public import proofs.«01_k».proof.Proof.Gen.AttnSIdeal
public import Idealize.ShloMosaic.Lib.IdealHost

@[expose] public section

set_option maxRecDepth 65536

namespace Cert.AttnSIdeal.Counts

open Idealize.ShloMosaic Cert.AttnSIdeal

/-- Key `n` is one that a query at position `2048 + t` looks at in the group of stride `d`: at most 128 strides back. -/
abbrev sees (d t n : Nat) : Prop := n ≤ 2048 + t ∧ (2048 + t - n) % d = 0 ∧ (2048 + t - n) / d ≤ 128

/-- In how many of the groups of strides 1, 4 and 16 it is. -/
def looks (t n : Nat) : Nat := (if sees 1 t n then 1 else 0) + (if sees 4 t n then 1 else 0) + (if sees 16 t n then 1 else 0)

/-- The words of the numbers zero to three. -/
def word (k : Nat) : BitVec 32 := match k with
  | 0 => 0x00000000#32
  | 1 => 0x3F800000#32
  | 2 => 0x40000000#32
  | _ => 0x40400000#32

/-- The printed table holds the counts. -/
theorem lit0_eq : ∀ i : Fin 8704, lit0 i = word (looks (i.val / 2176) (i.val % 2176)) := by decide +kernel

theorem looks_le (t n : Nat) : looks t n ≤ 3 := by
  unfold looks; split <;> split <;> split <;> omega

end Cert.AttnSIdeal.Counts
-- ==== Proof.AttnS.Keys.lean ====
/- The rows an attention of the samples looks at, and the sum over them by position against the sum group by group. -/
module

public import proofs.«01_k».proof.Proof.AttnS.Counts
public import proofs.«01_k».proof.Proof.AttnS.Body

@[expose] public section

namespace Cert.AttnSIdeal.Keys

open Cert.AttnSIdeal Cert.AttnSIdeal.Counts Idealize.ShloMosaic
open scoped BigOperators

/-- Row `n` of the cached rows followed by the new ones, and zero beyond. -/
noncomputable def row {α : Type} [Zero α] (old : Fin 32 → Fin 2048 → Fin 512 → α) (new : Fin 32 → Fin 4 → Fin 512 → α) (b : Fin 32) (n : Nat) (x : Fin 512) : α :=
  if h : n < 2048 then old b ⟨n, h⟩ x else if h' : n - 2048 < 4 then new b ⟨n - 2048, h'⟩ x else 0

/-- A row of reals. -/
theorem row_coe (old : Fin 32 → Fin 2048 → Fin 512 → ℝ) (new : Fin 32 → Fin 4 → Fin 512 → ℝ) (b : Fin 32) (n : Nat) (x : Fin 512) :
    row (fun b t x => (old b t x : EReal)) (fun b t x => (new b t x : EReal)) b n x = ((row old new b n x : ℝ) : EReal) := by
  unfold row
  split
  · rfl
  · split <;> rfl

/-- The positions of one group, each once. -/
theorem sum_group {M : Type} [AddCommMonoid M] (d t : Nat) (hd : 0 < d) (hd' : d ≤ 16) (ht : t < 4) (f : Nat → M) :
    ∑ n : Fin 2176, (if sees d t n.val then f n.val else 0) = ∑ j : Fin 129, f (2048 + t - d * j.val) := by
  rw [Fin.sum_univ_eq_sum_range (fun n => if sees d t n then f n else 0), Fin.sum_univ_eq_sum_range (fun j => f (2048 + t - d * j)),
    ← Finset.sum_filter]
  have hinj : Set.InjOn (fun j => 2048 + t - d * j) (Finset.range 129 : Set Nat) := by
    intro a ha b hb hab
    have ha' : a < 129 := by simpa using ha
    have hb' : b < 129 := by simpa using hb
    have h1 : d * a ≤ 16 * 128 := Nat.mul_le_mul hd' (by omega)
    have h2 : d * b ≤ 16 * 128 := Nat.mul_le_mul hd' (by omega)
    have hab' : 2048 + t - d * a = 2048 + t - d * b := hab
    exact Nat.eq_of_mul_eq_mul_left hd (by omega)
  rw [← Finset.sum_image (f := f) hinj]
  refine Finset.sum_congr ?_ fun _ _ => rfl
  ext n
  simp only [Finset.mem_filter, Finset.mem_range, Finset.mem_image]
  constructor
  · rintro ⟨_, h1, h2, h3⟩
    refine ⟨(2048 + t - n) / d, by omega, ?_⟩
    rw [Nat.mul_div_cancel' (Nat.dvd_of_mod_eq_zero h2)]; omega
  · rintro ⟨j, hj, rfl⟩
    have h1 : d * j ≤ 16 * 128 := Nat.mul_le_mul hd' (by omega)
    have e : 2048 + t - (2048 + t - d * j) = d * j := by omega
    refine ⟨by omega, by omega, ?_, ?_⟩
    · rw [e]; exact Nat.mul_mod_right d j
    · rw [e, Nat.mul_div_cancel_left _ hd]; omega

/-- The counted sum over all positions is the three groups' sums together. -/
theorem sum_looks {M : Type} [AddCommMonoid M] (t : Nat) (ht : t < 4) (f : Nat → M) :
    ∑ n : Fin 2176, looks t n.val • f n.val
      = ∑ j : Fin 129, f (2048 + t - 1 * j.val) + ∑ j : Fin 129, f (2048 + t - 4 * j.val) + ∑ j : Fin 129, f (2048 + t - 16 * j.val) := by
  rw [← sum_group 1 t (by omega) (by omega) ht f, ← sum_group 4 t (by omega) (by omega) ht f, ← sum_group 16 t (by omega) (by omega) ht f,
    ← Finset.sum_add_distrib, ← Finset.sum_add_distrib]
  refine Finset.sum_congr rfl fun n _ => ?_
  unfold looks
  rw [add_nsmul, add_nsmul]
  split <;> split <;> split <;> simp

/-- The same of reals, -/
theorem sum_looks_real (t : Nat) (ht : t < 4) (f : Nat → ℝ) :
    ∑ n : Fin 2176, (looks t n.val : ℝ) * f n.val
      = ∑ j : Fin 129, f (2048 + t - 1 * j.val) + ∑ j : Fin 129, f (2048 + t - 4 * j.val) + ∑ j : Fin 129, f (2048 + t - 16 * j.val) := by
  rw [← sum_looks t ht f]
  exact Finset.sum_congr rfl fun n _ => (nsmul_eq_mul _ _).symm

/-- and of values weighted by reals. -/
theorem sum_looks_ereal (t : Nat) (ht : t < 4) (f : Nat → ℝ) (v : Nat → EReal) :
    ∑ n : Fin 2176, (((looks t n.val : ℝ) * f n.val : ℝ) : EReal) * v n.val
      = ∑ j : Fin 129, (f (2048 + t - 1 * j.val) : EReal) * v (2048 + t - 1 * j.val) + ∑ j : Fin 129, (f (2048 + t - 4 * j.val) : EReal) * v (2048 + t - 4 * j.val)
        + ∑ j : Fin 129, (f (2048 + t - 16 * j.val) : EReal) * v (2048 + t - 16 * j.val) := by
  rw [← sum_looks t ht fun n => (f n : EReal) * v n]
  refine Finset.sum_congr rfl fun n _ => ?_
  rw [EReal.nsmul_eq_mul, EReal.coe_mul, mul_assoc]
  rfl

/-- Every query looks at its own position. -/
theorem looks_pos (t : Fin 4) : ∃ n : Fin 2176, 0 < (looks t.val n.val : ℝ) := by
  refine ⟨⟨2048 + t.val, by omega⟩, ?_⟩
  have : 0 < looks t.val (2048 + t.val) := by
    unfold looks sees
    rw [if_pos (by simp)]; omega
  exact_mod_cast this

/-- The table's words as numbers. -/
theorem word_eq (k : Nat) (h : k ≤ 3) : Ideal.ofBits .f32 (word k) = ((k : ℝ) : EReal) := by
  have h2 : Ideal.ofBits .f32 0x40000000#32 = ((2 : ℝ) : EReal) := by simp [Ideal.ofBits, Ideal.ieee, -EReal.coe_mul]; norm_num
  have h3 : Ideal.ofBits .f32 0x40400000#32 = ((3 : ℝ) : EReal) := by simp [Ideal.ofBits, Ideal.ieee, -EReal.coe_mul]; norm_num
  match k, h with
  | 0, _ => simp [word]
  | 1, _ => simp [word]
  | 2, _ => simpa [word] using h2
  | 3, _ => simpa [word] using h3

end Cert.AttnSIdeal.Keys
-- ==== Proof.AttnS.Kernel.lean ====
/- The samples' attention of the kernel: its result array, of real queries and keys. -/
module

public import proofs.«01_k».proof.Proof.Gen.AttnSIdeal.Value
public import proofs.«01_k».proof.Proof.AttnS.Keys
public import Idealize.ShloMosaic.Lib.Pipeline.ValueKit

@[expose] public section

namespace Cert.AttnSIdeal.Kernel

open Cert.AttnSIdeal Cert.AttnSIdeal.Gen Idealize.ShloMosaic Idealize.ShloMosaic.TcCoe Idealize.SL.Sem Cert.AttnSIdeal.Keys Cert.AttnSIdeal.Counts
open scoped BigOperators

variable (m : (ℓ : Loc nD τ sig) → Buf (Elt Ideal) ℓ)

/-- Every window's block index at every grid point. -/
theorem idx : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![0, 0]
    ∧ win0_6.index t = ![t.val, 0, 0] :=
  (by decide +kernel : ∀ t : Fin grid0.N, _)

/-- Tile `t` is handed sample `t`'s queries, -/
theorem blk0 (c : Dev nD) (t : Fin cfg0.N) (r : Fin 4) (x : Fin 512) : iblk m c 0 t (ix3 0 r x)
    = m ((c : Thread nD τ).loc main_arg0) (ix3 ⟨t.val, t.2⟩ r x) := by
  blk_point [iblk, V, idx t]
/-- its new keys, -/
theorem blk1 (c : Dev nD) (t : Fin cfg0.N) (r : Fin 4) (x : Fin 512) : iblk m c 1 t (ix3 0 r x)
    = m ((c : Thread nD τ).loc main_arg1) (ix3 ⟨t.val, t.2⟩ r x) := by
  blk_point [iblk, V, idx t]
/-- its new values, -/
theorem blk2 (c : Dev nD) (t : Fin cfg0.N) (r : Fin 4) (x : Fin 512) : iblk m c 2 t (ix3 0 r x)
    = m ((c : Thread nD τ).loc main_arg2) (ix3 ⟨t.val, t.2⟩ r x) := by
  blk_point [iblk, V, idx t]
/-- its cached keys, -/
theorem blk3 (c : Dev nD) (t : Fin cfg0.N) (r : Fin 2048) (x : Fin 512) : iblk m c 3 t (ix3 0 r x)
    = m ((c : Thread nD τ).loc main_arg3) (ix3 ⟨t.val, t.2⟩ r x) := by
  blk_point [iblk, V, idx t]
/-- its cached values, -/
theorem blk4 (c : Dev nD) (t : Fin cfg0.N) (r : Fin 2048) (x : Fin 512) : iblk m c 4 t (ix3 0 r x)
    = m ((c : Thread nD τ).loc main_arg4) (ix3 ⟨t.val, t.2⟩ r x) := by
  blk_point [iblk, V, idx t]
/-- and the whole table of counts. -/
theorem blk5 (c : Dev nD) (t : Fin cfg0.N) (r : Fin 4) (n : Fin 2176) : iblk m c 5 t (ix2 r n)
    = Ideal.ofBits .f32 (lit0 (S4x2176.rowMajor (ix2 r n))) := by
  blk_point [iblk, V, idx t]

/-- The table's entry for query `r` and row `n`. -/
theorem table (c : Dev nD) (t : Fin cfg0.N) (r : Fin 4) (n : Fin 2176) : iblk m c 5 t (ix2 r n) = ((looks r.val n.val : ℝ) : EReal) := by
  refine (blk5 m c t r n).trans ?_
  have e : (S4x2176.rowMajor (ix2 r n)).val = r.val * 2176 + n.val := by
    exact Shape.rowMajor_val_two (ix2 r n)
  refine (congrArg (Ideal.ofBits .f32) ((lit0_eq (S4x2176.rowMajor (ix2 r n))).trans (congrArg word ?_))).trans (word_eq _ (looks_le _ _))
  rw [e, show (r.val * 2176 + n.val) / 2176 = r.val by omega, show (r.val * 2176 + n.val) % 2176 = n.val by omega]

/-- Where a row of a band of whole rows sits in the buffer. -/
theorem at_row (o w : Nat) (inb : ∀ a, (![o, 0] : Fin 2 → Nat) a + (![w, 512] : Fin 2 → Nat) a ≤ S2176x512.size a) (r : Fin w) (x : Fin 512)
    (j : Fin 2176) (h : j.val = o + r.val) : (Rect.unit (s := S2176x512) ![o, 0] ![w, 512] inb).emb (ix2 r x) = (ix2 j x : S2176x512.Idx) := by
  funext a; refine Fin.ext ?_
  match a with
  | ⟨0, _⟩ => show o + 1 * r.val = j.val; omega
  | ⟨1, _⟩ => show 0 + 1 * x.val = x.val; omega

/-- A row beside a band is not in it. -/
theorem off_row (o w : Nat) (inb : ∀ a, (![o, 0] : Fin 2 → Nat) a + (![w, 512] : Fin 2 → Nat) a ≤ S2176x512.size a) (x : Fin 512)
    (j : Fin 2176) (h : j.val < o ∨ o + w ≤ j.val) : (ix2 j x : S2176x512.Idx) ∉ (Rect.unit (s := S2176x512) ![o, 0] ![w, 512] inb).set := by
  rw [Rect.mem_set_unit]
  intro k
  have k0 : o ≤ j.val ∧ j.val < o + w := k 0
  omega

/-- What the last store left, under it, -/
theorem hit (r : Rect S2176x512) (w : r.shape.Idx → EReal) (L : List (View.Piece (Elt Ideal) S2176x512 .f32)) (y : S2176x512.Idx) (z : r.shape.Idx)
    (h : r.emb z = y) : View.canon (Val := Elt Ideal) (e := .f32) (⟨r, w⟩ :: L) y = w z := by
  subst h; exact View.canon_cons_emb (Val := Elt Ideal) (e := .f32) r w L z

/-- and beside it what the stores before it left. -/
theorem skip (r : Rect S2176x512) (w : r.shape.Idx → EReal) (L : List (View.Piece (Elt Ideal) S2176x512 .f32)) (y : S2176x512.Idx)
    (h : y ∉ r.set) : View.canon (Val := Elt Ideal) (e := .f32) (⟨r, w⟩ :: L) y = View.canon L y :=
  View.canon_cons_of_not_mem (Val := Elt Ideal) (e := .f32) _ L h

/-- The key and value buffers after the body's three stores: the cached rows, the new rows, zero beyond. -/
theorem stored (v : View sig .tc .vmem S2176x512 .f32) (old : FVec Ideal S2048x512 .f32) (zero : FVec Ideal S128x512 .f32) (new : FVec Ideal S4x512 .f32)
    (O : Fin 32 → Fin 2048 → Fin 512 → EReal) (N : Fin 32 → Fin 4 → Fin 512 → EReal) (b : Fin 32)
    (ho : ∀ r x, old (ix2 r x) = O b r x) (hz : ∀ r x, zero (ix2 r x) = (0 : EReal)) (hn : ∀ r x, new (ix2 r x) = N b r x)
    (j : Fin 2176) (x : Fin 512) :
    (v.readCov (Val := Elt Ideal) [⟨Rect.unit (s := S2176x512) ![2048, 0] ![4, 512] inb_S2176x512_S4x512_2048_0, new⟩,
        ⟨Rect.unit (s := S2176x512) ![2048, 0] ![128, 512] inb_S2176x512_S128x512_2048_0, zero⟩,
        ⟨Rect.unit (s := S2176x512) ![0, 0] ![2048, 512] inb_S2176x512_S2048x512_0_0, old⟩]
      (Rect.unit (s := S2176x512) ![0, 0] ![2176, 512] inb_S2176x512_S2176x512_0_0).toLoadRect : S2176x512.Idx → EReal) (ix2 j x)
        = row O N b j.val x := by
  rw [View.readCov_eq_canon']
  have e : (Rect.unit (s := S2176x512) ![0, 0] ![2176, 512] inb_S2176x512_S2176x512_0_0).toLoadRect.idx (ix2 j x) = (ix2 j x : S2176x512.Idx) :=
    at_row 0 2176 inb_S2176x512_S2176x512_0_0 j x j (Nat.zero_add _).symm
  show View.canon _ ((Rect.unit (s := S2176x512) ![0, 0] ![2176, 512] inb_S2176x512_S2176x512_0_0).toLoadRect.idx (ix2 j x)) = _
  rw [e]
  by_cases h1 : j.val < 2048
  · refine (skip _ _ _ _ (off_row 2048 4 _ x j (.inl h1))).trans ((skip _ _ _ _ (off_row 2048 128 _ x j (.inl h1))).trans
      ((hit _ _ _ _ _ (at_row 0 2048 inb_S2176x512_S2048x512_0_0 ⟨j.val, h1⟩ x j (Nat.zero_add _).symm)).trans ((ho _ _).trans ?_)))
    unfold row; rw [dif_pos h1]
  · by_cases h2 : j.val - 2048 < 4
    · refine (hit _ _ _ _ _ (at_row 2048 4 inb_S2176x512_S4x512_2048_0 ⟨j.val - 2048, h2⟩ x j (show j.val = 2048 + (j.val - 2048) by omega))).trans
        ((hn _ _).trans ?_)
      unfold row; rw [dif_neg h1, dif_pos h2]
    · refine (skip _ _ _ _ (off_row 2048 4 _ x j (.inr (by omega)))).trans
        ((hit _ _ _ _ _ (at_row 2048 128 inb_S2176x512_S128x512_2048_0 ⟨j.val - 2048, by omega⟩ x j (show j.val = 2048 + (j.val - 2048) by omega))).trans
          ((hz _ _).trans ?_))
      unfold row; rw [dif_neg h1, dif_neg h2]

/-- One entry of the samples' attention: the counted rows weighted by the exponentials of their scores. -/
noncomputable def attn (Q : Fin 32 → Fin 4 → Fin 512 → ℝ) (K : Fin 32 → Fin 4 → Fin 512 → ℝ) (W : Fin 32 → Fin 4 → Fin 512 → EReal)
    (CK : Fin 32 → Fin 2048 → Fin 512 → ℝ) (CW : Fin 32 → Fin 2048 → Fin 512 → EReal) (b : Fin 32) (t : Fin 4) (x : Fin 512) : EReal :=
  ((∑ n : Fin 2176, (looks t.val n.val : ℝ) * Real.exp (Body.score (Q b t) (row CK K b n.val) (x.val / 64)))⁻¹ : ℝ)
    * ∑ n : Fin 2176, (((looks t.val n.val : ℝ) * Real.exp (Body.score (Q b t) (row CK K b n.val) (x.val / 64)) : ℝ) : EReal) * row CW W b n.val x

theorem pay1_at (x0 : Vec Ideal S1x2048x512 .f32) (r : Fin 2048) (x : Fin 512) : k0_pay1 x0 (ix2 r x) = x0 (ix3 0 r x) := by pointwise [k0_pay1]
theorem pay2_at (x0 : Vec Ideal S1x2048x512 .f32) (r : Fin 2048) (x : Fin 512) : k0_pay2 x0 (ix2 r x) = x0 (ix3 0 r x) := by pointwise [k0_pay2]
theorem pay3_at (r : Fin 128) (x : Fin 512) : k0_pay3 (F := Ideal) (ix2 r x) = (0 : EReal) := by pointwise [k0_pay3]
theorem pay4_at (r : Fin 128) (x : Fin 512) : k0_pay4 (F := Ideal) (ix2 r x) = (0 : EReal) := by pointwise [k0_pay4]
theorem pay5_at (x0 : Vec Ideal S1x4x512 .f32) (r : Fin 4) (x : Fin 512) : k0_pay5 x0 (ix2 r x) = x0 (ix3 0 r x) := by pointwise [k0_pay5]
theorem pay6_at (x0 : Vec Ideal S1x4x512 .f32) (r : Fin 4) (x : Fin 512) : k0_pay6 x0 (ix2 r x) = x0 (ix3 0 r x) := by pointwise [k0_pay6]

variable (Q K : Fin 32 → Fin 4 → Fin 512 → ℝ) (W : Fin 32 → Fin 4 → Fin 512 → EReal) (CK : Fin 32 → Fin 2048 → Fin 512 → ℝ) (CW : Fin 32 → Fin 2048 → Fin 512 → EReal)

/-- The result array after the run, of real queries and keys. -/
theorem final (c : Dev nD)
    (h0 : ∀ b t x, m ((c : Thread nD τ).loc main_arg0) (ix3 b t x) = (Q b t x : EReal))
    (h1 : ∀ b t x, m ((c : Thread nD τ).loc main_arg1) (ix3 b t x) = (K b t x : EReal))
    (h2 : ∀ b t x, m ((c : Thread nD τ).loc main_arg2) (ix3 b t x) = W b t x)
    (h3 : ∀ b t x, m ((c : Thread nD τ).loc main_arg3) (ix3 b t x) = (CK b t x : EReal))
    (h4 : ∀ b t x, m ((c : Thread nD τ).loc main_arg4) (ix3 b t x) = CW b t x) :
    (dats m 0 c).arrAt 6 (cfgs 0).N = fun i : S32x4x512.Idx => attn Q K W CK CW (i 0) (i 1) (i 2) := by
  refine (dats m 0 c).arrAt_eq_of_covers 6 _ (by decide +kernel) fun t hf y => ?_
  blk_simp; rw [after0_6]; unfold outsAt0; frame_out
  have ht : t.val < 32 := t.2
  idx_vars y
  have e : ((cfg0.win 6).blk t).view.emb (ix3 y0 y1 y2) = ix3 ⟨t.val, t.2⟩ y1 y2 := by
    blk_ext [idx t]
  have e' : ((View.whole main_v0).slice (win0_6.rect t)).emb (ix3 y0 y1 y2) = ix3 ⟨t.val, t.2⟩ y1 y2 := e
  rw [e']
  obtain rfl : y0 = 0 := Subsingleton.elim _ _
  exact Body.pay8_at _ _ _ _ (Q ⟨t.val, t.2⟩) (fun j => row CK K ⟨t.val, t.2⟩ j.val) (fun j => row CW W ⟨t.val, t.2⟩ j.val)
    (fun r n => (looks r.val n.val : ℝ))
    (fun r x => (blk0 m c t r x).trans (h0 _ _ _))
    (fun j x => (stored _ _ _ _ (fun b t x => (CK b t x : EReal)) (fun b t x => (K b t x : EReal)) ⟨t.val, t.2⟩ (fun r x => (pay1_at _ r x).trans ((blk3 m c t r x).trans (h3 _ _ _))) pay3_at
      (fun r x => (pay5_at _ r x).trans ((blk1 m c t r x).trans (h1 _ _ _))) j x).trans (row_coe CK K _ _ _))
    (fun j x => stored _ _ _ _ CW W ⟨t.val, t.2⟩ (fun r x => (pay2_at _ r x).trans ((blk4 m c t r x).trans (h4 _ _ _))) pay4_at
      (fun r x => (pay6_at _ r x).trans ((blk2 m c t r x).trans (h2 _ _ _))) j x)
    (fun r n => table m c t r n) (fun r n => Nat.cast_nonneg _) looks_pos y1 y2

end Cert.AttnSIdeal.Kernel
-- ==== Proof.AttnS.Gather.lean ====
/- Reading rows of every sample by one table of positions: `x[:, table]`, as the host program writes it. -/
module

public import Idealize.ShloMosaic.Lib.Pointwise
public import proofs.«01_k».proof.Proof.Gen.AttnSRefIdeal

@[expose] public section

set_option maxRecDepth 16384

namespace Cert.AttnSRefIdeal.Gathered

open Idealize.ShloMosaic Cert.AttnSRefIdeal

/-- It reads row `n` of the sample when the table's entry, read signed and clamped into the rows, is `n`. -/
theorem gather_at {α : Type} (x : S32x2052x8x64.Idx → α) (idx : IVec S4x129x1 32) (b : Fin 32) (t : Fin 4) (j : Fin 129) (h : Fin 8) (e : Fin 64)
    (n : Fin 2052) (hn : min (idx (ix3 t j 0)).toInt.toNat (2052 - 1) = n.val) :
    Host.gather gather_S32x2052x8x64_S4x129x1_S32x4x129x8x64_034_1_n_n_1_2_321864 x idx (ix5 b t j h e) = x (ix4 b n h e) := by
  unfold Host.gather
  refine congrArg x ?_
  funext a
  refine Fin.ext ?_
  show (gather_S32x2052x8x64_S4x129x1_S32x4x129x8x64_034_1_n_n_1_2_321864).start (ix5 b t j h e) idx a
    + (gather_S32x2052x8x64_S4x129x1_S32x4x129x8x64_034_1_n_n_1_2_321864).batchCoord (ix5 b t j h e) a
    + (gather_S32x2052x8x64_S4x129x1_S32x4x129x8x64_034_1_n_n_1_2_321864).offCoord (ix5 b t j h e) a = _
  rw [GatherDims.batchCoord_eq_zero _ _ _ List.not_mem_nil]
  match a with
  | ⟨0, _⟩ =>
    have hs : (gather_S32x2052x8x64_S4x129x1_S32x4x129x8x64_034_1_n_n_1_2_321864).start (ix5 b t j h e) idx 0 = 0 :=
      Nat.le_zero.mp (((gather_S32x2052x8x64_S4x129x1_S32x4x129x8x64_034_1_n_n_1_2_321864).start_le _ _ _).trans (Nat.sub_self 32).le)
    exact (congrArg (fun k => k + 0 + b.val) hs).trans (by simp)
  | ⟨1, _⟩ =>
    have hs : (gather_S32x2052x8x64_S4x129x1_S32x4x129x8x64_034_1_n_n_1_2_321864).start (ix5 b t j h e) idx 1 = n.val := by
      unfold GatherDims.start
      rw [dif_pos (show (1 : Fin 4) ∈ (gather_S32x2052x8x64_S4x129x1_S32x4x129x8x64_034_1_n_n_1_2_321864).startIndexMap from List.mem_cons_self ..)]
      refine Eq.trans ?_ hn
      refine congrArg (fun k => min (idx k).toInt.toNat (2052 - 1)) ?_
      funext c; refine Fin.ext ?_
      match c with
      | ⟨0, _⟩ => rfl
      | ⟨1, _⟩ => rfl
      | ⟨2, _⟩ => rfl
    exact congrArg (fun k => k + 0 + 0) hs
  | ⟨2, _⟩ =>
    have hs : (gather_S32x2052x8x64_S4x129x1_S32x4x129x8x64_034_1_n_n_1_2_321864).start (ix5 b t j h e) idx 2 = 0 :=
      Nat.le_zero.mp (((gather_S32x2052x8x64_S4x129x1_S32x4x129x8x64_034_1_n_n_1_2_321864).start_le _ _ _).trans (Nat.sub_self 8).le)
    exact (congrArg (fun k => k + 0 + h.val) hs).trans (by simp)
  | ⟨3, _⟩ =>
    have hs : (gather_S32x2052x8x64_S4x129x1_S32x4x129x8x64_034_1_n_n_1_2_321864).start (ix5 b t j h e) idx 3 = 0 :=
      Nat.le_zero.mp (((gather_S32x2052x8x64_S4x129x1_S32x4x129x8x64_034_1_n_n_1_2_321864).start_le _ _ _).trans (Nat.sub_self 64).le)
    exact (congrArg (fun k => k + 0 + e.val) hs).trans (by simp)

end Cert.AttnSRefIdeal.Gathered
-- ==== Proof.AttnS.Ref.lean ====
/- The reference's attention of the samples, group by group. -/
module

public import proofs.«01_k».proof.Proof.AttnS.Gather
public import proofs.«01_k».proof.Proof.AttnS.Kernel
public import proofs.«01_k».proof.Proof.Gen.AttnSRefIdeal.Run
public import Idealize.ShloMosaic.Lib.Pointwise

@[expose] public section

set_option maxRecDepth 16384

noncomputable section

namespace Cert.AttnSRefIdeal.Groups

open Idealize.ShloMosaic Cert.AttnSRefIdeal Cert.AttnSRefIdeal.Gen Cert.AttnSRefIdeal.Value Cert.AttnSIdeal
open scoped BigOperators

/-- The cached rows and the new ones as one array, its lanes split into heads. -/
def rows (old : FVec Ideal S32x2048x512 .f32) (new : FVec Ideal S32x4x512 .f32) : FVec Ideal S32x2052x8x64 .f32 :=
  shapeCast _ (concatenate S32x2052x512 1 [⟨S32x2048x512, old⟩, ⟨S32x4x512, new⟩] concatenates_S32x2048x512_S32x4x512_S32x2052x512_d1) shapeCasts_S32x2052x512_S32x2052x8x64

/-- The queries, their lanes split into heads. -/
def heads (q : FVec Ideal S32x4x512 .f32) : FVec Ideal S32x4x8x64 .f32 := shapeCast _ q shapeCasts_S32x4x512_S32x4x8x64

/-- The positions the group of stride `d` looks at, -/
def pos (d : BitVec 32) : IVec S4x129 32 :=
  subi (broadcastInDim S4x129 ![0, 1] bcast_S4x1_S4x129_0_1 (addi (broadcastInDim S4x1 ![] bcast_S_S4x1 (constantI S_ 32 2048#32)) (broadcastInDim S4x1 ![0] bcast_S4_S4x1_0 (iotaInDim S4 32 0)))) (broadcastInDim S4x129 ![0, 1] bcast_S1x129_S4x129_0_1 (muli (broadcastInDim S1x129 ![] bcast_S_S1x129 (constantI S_ 32 d)) (broadcastInDim S1x129 ![1] bcast_S129_S1x129_1 (iotaInDim S129 32 0))))

/-- none of them before the first, -/
def clamped (d : BitVec 32) : IVec S4x129 32 := maxsi (pos d) (broadcastInDim S4x129 ![] bcast_S_S4x129 (constantI S_ 32 0#32))

/-- as the table of a gather. -/
def starts (d : BitVec 32) : IVec S4x129x1 32 :=
  broadcastInDim S4x129x1 ![0, 1] bcast_S4x129_S4x129x1_0_1 (select (cmpi .slt (clamped d) (broadcastInDim S4x129 ![] bcast_S_S4x129 (constantI S_ 32 0#32))) (addi (clamped d) (broadcastInDim S4x129 ![] bcast_S_S4x129 (constantI S_ 32 2052#32))) (clamped d))

/-- The rows at those positions. -/
def taken (d : BitVec 32) (x : FVec Ideal S32x2052x8x64 .f32) : FVec Ideal S32x4x129x8x64 .f32 :=
  Host.gather gather_S32x2052x8x64_S4x129x1_S32x4x129x8x64_034_1_n_n_1_2_321864 x (starts d)

/-- The group's scores, -/
def scores (d : BitVec 32) (q : FVec Ideal S32x4x8x64 .f32) (k : FVec Ideal S32x4x129x8x64 .f32) : FVec Ideal S32x4x8x129 .f32 :=
  select (broadcastInDim S32x4x8x129 ![0, 1, 2, 3] bcast_S1x4x1x129_S32x4x8x129_0_1_2_3 (broadcastInDim S1x4x1x129 ![1, 3] bcast_S4x129_S1x4x1x129_1_3 (cmpi .sge (pos d) (broadcastInDim S4x129 ![] bcast_S_S4x129 (constantI S_ 32 0#32))))) (Host.dotGeneral dot_S32x4x8x64_S32x4x129x8x64_S32x4x8x129_3_4_n_2_012_013 none q k) (broadcastInDim S32x4x8x129 ![] bcast_S_S32x4x8x129 (id (constant S_ .f32 0xF149F2CA#32)))

/-- their greatest, -/
def great (s : FVec Ideal S32x4x8x129 .f32) : FVec Ideal S32x4x8x1 .f32 :=
  broadcastInDim S32x4x8x1 ![0, 1, 2] bcast_S32x4x8_S32x4x8x1_0_1_2 (Host.reduce FloatOps.maximumf s (constant S_ .f32 0xFF800000#32) reducesTo_S32x4x8x129_S32x4x8_d3 h_S_)

/-- their exponentials, -/
def expo (s : FVec Ideal S32x4x8x129 .f32) : FVec Ideal S32x4x8x129 .f32 :=
  Host.exp (subf s (broadcastInDim S32x4x8x129 ![0, 1, 2, 3] bcast_S32x4x8x1_S32x4x8x129_0_1_2_3 (great s)))

/-- the sum of these, -/
def total (s : FVec Ideal S32x4x8x129 .f32) : FVec Ideal S32x4x8x1 .f32 :=
  broadcastInDim S32x4x8x1 ![0, 1, 2] bcast_S32x4x8_S32x4x8x1_0_1_2 (Host.reduceAdd (expo s) (constant S_ .f32 0x00000000#32) reducesTo_S32x4x8x129_S32x4x8_d3 h_S_)

/-- the group's output, -/
def out (s : FVec Ideal S32x4x8x129 .f32) (v : FVec Ideal S32x4x129x8x64 .f32) : FVec Ideal S32x4x8x64 .f32 :=
  Host.divf (Host.dotGeneral dot_S32x4x8x129_S32x4x129x8x64_S32x4x8x64_3_2_n_4_012_013 none (expo s) v) (broadcastInDim S32x4x8x64 ![0, 1, 2, 3] bcast_S32x4x8x1_S32x4x8x64_0_1_2_3 (total s))

/-- and the logarithm of its sum of exponentials. -/
def lse (s : FVec Ideal S32x4x8x129 .f32) : FVec Ideal S32x4x8 .f32 :=
  shapeCast _ (addf (great s) (Host.log (total s))) shapeCasts_S32x4x8x1_S32x4x8

/-- The groups' logarithms in one array, -/
def logs (a b c : FVec Ideal S32x4x8 .f32) : FVec Ideal S3x32x4x8 .f32 :=
  concatenate S3x32x4x8 0 [⟨S1x32x4x8, broadcastInDim S1x32x4x8 ![1, 2, 3] bcast_S32x4x8_S1x32x4x8_1_2_3 a⟩, ⟨S1x32x4x8, broadcastInDim S1x32x4x8 ![1, 2, 3] bcast_S32x4x8_S1x32x4x8_1_2_3 b⟩, ⟨S1x32x4x8, broadcastInDim S1x32x4x8 ![1, 2, 3] bcast_S32x4x8_S1x32x4x8_1_2_3 c⟩] concatenates_S1x32x4x8_S1x32x4x8_S1x32x4x8_S3x32x4x8_d0

/-- and their outputs. -/
def outs (a b c : FVec Ideal S32x4x8x64 .f32) : FVec Ideal S3x32x4x8x64 .f32 :=
  concatenate S3x32x4x8x64 0 [⟨S1x32x4x8x64, broadcastInDim S1x32x4x8x64 ![1, 2, 3, 4] bcast_S32x4x8x64_S1x32x4x8x64_1_2_3_4 a⟩, ⟨S1x32x4x8x64, broadcastInDim S1x32x4x8x64 ![1, 2, 3, 4] bcast_S32x4x8x64_S1x32x4x8x64_1_2_3_4 b⟩, ⟨S1x32x4x8x64, broadcastInDim S1x32x4x8x64 ![1, 2, 3, 4] bcast_S32x4x8x64_S1x32x4x8x64_1_2_3_4 c⟩] concatenates_S1x32x4x8x64_S1x32x4x8x64_S1x32x4x8x64_S3x32x4x8x64_d0

/-- The exponentials of the logarithms, the greatest taken off, -/
def weigh (l : FVec Ideal S3x32x4x8 .f32) : FVec Ideal S3x32x4x8 .f32 :=
  Host.exp (subf l (broadcastInDim S3x32x4x8 ![0, 1, 2, 3] bcast_S1x32x4x8_S3x32x4x8_0_1_2_3 (broadcastInDim S1x32x4x8 ![1, 2, 3] bcast_S32x4x8_S1x32x4x8_1_2_3 (maximumf (broadcastInDim S32x4x8 ![] bcast_S_S32x4x8 (constant S_ .f32 0xFF800000#32)) (Host.reduce FloatOps.maximumf l (constant S_ .f32 0xFF800000#32) reducesTo_S3x32x4x8_S32x4x8_d0 h_S_)))))

/-- and the outputs joined by their softmax. -/
def join (l : FVec Ideal S3x32x4x8 .f32) (o : FVec Ideal S3x32x4x8x64 .f32) : FVec Ideal S32x4x512 .f32 :=
  shapeCast _ (Host.reduceAdd (mulf (broadcastInDim S3x32x4x8x64 ![0, 1, 2, 3, 4] bcast_S3x32x4x8x1_S3x32x4x8x64_0_1_2_3_4 (broadcastInDim S3x32x4x8x1 ![0, 1, 2, 3] bcast_S3x32x4x8_S3x32x4x8x1_0_1_2_3 (Host.divf (weigh l) (broadcastInDim S3x32x4x8 ![0, 1, 2, 3] bcast_S1x32x4x8_S3x32x4x8_0_1_2_3 (broadcastInDim S1x32x4x8 ![1, 2, 3] bcast_S32x4x8_S1x32x4x8_1_2_3 (Host.reduceAdd (weigh l) (constant S_ .f32 0x00000000#32) reducesTo_S3x32x4x8_S32x4x8_d0 h_S_)))))) o) (constant S_ .f32 0x00000000#32) reducesTo_S3x32x4x8x64_S32x4x8x64_d0 h_S_) shapeCasts_S32x4x8x64_S32x4x512

/-- The whole reference. -/
def result (q k v : FVec Ideal S32x4x512 .f32) (ck cv : FVec Ideal S32x2048x512 .f32) : FVec Ideal S32x4x512 .f32 :=
  join (logs (lse (scores 1#32 (heads q) (taken 1#32 (rows ck k)))) (lse (scores 4#32 (heads q) (taken 4#32 (rows ck k))))
      (lse (scores 16#32 (heads q) (taken 16#32 (rows ck k)))))
    (outs (out (scores 1#32 (heads q) (taken 1#32 (rows ck k))) (taken 1#32 (rows cv v))) (out (scores 4#32 (heads q) (taken 4#32 (rows ck k))) (taken 4#32 (rows cv v)))
      (out (scores 16#32 (heads q) (taken 16#32 (rows ck k))) (taken 16#32 (rows cv v))))

/-- The positions in closed form. -/
theorem starts_at : ∀ (t : Fin 4) (j : Fin 129), starts 1#32 (ix3 t j 0) = BitVec.ofNat 32 (2048 + t.val - 1 * j.val)
    ∧ starts 4#32 (ix3 t j 0) = BitVec.ofNat 32 (2048 + t.val - 4 * j.val) ∧ starts 16#32 (ix3 t j 0) = BitVec.ofNat 32 (2048 + t.val - 16 * j.val) := by
  decide +kernel

/-- None is before the first row. -/
theorem valid_at : ∀ (t : Fin 4) (j : Fin 129), IntOp.cmpi .sge (pos 1#32 (ix2 t j)) 0#32 = 1#1
    ∧ IntOp.cmpi .sge (pos 4#32 (ix2 t j)) 0#32 = 1#1 ∧ IntOp.cmpi .sge (pos 16#32 (ix2 t j)) 0#32 = 1#1 := by
  decide +kernel

theorem rows_at (old : FVec Ideal S32x2048x512 .f32) (new : FVec Ideal S32x4x512 .f32) (b : Fin 32) (n : Fin 2052) (h : Fin 8) (e : Fin 64) :
    rows old new (ix4 b n h e) = if h1 : n.val < 2048 then old (ix3 b ⟨n.val, h1⟩ ⟨h.val * 64 + e.val, by omega⟩)
      else new (ix3 b ⟨n.val - 2048, by omega⟩ ⟨h.val * 64 + e.val, by omega⟩) := by
  pointwise [rows]

/-- A row of the joined array, -/
theorem rows_row (old : FVec Ideal S32x2048x512 .f32) (new : FVec Ideal S32x4x512 .f32) (O : Fin 32 → Fin 2048 → Fin 512 → EReal) (N : Fin 32 → Fin 4 → Fin 512 → EReal)
    (ho : ∀ b t x, old (ix3 b t x) = O b t x) (hn : ∀ b t x, new (ix3 b t x) = N b t x)
    (b : Fin 32) (n : Fin 2052) (h : Fin 8) (e : Fin 64) :
    rows old new (ix4 b n h e) = Keys.row O N b n.val ⟨h.val * 64 + e.val, by omega⟩ := by
  rw [rows_at]
  unfold Keys.row
  by_cases h1 : n.val < 2048
  · rw [dif_pos h1, dif_pos h1]; exact ho _ _ _
  · have h2 : n.val - 2048 < 4 := by omega
    rw [dif_neg h1, dif_neg h1, dif_pos h2]; exact hn _ _ _

/-- and of real arguments. -/
theorem rows_real (old : FVec Ideal S32x2048x512 .f32) (new : FVec Ideal S32x4x512 .f32) (O : Fin 32 → Fin 2048 → Fin 512 → ℝ) (N : Fin 32 → Fin 4 → Fin 512 → ℝ)
    (ho : ∀ b t x, old (ix3 b t x) = (O b t x : EReal)) (hn : ∀ b t x, new (ix3 b t x) = (N b t x : EReal))
    (b : Fin 32) (n : Fin 2052) (h : Fin 8) (e : Fin 64) :
    rows old new (ix4 b n h e) = ((Keys.row O N b n.val ⟨h.val * 64 + e.val, by omega⟩ : ℝ) : EReal) :=
  (rows_row old new _ _ ho hn b n h e).trans (Keys.row_coe O N b n.val _)

theorem heads_at (q : FVec Ideal S32x4x512 .f32) (b : Fin 32) (t : Fin 4) (h : Fin 8) (e : Fin 64) :
    heads q (ix4 b t h e) = q (ix3 b t ⟨h.val * 64 + e.val, by omega⟩) := by
  pointwise [heads]

/-- What is assumed of a group of stride `d`: its positions, and that none is before the first row. -/
def Stride (d : BitVec 32) (k : Nat) : Prop :=
  k ≤ 16 ∧ ∀ (t : Fin 4) (j : Fin 129), starts d (ix3 t j 0) = BitVec.ofNat 32 (2048 + t.val - k * j.val) ∧ IntOp.cmpi .sge (pos d (ix2 t j)) 0#32 = 1#1

theorem stride_1 : Stride 1#32 1 := ⟨by omega, fun t j => ⟨(starts_at t j).1, (valid_at t j).1⟩⟩
theorem stride_4 : Stride 4#32 4 := ⟨by omega, fun t j => ⟨(starts_at t j).2.1, (valid_at t j).2.1⟩⟩
theorem stride_16 : Stride 16#32 16 := ⟨by omega, fun t j => ⟨(starts_at t j).2.2, (valid_at t j).2.2⟩⟩

theorem taken_at (d : BitVec 32) (k : Nat) (hd : Stride d k) (x : FVec Ideal S32x2052x8x64 .f32) (b : Fin 32) (t : Fin 4) (j : Fin 129) (h : Fin 8) (e : Fin 64) :
    taken d x (ix5 b t j h e) = x (ix4 b ⟨2048 + t.val - k * j.val, by omega⟩ h e) := by
  refine Gathered.gather_at x (starts d) b t j h e _ ?_
  rw [(hd.2 t j).1]
  have hlt : 2048 + t.val - k * j.val < 2052 := by omega
  show min (BitVec.ofNat 32 (2048 + t.val - k * j.val)).toInt.toNat (2052 - 1) = 2048 + t.val - k * j.val
  generalize 2048 + t.val - k * j.val = n at hlt ⊢
  have : (BitVec.ofNat 32 n).toInt = (n : Int) := by
    rw [BitVec.toInt_eq_toNat_of_lt (by rw [BitVec.toNat_ofNat]; omega), BitVec.toNat_ofNat, Nat.mod_eq_of_lt (by omega)]
  rw [this]; omega

theorem scores_at (d : BitVec 32) (k : Nat) (hd : Stride d k) (q : FVec Ideal S32x4x8x64 .f32) (x : FVec Ideal S32x4x129x8x64 .f32)
    (b : Fin 32) (t : Fin 4) (h : Fin 8) (j : Fin 129) :
    scores d q x (ix4 b t h j) = ∑ e : Fin 64, q (ix4 b t h e) * x (ix5 b t j h e) := by
  have hv := (hd.2 t j).2
  unfold scores
  generalize pos d = p at hv ⊢
  pointwise []
  rw [hv]; rfl

/-- A score is the sum over its head's lanes alone. -/
theorem score_eq (Q K : Fin 512 → ℝ) (h : Fin 8) :
    Body.score Q K h.val = ∑ e : Fin 64, Q ⟨h.val * 64 + e.val, by omega⟩ * K ⟨h.val * 64 + e.val, by omega⟩ := by
  unfold Body.score
  rw [← Finset.sum_filter]
  symm
  refine Finset.sum_bij (fun (e : Fin 64) _ => (⟨h.val * 64 + e.val, by omega⟩ : Fin 512)) ?_ ?_ ?_ ?_
  · intro e _
    simp only [Finset.mem_filter, Finset.mem_univ, true_and]
    omega
  · intro e _ e' _ he
    have := congrArg Fin.val he
    exact Fin.ext (by simp at this; omega)
  · intro x hx
    simp only [Finset.mem_filter, Finset.mem_univ, true_and] at hx
    exact ⟨⟨x.val % 64, by omega⟩, Finset.mem_univ _, Fin.ext (by show h.val * 64 + x.val % 64 = x.val; omega)⟩
  · intro e _; rfl

theorem fold_eq {ι : Type} (S : Finset ι) (f : ι → EReal) : Finset.fold max (Ideal.ofBits .f32 0xFF800000#32) f S = S.sup f := by
  rw [Body.ninf_eq]; rfl

theorem out_at (s : FVec Ideal S32x4x8x129 .f32) (v : FVec Ideal S32x4x129x8x64 .f32) (b : Fin 32) (t : Fin 4) (h : Fin 8) (e : Fin 64)
    (r : Fin 129 → ℝ) (w : Fin 129 → EReal) (hs : ∀ j, s (ix4 b t h j) = (r j : EReal)) (hv : ∀ j, v (ix5 b t j h e) = w j) :
    out s v (ix4 b t h e) = Soft.go r w := by
  unfold Soft.go Soft.gl Soft.gp Soft.gm
  pointwise [out, total, expo, great]
  simp only [hs, hv, fold_eq]

theorem lse_at (s : FVec Ideal S32x4x8x129 .f32) (b : Fin 32) (t : Fin 4) (h : Fin 8)
    (r : Fin 129 → ℝ) (hs : ∀ j, s (ix4 b t h j) = (r j : EReal)) :
    lse s (ix3 b t h) = Soft.ge r := by
  unfold Soft.ge Soft.gl Soft.gp Soft.gm
  pointwise [lse, total, expo, great]
  simp only [hs, fold_eq]

theorem logs_at (a b c : FVec Ideal S32x4x8 .f32) (g : Fin 3) (i : Fin 32) (t : Fin 4) (h : Fin 8) :
    logs a b c (ix4 g i t h) = ![a (ix3 i t h), b (ix3 i t h), c (ix3 i t h)] g := by
  pointwise [logs]
  match g with
  | 0 => rfl
  | 1 => rfl
  | 2 => rfl

theorem outs_at (a b c : FVec Ideal S32x4x8x64 .f32) (g : Fin 3) (i : Fin 32) (t : Fin 4) (h : Fin 8) (e : Fin 64) :
    outs a b c (ix5 g i t h e) = ![a (ix4 i t h e), b (ix4 i t h e), c (ix4 i t h e)] g := by
  pointwise [outs]
  match g with
  | 0 => rfl
  | 1 => rfl
  | 2 => rfl

theorem join_at (l : FVec Ideal S3x32x4x8 .f32) (o : FVec Ideal S3x32x4x8x64 .f32) (b : Fin 32) (t : Fin 4) (x : Fin 512)
    (L O : Fin 3 → EReal) (hl : ∀ g, l (ix4 g b t ⟨x.val / 64, by omega⟩) = L g)
    (ho : ∀ g, o (ix5 g b t ⟨x.val / 64, by omega⟩ ⟨x.val % 64, by omega⟩) = O g) :
    join l o (ix3 b t x) = ∑ g, Ideal.div (Ideal.exp (L g - Finset.univ.sup L)) (∑ g', Ideal.exp (L g' - Finset.univ.sup L)) * O g := by
  pointwise [join, weigh]
  simp only [hl, ho, fold_eq, Body.ninf_eq, bot_le, max_eq_right]

/-- Three groups, joined. -/
theorem three (N1 N2 N3 : EReal) (Z1 Z2 Z3 : ℝ) (p1 : 0 < Z1) (p2 : 0 < Z2) (p3 : 0 < Z3) (e1 e2 e3 o1 o2 o3 : EReal)
    (g1 : o1 = (Z1⁻¹ : ℝ) * N1 ∧ e1 = (Real.log Z1 : ℝ)) (g2 : o2 = (Z2⁻¹ : ℝ) * N2 ∧ e2 = (Real.log Z2 : ℝ)) (g3 : o3 = (Z3⁻¹ : ℝ) * N3 ∧ e3 = (Real.log Z3 : ℝ)) :
    ∑ g, Ideal.div (Ideal.exp (![e1, e2, e3] g - Finset.univ.sup ![e1, e2, e3])) (∑ g', Ideal.exp (![e1, e2, e3] g' - Finset.univ.sup ![e1, e2, e3])) * ![o1, o2, o3] g
      = ((Z1 + Z2 + Z3)⁻¹ : ℝ) * (N1 + N2 + N3) := by
  refine (Soft.joined ![N1, N2, N3] ![Z1, Z2, Z3] ?_ _ _ ?_ ?_).trans ?_
  · intro g
    match g with
    | 0 => exact p1
    | 1 => exact p2
    | 2 => exact p3
  · intro g
    match g with
    | 0 => exact g1.2
    | 1 => exact g2.2
    | 2 => exact g3.2
  · intro g
    match g with
    | 0 => exact g1.1
    | 1 => exact g2.1
    | 2 => exact g3.1
  · rw [Fin.sum_univ_three, Fin.sum_univ_three]; rfl

/-- The reference's result, of real queries and keys, is the counted attention over all rows. -/
theorem result_at (q k v : FVec Ideal S32x4x512 .f32) (ck cv : FVec Ideal S32x2048x512 .f32)
    (Q K : Fin 32 → Fin 4 → Fin 512 → ℝ) (W : Fin 32 → Fin 4 → Fin 512 → EReal) (CK : Fin 32 → Fin 2048 → Fin 512 → ℝ) (CW : Fin 32 → Fin 2048 → Fin 512 → EReal)
    (h0 : ∀ b t x, q (ix3 b t x) = (Q b t x : EReal)) (h1 : ∀ b t x, k (ix3 b t x) = (K b t x : EReal)) (h2 : ∀ b t x, v (ix3 b t x) = W b t x)
    (h3 : ∀ b t x, ck (ix3 b t x) = (CK b t x : EReal)) (h4 : ∀ b t x, cv (ix3 b t x) = CW b t x) (b : Fin 32) (t : Fin 4) (x : Fin 512) :
    result q k v ck cv (ix3 b t x) = Kernel.attn Q K W CK CW b t x := by
  have hx : x.val / 64 < 8 := by omega
  -- one group's scores, and the values of its rows at this lane
  have hs : ∀ (d : BitVec 32) (n : Nat) (hd : Stride d n) (j : Fin 129),
      scores d (heads q) (taken d (rows ck k)) (ix4 b t ⟨x.val / 64, hx⟩ j)
        = (Body.score (Q b t) (Keys.row CK K b (2048 + t.val - n * j.val)) (x.val / 64) : EReal) := by
    intro d n hd j
    rw [scores_at d n hd, score_eq _ _ ⟨x.val / 64, hx⟩, ← Soft.coe_sum]
    refine Finset.sum_congr rfl fun e _ => ?_
    rw [heads_at, taken_at d n hd, rows_real ck k CK K h3 h1, h0, ← EReal.coe_mul]
  have hv : ∀ (d : BitVec 32) (n : Nat) (hd : Stride d n) (j : Fin 129),
      taken d (rows cv v) (ix5 b t j ⟨x.val / 64, hx⟩ ⟨x.val % 64, by omega⟩) = Keys.row CW W b (2048 + t.val - n * j.val) x := by
    intro d n hd j
    rw [taken_at d n hd, rows_row cv v CW W h4 h2]
    have e : (⟨x.val / 64 * 64 + x.val % 64, by omega⟩ : Fin 512) = x := Fin.ext (by show x.val / 64 * 64 + x.val % 64 = x.val; omega)
    rw [e]
  let r : Nat → Fin 129 → ℝ := fun n j => Body.score (Q b t) (Keys.row CK K b (2048 + t.val - n * j.val)) (x.val / 64)
  let w : Nat → Fin 129 → EReal := fun n j => Keys.row CW W b (2048 + t.val - n * j.val) x
  let Z : Nat → ℝ := fun n => ∑ j, Real.exp (r n j)
  let N : Nat → EReal := fun n => ∑ j, (Real.exp (r n j) : EReal) * w n j
  have hZ : ∀ n, 0 < Z n := fun n => Finset.sum_pos (fun _ _ => Real.exp_pos _) Finset.univ_nonempty
  unfold result
  refine (join_at _ _ b t x ![Soft.ge (r 1), Soft.ge (r 4), Soft.ge (r 16)] ![Soft.go (r 1) (w 1), Soft.go (r 4) (w 4), Soft.go (r 16) (w 16)] ?_ ?_).trans ?_
  · intro g
    rw [logs_at, lse_at _ b t _ (r 1) (hs _ 1 stride_1), lse_at _ b t _ (r 4) (hs _ 4 stride_4), lse_at _ b t _ (r 16) (hs _ 16 stride_16)]
  · intro g
    rw [outs_at, out_at _ _ b t _ _ (r 1) (w 1) (hs _ 1 stride_1) (hv _ 1 stride_1), out_at _ _ b t _ _ (r 4) (w 4) (hs _ 4 stride_4) (hv _ 4 stride_4),
      out_at _ _ b t _ _ (r 16) (w 16) (hs _ 16 stride_16) (hv _ 16 stride_16)]
  · unfold Kernel.attn
    rw [Keys.sum_looks_real t.val t.2 (fun n => Real.exp (Body.score (Q b t) (Keys.row CK K b n) (x.val / 64))),
      Keys.sum_looks_ereal t.val t.2 (fun n => Real.exp (Body.score (Q b t) (Keys.row CK K b n) (x.val / 64))) (fun n => Keys.row CW W b n x)]
    exact three (N 1) (N 4) (N 16) (Z 1) (Z 4) (Z 16) (hZ 1) (hZ 4) (hZ 16) _ _ _ _ _ _ (Soft.group (r 1) (w 1)) (Soft.group (r 4) (w 4)) (Soft.group (r 16) (w 16))

/-- The same, as one array. -/
theorem result_fn (q k v : FVec Ideal S32x4x512 .f32) (ck cv : FVec Ideal S32x2048x512 .f32)
    (Q K : Fin 32 → Fin 4 → Fin 512 → ℝ) (W : Fin 32 → Fin 4 → Fin 512 → EReal) (CK : Fin 32 → Fin 2048 → Fin 512 → ℝ) (CW : Fin 32 → Fin 2048 → Fin 512 → EReal)
    (h0 : ∀ b t x, q (ix3 b t x) = (Q b t x : EReal)) (h1 : ∀ b t x, k (ix3 b t x) = (K b t x : EReal)) (h2 : ∀ b t x, v (ix3 b t x) = W b t x)
    (h3 : ∀ b t x, ck (ix3 b t x) = (CK b t x : EReal)) (h4 : ∀ b t x, cv (ix3 b t x) = CW b t x) :
    result q k v ck cv = fun i : S32x4x512.Idx => Kernel.attn Q K W CK CW (i 0) (i 1) (i 2) := by
  refine funext fun y => ?_
  idx_vars y
  exact result_at q k v ck cv Q K W CK CW h0 h1 h2 h3 h4 y0 y1 y2

/-- The reference's run, its result by name. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v163) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.AttnSRefIdeal.Value.run m ρ

end Cert.AttnSRefIdeal.Groups
-- ==== Proof.AttnS.Value.lean ====
/- The attention of the samples and its reference, side by side: of finite queries and keys both return the counted attention. -/
module

public import proofs.«01_k».proof.Proof.AttnS.Pre
public import proofs.«01_k».proof.Proof.AttnS.Kernel
public import proofs.«01_k».proof.Proof.AttnS.Ref
public import proofs.«01_k».proof.Proof.Gen.AttnS
public import Idealize.ShloMosaic.Lib.Claim
public import Idealize.ShloMosaic.Lib.Quiescent

@[expose] public section

noncomputable section

namespace Cert.AttnSIdeal.Pair

open Idealize.ShloMosaic Idealize.SL.Sem

/-- At exact arithmetic, of finite queries and keys, the attention of the samples returns the reference's array. -/
theorem attnS : Cert.algebraic_AttnSIdeal_AttnSRefIdeal_pre_finite_sample := by
  intro m g m' g' hpre hagree
  refine ⟨fun c => (Cert.AttnSIdeal.Gen.dats m 0 c).arrAt 6 Cert.AttnSIdeal.cfg0.N, ?_, ?_⟩
  · run_from Cert.AttnSIdeal.Value.run_blocks m g
  · run_from Cert.AttnSRefIdeal.Groups.run' m' g'
    obtain ⟨Q, K, CK, h0, h1, h3⟩ := Cert.AttnSIdeal.Finite.reals m hpre c
    refine Eq.trans ?_ (Cert.AttnSIdeal.Kernel.final m Q K _ CK _ c h0 h1 (fun _ _ _ => rfl) h3 (fun _ _ _ => rfl)).symm
    exact Cert.AttnSRefIdeal.Groups.result_fn _ _ _ _ _ Q K _ CK _ h0 h1 (fun _ _ _ => rfl) h3 (fun _ _ _ => rfl)

end Cert.AttnSIdeal.Pair

end
-- ==== Proof.lean ====
/- The proof of the certificate's claims: each part is proved in the modules imported here. -/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.ProjP
public import proofs.«01_k».proof.Proof.Gen.ProjP.Skeleton
public import proofs.«01_k».proof.Proof.Gen.ProjP.Launch
public import proofs.«01_k».proof.Proof.Gen.ProjP.Points
public import proofs.«01_k».proof.Proof.Gen.ProjP.Frame
public import proofs.«01_k».proof.Proof.Gen.ProjPIdeal
public import proofs.«01_k».proof.Proof.Gen.ProjPIdeal.Skeleton
public import proofs.«01_k».proof.Proof.Gen.ProjPIdeal.Launch
public import proofs.«01_k».proof.Proof.Gen.ProjPIdeal.Points
public import proofs.«01_k».proof.Proof.Gen.ProjPIdeal.Frame
public import proofs.«01_k».proof.Proof.Gen.ProjPRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.AttnS
public import proofs.«01_k».proof.Proof.Gen.AttnS.Skeleton
public import proofs.«01_k».proof.Proof.Gen.AttnS.Launch
public import proofs.«01_k».proof.Proof.Gen.AttnS.Points
public import proofs.«01_k».proof.Proof.Gen.AttnS.Frame
public import proofs.«01_k».proof.Proof.Gen.AttnSIdeal
public import proofs.«01_k».proof.Proof.Gen.AttnSIdeal.Skeleton
public import proofs.«01_k».proof.Proof.Gen.AttnSIdeal.Launch
public import proofs.«01_k».proof.Proof.Gen.AttnSIdeal.Points
public import proofs.«01_k».proof.Proof.Gen.AttnSIdeal.Frame
public import proofs.«01_k».proof.Proof.Gen.AttnSIdeal.Value
public import proofs.«01_k».proof.Proof.Gen.AttnSRefIdeal
public import proofs.«01_k».proof.Proof.Gen.AttnSRefIdeal.Run
public import proofs.«01_k».proof.Proof.Gen.Pre_finite_sample
public import proofs.«01_k».proof.Proof.Gen.FinalP
public import proofs.«01_k».proof.Proof.Gen.FinalP.Skeleton
public import proofs.«01_k».proof.Proof.Gen.FinalP.Launch
public import proofs.«01_k».proof.Proof.Gen.FinalP.Points
public import proofs.«01_k».proof.Proof.Gen.FinalP.Frame
public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.FinalPRefIdeal
public import proofs.«01_k».proof.Proof.Gen.FinalS
public import proofs.«01_k».proof.Proof.Gen.FinalS.Skeleton
public import proofs.«01_k».proof.Proof.Gen.FinalS.Launch
public import proofs.«01_k».proof.Proof.Gen.FinalS.Points
public import proofs.«01_k».proof.Proof.Gen.FinalS.Frame
public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.FinalSRefIdeal
public import proofs.«01_k».proof.Proof.Gen.FinishP
public import proofs.«01_k».proof.Proof.Gen.FinishP.Skeleton
public import proofs.«01_k».proof.Proof.Gen.FinishP.Launch
public import proofs.«01_k».proof.Proof.Gen.FinishP.Points
public import proofs.«01_k».proof.Proof.Gen.FinishP.Frame
public import proofs.«01_k».proof.Proof.Gen.FinishPIdeal
public import proofs.«01_k».proof.Proof.Gen.FinishPIdeal.Skeleton
public import proofs.«01_k».proof.Proof.Gen.FinishPIdeal.Launch
public import proofs.«01_k».proof.Proof.Gen.FinishPIdeal.Points
public import proofs.«01_k».proof.Proof.Gen.FinishPIdeal.Frame
public import proofs.«01_k».proof.Proof.Gen.FinishPRefIdeal
public import proofs.«01_k».proof.Proof.Gen.FinishS
public import proofs.«01_k».proof.Proof.Gen.FinishS.Skeleton
public import proofs.«01_k».proof.Proof.Gen.FinishS.Launch
public import proofs.«01_k».proof.Proof.Gen.FinishS.Points
public import proofs.«01_k».proof.Proof.Gen.FinishS.Frame
public import proofs.«01_k».proof.Proof.Gen.FinishSIdeal
public import proofs.«01_k».proof.Proof.Gen.FinishSIdeal.Skeleton
public import proofs.«01_k».proof.Proof.Gen.FinishSIdeal.Launch
public import proofs.«01_k».proof.Proof.Gen.FinishSIdeal.Points
public import proofs.«01_k».proof.Proof.Gen.FinishSIdeal.Frame
public import proofs.«01_k».proof.Proof.Gen.FinishSRefIdeal
public import proofs.«01_k».proof.Proof.Gen.Pre_experts_in_range
public import proofs.«01_k».proof.Proof.Moe.Pre
public import proofs.«01_k».proof.Proof.Moe.Frame
public import proofs.«01_k».proof.Proof.MoeIdeal.Pre
public import proofs.«01_k».proof.Proof.MoeIdeal.Frame
public import proofs.«01_k».proof.Proof.MoeIdeal.Value
public import proofs.«01_k».proof.Proof.MoeRef.Result
public import proofs.«01_k».proof.Proof.ProjP.Value
public import proofs.«01_k».proof.Proof.ProjS.Value
public import proofs.«01_k».proof.Proof.FinalP.Value
public import proofs.«01_k».proof.Proof.FinalS.Value
public import proofs.«01_k».proof.Proof.FinishP.Value
public import proofs.«01_k».proof.Proof.FinishS.Value
public import proofs.«01_k».proof.Proof.AttnS.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- At exact arithmetic the routed-experts call returns the reference's array. -/
theorem moe : Cert.algebraic_MoeIdeal_MoeRefIdeal := by
  pair_intro
  · run_from Cert.MoeIdeal.Value.run m g (by assumption)
  · run_from Cert.MoeRefIdeal.Value.run m' g'
    rw [Cert.MoeRefIdeal.Stages.result_eq]
    obtain ⟨h0, h1, h2, h3, h4, h5, h6, h7⟩ := hagree c
    rw [h0, h1, h2, h3, h4, h5, h6, h7]

/-- At exact arithmetic the projection of the prompt rows returns the reference's four arrays. -/
theorem projP : Cert.algebraic_ProjPIdeal_ProjPRefIdeal := by
  pair_intro
  · run_from Cert.ProjPIdeal.Gen.run_main m g
  · hlo_run
    · exact (Cert.ProjPIdeal.Value.final_3 m c).symm
    · exact (Cert.ProjPIdeal.Value.final_4 m c).symm
    · exact (Cert.ProjPIdeal.Value.final_5 m c).symm
    · exact (Cert.ProjPIdeal.Value.final_6 m c).symm

/-- At exact arithmetic the projection of the sample rows returns the reference's four arrays. -/
theorem projS : Cert.algebraic_ProjSIdeal_ProjSRefIdeal := by
  pair_intro
  · run_from Cert.ProjSIdeal.Gen.run_main m g
  · hlo_run
    · exact (Cert.ProjSIdeal.Value.final_3 m c).symm
    · exact (Cert.ProjSIdeal.Value.final_4 m c).symm
    · exact (Cert.ProjSIdeal.Value.final_5 m c).symm
    · exact (Cert.ProjSIdeal.Value.final_6 m c).symm

/-- At exact arithmetic the final norm of the prompt rows returns the reference's array. -/
theorem finalP : Cert.algebraic_FinalPIdeal_FinalPRefIdeal := by
  pair_intro
  · run_from Cert.FinalPIdeal.Gen.run_main m g
  · hlo_run
    exact (Cert.FinalPIdeal.Value.final_3 m c).symm

/-- At exact arithmetic the final norm of the sample rows returns the reference's array. -/
theorem finalS : Cert.algebraic_FinalSIdeal_FinalSRefIdeal := by
  pair_intro
  · run_from Cert.FinalSIdeal.Gen.run_main m g
  · hlo_run
    exact (Cert.FinalSIdeal.Value.final_3 m c).symm

set_option maxHeartbeats 1000000 in
/-- At exact arithmetic the gated output of the prompt rows returns the reference's two arrays. -/
theorem finishP : Cert.algebraic_FinishPIdeal_FinishPRefIdeal := by
  pair_intro
  · run_from Cert.FinishPIdeal.Gen.run_main m g
    all_goals first
      | exact Cert.FinishPIdeal.Gen.V_main_arg0 m c
      | exact Cert.FinishPIdeal.Gen.V_main_arg1 m c
      | exact Cert.FinishPIdeal.Gen.V_main_arg2 m c
      | exact Cert.FinishPIdeal.Gen.V_main_arg3 m c
      | exact Cert.FinishPIdeal.Gen.V_main_arg4 m c
      | exact Cert.FinishPIdeal.Gen.V_main_arg5 m c
      | exact Cert.FinishPIdeal.Gen.V_main_arg6 m c
      | exact Cert.FinishPIdeal.Gen.V_main_arg7 m c
      | exact Cert.FinishPIdeal.Gen.V_main_arg8 m c
      | exact Cert.FinishPIdeal.Gen.V_main_arg9 m c
      | exact Cert.FinishPIdeal.Gen.V_main_arg10 m c
  · hlo_run
    · obtain ⟨e0, e1, e2, e3, e4, e5, e6, e7, e8, -, -⟩ := hagree c
      refine Eq.trans ?_ (Cert.FinishPIdeal.Value.final_11 m c).symm
      rw [← e0, ← e1, ← e2, ← e3, ← e4, ← e5, ← e6, ← e7]
      rfl
    · obtain ⟨e0, e1, e2, e3, e4, e5, e6, e7, e8, -, -⟩ := hagree c
      refine Eq.trans ?_ (Cert.FinishPIdeal.Value.final_12 m c).symm
      rw [← e0, ← e1, ← e2, ← e3, ← e4, ← e5, ← e6, ← e7, ← e8]
      rfl

set_option maxHeartbeats 1000000 in
/-- At exact arithmetic the gated output of the sample rows returns the reference's two arrays. -/
theorem finishS : Cert.algebraic_FinishSIdeal_FinishSRefIdeal := by
  pair_intro
  · run_from Cert.FinishSIdeal.Gen.run_main m g
    all_goals first
      | exact Cert.FinishSIdeal.Gen.V_main_arg0 m c
      | exact Cert.FinishSIdeal.Gen.V_main_arg1 m c
      | exact Cert.FinishSIdeal.Gen.V_main_arg2 m c
      | exact Cert.FinishSIdeal.Gen.V_main_arg3 m c
      | exact Cert.FinishSIdeal.Gen.V_main_arg4 m c
      | exact Cert.FinishSIdeal.Gen.V_main_arg5 m c
      | exact Cert.FinishSIdeal.Gen.V_main_arg6 m c
      | exact Cert.FinishSIdeal.Gen.V_main_arg7 m c
      | exact Cert.FinishSIdeal.Gen.V_main_arg8 m c
      | exact Cert.FinishSIdeal.Gen.V_main_arg9 m c
      | exact Cert.FinishSIdeal.Gen.V_main_arg10 m c
  · hlo_run
    · obtain ⟨e0, e1, e2, e3, e4, e5, e6, e7, e8, -, -⟩ := hagree c
      refine Eq.trans ?_ (Cert.FinishSIdeal.Value.final_11 m c).symm
      rw [← e0, ← e1, ← e2, ← e3, ← e4, ← e5, ← e6, ← e7]
      rfl
    · obtain ⟨e0, e1, e2, e3, e4, e5, e6, e7, e8, -, -⟩ := hagree c
      refine Eq.trans ?_ (Cert.FinishSIdeal.Value.final_12 m c).symm
      rw [← e0, ← e1, ← e2, ← e3, ← e4, ← e5, ← e6, ← e7, ← e8]
      rfl

/-- The reference runs, keeps its arguments and leaves no semaphore raised. -/
theorem ref9 : Cert.quiescent_AttnSRefIdeal := by
  intro m g _; hlo_run <;> first | exact sem_eq_zero_of_no_sems (by decide) _ | (intro c; simp)

/-- The reference runs, keeps its arguments and leaves no semaphore raised. -/
theorem ref10 : Cert.quiescent_AttnSRefIdeal_pre_finite_sample := by
  intro m g _; exact ref9 m g trivial

/-- The reference runs, keeps its arguments and leaves no semaphore raised. -/
theorem ref1 : Cert.quiescent_MoeRefIdeal := by
  intro m g _; hlo_run <;> first | exact sem_eq_zero_of_no_sems (by decide) _ | (intro c; simp)

/-- The reference runs, keeps its arguments and leaves no semaphore raised. -/
theorem ref2 : Cert.quiescent_MoeRefIdeal_pre_experts_in_range := by
  intro m g _; hlo_run <;> first | exact sem_eq_zero_of_no_sems (by decide) _ | (intro c; simp)

/-- The reference runs, keeps its arguments and leaves no semaphore raised. -/
theorem ref3 : Cert.quiescent_ProjPRefIdeal := by
  intro m g _; hlo_run <;> first | exact sem_eq_zero_of_no_sems (by decide) _ | (intro c; simp)

/-- The reference runs, keeps its arguments and leaves no semaphore raised. -/
theorem ref4 : Cert.quiescent_ProjSRefIdeal := by
  intro m g _; hlo_run <;> first | exact sem_eq_zero_of_no_sems (by decide) _ | (intro c; simp)

/-- The reference runs, keeps its arguments and leaves no semaphore raised. -/
theorem ref5 : Cert.quiescent_FinalPRefIdeal := by
  intro m g _; hlo_run <;> first | exact sem_eq_zero_of_no_sems (by decide) _ | (intro c; simp)

/-- The reference runs, keeps its arguments and leaves no semaphore raised. -/
theorem ref6 : Cert.quiescent_FinalSRefIdeal := by
  intro m g _; hlo_run <;> first | exact sem_eq_zero_of_no_sems (by decide) _ | (intro c; simp)

/-- The reference runs, keeps its arguments and leaves no semaphore raised. -/
theorem ref7 : Cert.quiescent_FinishPRefIdeal := by
  intro m g _; hlo_run <;> first | exact sem_eq_zero_of_no_sems (by decide) _ | (intro c; simp)

/-- The reference runs, keeps its arguments and leaves no semaphore raised. -/
theorem ref8 : Cert.quiescent_FinishSRefIdeal := by
  intro m g _; hlo_run <;> first | exact sem_eq_zero_of_no_sems (by decide) _ | (intro c; simp)

theorem claim : Cert.Claim := ⟨Cert.Moe.Gen.facts, Cert.MoeIdeal.Gen.facts, Cert.MoeRefIdeal.Gen.facts, Cert.ProjP.Gen.facts, Cert.ProjPIdeal.Gen.facts, Cert.ProjPRefIdeal.Gen.facts, Cert.ProjS.Gen.facts, Cert.ProjSIdeal.Gen.facts, Cert.ProjSRefIdeal.Gen.facts, Cert.FinalP.Gen.facts, Cert.FinalPIdeal.Gen.facts, Cert.FinalPRefIdeal.Gen.facts, Cert.FinalS.Gen.facts, Cert.FinalSIdeal.Gen.facts, Cert.FinalSRefIdeal.Gen.facts, Cert.FinishP.Gen.facts, Cert.FinishPIdeal.Gen.facts, Cert.FinishPRefIdeal.Gen.facts, Cert.FinishS.Gen.facts, Cert.FinishSIdeal.Gen.facts, Cert.FinishSRefIdeal.Gen.facts, Cert.AttnS.Gen.facts, Cert.AttnSIdeal.Gen.facts, Cert.AttnSRefIdeal.Gen.facts, Cert.Pre_experts_in_range.Gen.facts, Cert.Pre_finite_sample.Gen.facts,
  fun m ρ h => Cert.Moe.Routed.frame m ρ (Cert.Moe.Routed.ok_of_pre m h),
  fun m ρ h => Cert.MoeIdeal.Routed.frame m ρ (Cert.MoeIdeal.Routed.ok_of_pre m h),
  ref1,
  ref2,
  fun m ρ _ => Cert.ProjP.Gen.frame m ρ,
  fun m ρ _ => Cert.ProjPIdeal.Gen.frame m ρ,
  ref3,
  fun m ρ _ => Cert.ProjS.Gen.frame m ρ,
  fun m ρ _ => Cert.ProjSIdeal.Gen.frame m ρ,
  ref4,
  fun m ρ _ => Cert.FinalP.Gen.frame m ρ,
  fun m ρ _ => Cert.FinalPIdeal.Gen.frame m ρ,
  ref5,
  fun m ρ _ => Cert.FinalS.Gen.frame m ρ,
  fun m ρ _ => Cert.FinalSIdeal.Gen.frame m ρ,
  ref6,
  fun m ρ _ => Cert.FinishP.Gen.frame m ρ,
  fun m ρ _ => Cert.FinishPIdeal.Gen.frame m ρ,
  ref7,
  fun m ρ _ => Cert.FinishS.Gen.frame m ρ,
  fun m ρ _ => Cert.FinishSIdeal.Gen.frame m ρ,
  ref8,
  fun m ρ _ => Cert.AttnS.Gen.frame m ρ,
  fun m ρ _ => Cert.AttnSIdeal.Gen.frame m ρ,
  fun m ρ _ => Cert.AttnSIdeal.Gen.frame m ρ,
  ref9,
  ref10,
  trivial, moe, trivial, projP, trivial, projS, trivial, finalP, trivial, finalS, trivial, finishP, trivial, finishS,
  IdealRules.named_const.statement Cert.AttnSIdeal.κ "mask" .f32 0xF149F2CA#32 ⊥ rfl, Cert.AttnSIdeal.Pair.attnS⟩

end Cert.Proof

end
